-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_bwd_finite [hPre_in_bwd_finite : Cert.Pre_in_bwd_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_bwd_finite [hPre_in_bwd_finite : Cert.Pre_in_bwd_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdIdeal_mixer_fwd_finite [hPre_mixer_fwd_finite : Cert.Pre_mixer_fwd_finite.Facts] (m : (ℓ : Loc Cert.MixerFwdIdeal.nD Cert.MixerFwdIdeal.τ Cert.MixerFwdIdeal.sig) → Buf (Elt Ideal) ℓ) : Prop :=
  ∀ c : Dev Cert.MixerFwdIdeal.nD,
    (Cert.Pre_mixer_fwd_finite.fn (F := Ideal) (m ((c.tc : Thread Cert.MixerFwdIdeal.nD Cert.MixerFwdIdeal.τ).loc Cert.MixerFwdIdeal.main_arg0)) (m ((c.tc : Thread Cert.MixerFwdIdeal.nD Cert.MixerFwdIdeal.τ).loc Cert.MixerFwdIdeal.main_arg1)) (m ((c.tc : Thread Cert.MixerFwdIdeal.nD Cert.MixerFwdIdeal.τ).loc Cert.MixerFwdIdeal.main_arg2)) (m ((c.tc : Thread Cert.MixerFwdIdeal.nD Cert.MixerFwdIdeal.τ).loc Cert.MixerFwdIdeal.main_arg3)) (m ((c.tc : Thread Cert.MixerFwdIdeal.nD Cert.MixerFwdIdeal.τ).loc Cert.MixerFwdIdeal.main_arg4)) (m ((c.tc : Thread Cert.MixerFwdIdeal.nD Cert.MixerFwdIdeal.τ).loc Cert.MixerFwdIdeal.main_arg5))) = (fun _ => 1#1)

def Pre_MixerFwdRefIdeal (m : (ℓ : Loc Cert.MixerFwdRefIdeal.nD Cert.MixerFwdRefIdeal.τ Cert.MixerFwdRefIdeal.sig) → Buf (Elt Ideal) ℓ) : Prop :=
  True

def Pre_MixerFwdRefIdeal_mixer_fwd_finite [hPre_mixer_fwd_finite : Cert.Pre_mixer_fwd_finite.Facts] (m : (ℓ : Loc Cert.MixerFwdRefIdeal.nD Cert.MixerFwdRefIdeal.τ Cert.MixerFwdRefIdeal.sig) → Buf (Elt Ideal) ℓ) : Prop :=
  ∀ c : Dev Cert.MixerFwdRefIdeal.nD,
    (Cert.Pre_mixer_fwd_finite.fn (F := Ideal) (m ((c.tc : Thread Cert.MixerFwdRefIdeal.nD Cert.MixerFwdRefIdeal.τ).loc Cert.MixerFwdRefIdeal.main_arg0)) (m ((c.tc : Thread Cert.MixerFwdRefIdeal.nD Cert.MixerFwdRefIdeal.τ).loc Cert.MixerFwdRefIdeal.main_arg1)) (m ((c.tc : Thread Cert.MixerFwdRefIdeal.nD Cert.MixerFwdRefIdeal.τ).loc Cert.MixerFwdRefIdeal.main_arg2)) (m ((c.tc : Thread Cert.MixerFwdRefIdeal.nD Cert.MixerFwdRefIdeal.τ).loc Cert.MixerFwdRefIdeal.main_arg3)) (m ((c.tc : Thread Cert.MixerFwdRefIdeal.nD Cert.MixerFwdRefIdeal.τ).loc Cert.MixerFwdRefIdeal.main_arg4)) (m ((c.tc : Thread Cert.MixerFwdRefIdeal.nD Cert.MixerFwdRefIdeal.τ).loc Cert.MixerFwdRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnBwdUp (m : (ℓ : Loc Cert.FfnBwdUp.nD Cert.FfnBwdUp.τ Cert.FfnBwdUp.sig) → Buf (Elt Bits) ℓ) : Prop :=
  True

def Pre_FfnBwdUpIdeal (m : (ℓ : Loc Cert.FfnBwdUpIdeal.nD Cert.FfnBwdUpIdeal.τ Cert.FfnBwdUpIdeal.sig) → Buf (Elt Ideal) ℓ) : Prop :=
  True

def Pre_FfnBwdUpRefIdeal (m : (ℓ : Loc Cert.FfnBwdUpRefIdeal.nD Cert.FfnBwdUpRefIdeal.τ Cert.FfnBwdUpRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_bwd_finite [hInBwdIdeal : Cert.InBwdIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_bwd_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_in_bwd_finite [hInBwdRefIdeal : Cert.InBwdRefIdeal.Facts] [hPre_in_bwd_finite : Cert.Pre_in_bwd_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_bwd_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5))
      ∧ r.2.sem = fun _ => 0)

def quiescent_MixerFwdIdeal_pre_mixer_fwd_finite [hMixerFwdIdeal : Cert.MixerFwdIdeal.Facts] [hPre_mixer_fwd_finite : Cert.Pre_mixer_fwd_finite.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal_mixer_fwd_finite m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5))
      ∧ r.2.sem = fun _ => 0)

def quiescent_MixerFwdRefIdeal_pre_mixer_fwd_finite [hMixerFwdRefIdeal : Cert.MixerFwdRefIdeal.Facts] [hPre_mixer_fwd_finite : Cert.Pre_mixer_fwd_finite.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal_mixer_fwd_finite m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnBwdUp [hFfnBwdUp : Cert.FfnBwdUp.Facts] : Prop :=
  ∀ (m : (ℓ : Loc Cert.FfnBwdUp.nD Cert.FfnBwdUp.τ Cert.FfnBwdUp.sig) → Buf (Elt Bits) ℓ) (g : Dev Cert.FfnBwdUp.nD → PrngReg), Pre_FfnBwdUp m →
    θ_run (Cert.FfnBwdUp.defs (F := Bits)) (onTc (τ := Cert.FfnBwdUp.τ) (Cert.FfnBwdUp.main (F := Bits))) ⟨m, fun _ => 0, g⟩ (fun r => (∀ c : Dev Cert.FfnBwdUp.nD,
      r.2.mem ((c.tc : Thread Cert.FfnBwdUp.nD Cert.FfnBwdUp.τ).loc Cert.FfnBwdUp.main_arg0) = m ((c.tc : Thread Cert.FfnBwdUp.nD Cert.FfnBwdUp.τ).loc Cert.FfnBwdUp.main_arg0)
      ∧ r.2.mem ((c.tc : Thread Cert.FfnBwdUp.nD Cert.FfnBwdUp.τ).loc Cert.FfnBwdUp.main_arg1) = m ((c.tc : Thread Cert.FfnBwdUp.nD Cert.FfnBwdUp.τ).loc Cert.FfnBwdUp.main_arg1))
      ∧ r.2.sem = fun _ => 0)

def quiescent_FfnBwdUpIdeal [hFfnBwdUpIdeal : Cert.FfnBwdUpIdeal.Facts] : Prop :=
  ∀ (m : (ℓ : Loc Cert.FfnBwdUpIdeal.nD Cert.FfnBwdUpIdeal.τ Cert.FfnBwdUpIdeal.sig) → Buf (Elt Ideal) ℓ) (g : Dev Cert.FfnBwdUpIdeal.nD → PrngReg), Pre_FfnBwdUpIdeal m →
    θ_run (Cert.FfnBwdUpIdeal.defs (F := Ideal)) (onTc (τ := Cert.FfnBwdUpIdeal.τ) (Cert.FfnBwdUpIdeal.main (F := Ideal))) ⟨m, fun _ => 0, g⟩ (fun r => (∀ c : Dev Cert.FfnBwdUpIdeal.nD,
      r.2.mem ((c.tc : Thread Cert.FfnBwdUpIdeal.nD Cert.FfnBwdUpIdeal.τ).loc Cert.FfnBwdUpIdeal.main_arg0) = m ((c.tc : Thread Cert.FfnBwdUpIdeal.nD Cert.FfnBwdUpIdeal.τ).loc Cert.FfnBwdUpIdeal.main_arg0)
      ∧ r.2.mem ((c.tc : Thread Cert.FfnBwdUpIdeal.nD Cert.FfnBwdUpIdeal.τ).loc Cert.FfnBwdUpIdeal.main_arg1) = m ((c.tc : Thread Cert.FfnBwdUpIdeal.nD Cert.FfnBwdUpIdeal.τ).loc Cert.FfnBwdUpIdeal.main_arg1))
      ∧ r.2.sem = fun _ => 0)

def quiescent_FfnBwdUpRefIdeal [hFfnBwdUpRefIdeal : Cert.FfnBwdUpRefIdeal.Facts] : Prop :=
  ∀ (m : (ℓ : Loc Cert.FfnBwdUpRefIdeal.nD Cert.FfnBwdUpRefIdeal.τ Cert.FfnBwdUpRefIdeal.sig) → Buf (Elt Ideal) ℓ) (g : Dev Cert.FfnBwdUpRefIdeal.nD → PrngReg), Pre_FfnBwdUpRefIdeal m →
    θ_run (Cert.FfnBwdUpRefIdeal.defs (F := Ideal)) (onTc (τ := Cert.FfnBwdUpRefIdeal.τ) (Cert.FfnBwdUpRefIdeal.main (F := Ideal))) ⟨m, fun _ => 0, g⟩ (fun r => (∀ c : Dev Cert.FfnBwdUpRefIdeal.nD,
      r.2.mem ((c.tc : Thread Cert.FfnBwdUpRefIdeal.nD Cert.FfnBwdUpRefIdeal.τ).loc Cert.FfnBwdUpRefIdeal.main_arg0) = m ((c.tc : Thread Cert.FfnBwdUpRefIdeal.nD Cert.FfnBwdUpRefIdeal.τ).loc Cert.FfnBwdUpRefIdeal.main_arg0)
      ∧ r.2.mem ((c.tc : Thread Cert.FfnBwdUpRefIdeal.nD Cert.FfnBwdUpRefIdeal.τ).loc Cert.FfnBwdUpRefIdeal.main_arg1) = m ((c.tc : Thread Cert.FfnBwdUpRefIdeal.nD Cert.FfnBwdUpRefIdeal.τ).loc Cert.FfnBwdUpRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7))
      ∧ r.2.sem = fun _ => 0)

def preserves_InBwd_InBwdIdeal : Prop :=
  True

def algebraic_InBwdIdeal_InBwdRefIdeal_pre_in_bwd_finite [hInBwdIdeal : Cert.InBwdIdeal.Facts] [hInBwdRefIdeal : Cert.InBwdRefIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_bwd_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v36) = v0 c
          ∧ r.2.mem ((c.tc : Thread Cert.InBwdRefIdeal.nD Cert.InBwdRefIdeal.τ).loc Cert.InBwdRefIdeal.main_v19) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)) (v2 : (c : Dev Cert.TailIdeal.nD) → Buf (Elt Ideal) ((c.tc : Thread Cert.TailIdeal.nD Cert.TailIdeal.τ).loc Cert.TailIdeal.main_v5_2)) (v3 : (c : Dev Cert.TailIdeal.nD) → Buf (Elt Ideal) ((c.tc : Thread Cert.TailIdeal.nD Cert.TailIdeal.τ).loc Cert.TailIdeal.main_v5_3)) (v4 : (c : Dev Cert.TailIdeal.nD) → Buf (Elt Ideal) ((c.tc : Thread Cert.TailIdeal.nD Cert.TailIdeal.τ).loc Cert.TailIdeal.main_v5_4)) (v5 : (c : Dev Cert.TailIdeal.nD) → Buf (Elt Ideal) ((c.tc : Thread Cert.TailIdeal.nD Cert.TailIdeal.τ).loc Cert.TailIdeal.main_v5_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_v5_2) = v2 c
          ∧ r.2.mem ((c.tc : Thread Cert.TailIdeal.nD Cert.TailIdeal.τ).loc Cert.TailIdeal.main_v5_3) = v3 c
          ∧ r.2.mem ((c.tc : Thread Cert.TailIdeal.nD Cert.TailIdeal.τ).loc Cert.TailIdeal.main_v5_4) = v4 c
          ∧ r.2.mem ((c.tc : Thread Cert.TailIdeal.nD Cert.TailIdeal.τ).loc Cert.TailIdeal.main_v5_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v72) = v0 c
          ∧ r.2.mem ((c.tc : Thread Cert.TailRefIdeal.nD Cert.TailRefIdeal.τ).loc Cert.TailRefIdeal.main_v70) = v1 c
          ∧ r.2.mem ((c.tc : Thread Cert.TailRefIdeal.nD Cert.TailRefIdeal.τ).loc Cert.TailRefIdeal.main_v74) = v2 c
          ∧ r.2.mem ((c.tc : Thread Cert.TailRefIdeal.nD Cert.TailRefIdeal.τ).loc Cert.TailRefIdeal.main_v75) = v3 c
          ∧ r.2.mem ((c.tc : Thread Cert.TailRefIdeal.nD Cert.TailRefIdeal.τ).loc Cert.TailRefIdeal.main_v77) = v4 c
          ∧ r.2.mem ((c.tc : Thread Cert.TailRefIdeal.nD Cert.TailRefIdeal.τ).loc Cert.TailRefIdeal.main_v78) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v9_0)) (v1 : (c : Dev Cert.FfnDownIdeal.nD) → Buf (Elt Ideal) ((c.tc : Thread Cert.FfnDownIdeal.nD Cert.FfnDownIdeal.τ).loc Cert.FfnDownIdeal.main_v9_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v9_0) = v0 c
          ∧ r.2.mem ((c.tc : Thread Cert.FfnDownIdeal.nD Cert.FfnDownIdeal.τ).loc Cert.FfnDownIdeal.main_v9_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v15) = v0 c
          ∧ r.2.mem ((c.tc : Thread Cert.FfnDownRefIdeal.nD Cert.FfnDownRefIdeal.τ).loc Cert.FfnDownRefIdeal.main_v16) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)) (v2 : (c : Dev Cert.FfnInIdeal.nD) → Buf (Elt Ideal) ((c.tc : Thread Cert.FfnInIdeal.nD Cert.FfnInIdeal.τ).loc Cert.FfnInIdeal.main_v8_2)) (v3 : (c : Dev Cert.FfnInIdeal.nD) → Buf (Elt Ideal) ((c.tc : Thread Cert.FfnInIdeal.nD Cert.FfnInIdeal.τ).loc Cert.FfnInIdeal.main_v8_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_v8_2) = v2 c
          ∧ r.2.mem ((c.tc : Thread Cert.FfnInIdeal.nD Cert.FfnInIdeal.τ).loc Cert.FfnInIdeal.main_v8_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v38) = v0 c
          ∧ r.2.mem ((c.tc : Thread Cert.FfnInRefIdeal.nD Cert.FfnInRefIdeal.τ).loc Cert.FfnInRefIdeal.main_v42) = v1 c
          ∧ r.2.mem ((c.tc : Thread Cert.FfnInRefIdeal.nD Cert.FfnInRefIdeal.τ).loc Cert.FfnInRefIdeal.main_v41) = v2 c
          ∧ r.2.mem ((c.tc : Thread Cert.FfnInRefIdeal.nD Cert.FfnInRefIdeal.τ).loc Cert.FfnInRefIdeal.main_v21) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_MixerFwd_MixerFwdIdeal : Prop :=
  IdealRules.named_const.Statement Cert.MixerFwdIdeal.κ "masked" .f32 0xF149F2CA#32 ⊥

def algebraic_MixerFwdIdeal_MixerFwdRefIdeal_pre_mixer_fwd_finite [hMixerFwdIdeal : Cert.MixerFwdIdeal.Facts] [hMixerFwdRefIdeal : Cert.MixerFwdRefIdeal.Facts] [hPre_mixer_fwd_finite : Cert.Pre_mixer_fwd_finite.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal_mixer_fwd_finite m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)) →
    ∃ (v0 : (c : Dev Cert.MixerFwdIdeal.nD) → Buf (Elt Ideal) ((c.tc : Thread Cert.MixerFwdIdeal.nD Cert.MixerFwdIdeal.τ).loc Cert.MixerFwdIdeal.main_v33_0)) (v1 : (c : Dev Cert.MixerFwdIdeal.nD) → Buf (Elt Ideal) ((c.tc : Thread Cert.MixerFwdIdeal.nD Cert.MixerFwdIdeal.τ).loc Cert.MixerFwdIdeal.main_v33_1)) (v2 : (c : Dev Cert.MixerFwdIdeal.nD) → Buf (Elt Ideal) ((c.tc : Thread Cert.MixerFwdIdeal.nD Cert.MixerFwdIdeal.τ).loc Cert.MixerFwdIdeal.main_v33_2)) (v3 : (c : Dev Cert.MixerFwdIdeal.nD) → Buf (Elt Ideal) ((c.tc : Thread Cert.MixerFwdIdeal.nD Cert.MixerFwdIdeal.τ).loc Cert.MixerFwdIdeal.main_v33_3)) (v4 : (c : Dev Cert.MixerFwdIdeal.nD) → Buf (Elt Ideal) ((c.tc : Thread Cert.MixerFwdIdeal.nD Cert.MixerFwdIdeal.τ).loc Cert.MixerFwdIdeal.main_v33_4)) (v5 : (c : Dev Cert.MixerFwdIdeal.nD) → Buf (Elt Ideal) ((c.tc : Thread Cert.MixerFwdIdeal.nD Cert.MixerFwdIdeal.τ).loc Cert.MixerFwdIdeal.main_v33_5)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v33_0) = v0 c
          ∧ r.2.mem ((c.tc : Thread Cert.MixerFwdIdeal.nD Cert.MixerFwdIdeal.τ).loc Cert.MixerFwdIdeal.main_v33_1) = v1 c
          ∧ r.2.mem ((c.tc : Thread Cert.MixerFwdIdeal.nD Cert.MixerFwdIdeal.τ).loc Cert.MixerFwdIdeal.main_v33_2) = v2 c
          ∧ r.2.mem ((c.tc : Thread Cert.MixerFwdIdeal.nD Cert.MixerFwdIdeal.τ).loc Cert.MixerFwdIdeal.main_v33_3) = v3 c
          ∧ r.2.mem ((c.tc : Thread Cert.MixerFwdIdeal.nD Cert.MixerFwdIdeal.τ).loc Cert.MixerFwdIdeal.main_v33_4) = v4 c
          ∧ r.2.mem ((c.tc : Thread Cert.MixerFwdIdeal.nD Cert.MixerFwdIdeal.τ).loc Cert.MixerFwdIdeal.main_v33_5) = v5 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v189) = v0 c
          ∧ r.2.mem ((c.tc : Thread Cert.MixerFwdRefIdeal.nD Cert.MixerFwdRefIdeal.τ).loc Cert.MixerFwdRefIdeal.main_v190) = v1 c
          ∧ r.2.mem ((c.tc : Thread Cert.MixerFwdRefIdeal.nD Cert.MixerFwdRefIdeal.τ).loc Cert.MixerFwdRefIdeal.main_v192) = v2 c
          ∧ r.2.mem ((c.tc : Thread Cert.MixerFwdRefIdeal.nD Cert.MixerFwdRefIdeal.τ).loc Cert.MixerFwdRefIdeal.main_v193) = v3 c
          ∧ r.2.mem ((c.tc : Thread Cert.MixerFwdRefIdeal.nD Cert.MixerFwdRefIdeal.τ).loc Cert.MixerFwdRefIdeal.main_v194) = v4 c
          ∧ r.2.mem ((c.tc : Thread Cert.MixerFwdRefIdeal.nD Cert.MixerFwdRefIdeal.τ).loc Cert.MixerFwdRefIdeal.main_v195) = v5 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_v13) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v14) = v1 c
          ∧ r.2.mem ((c.tc : Thread Cert.OutProjRefIdeal.nD Cert.OutProjRefIdeal.τ).loc Cert.OutProjRefIdeal.main_v16) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_v4) = v1 c
          ∧ r.2.mem ((c.tc : Thread Cert.FfnUpRefIdeal.nD Cert.FfnUpRefIdeal.τ).loc Cert.FfnUpRefIdeal.main_v6) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnBwdUp_FfnBwdUpIdeal : Prop :=
  True

def algebraic_FfnBwdUpIdeal_FfnBwdUpRefIdeal [hFfnBwdUpIdeal : Cert.FfnBwdUpIdeal.Facts] [hFfnBwdUpRefIdeal : Cert.FfnBwdUpRefIdeal.Facts] : Prop :=
  ∀ (m : (ℓ : Loc Cert.FfnBwdUpIdeal.nD Cert.FfnBwdUpIdeal.τ Cert.FfnBwdUpIdeal.sig) → Buf (Elt Ideal) ℓ) (g : Dev Cert.FfnBwdUpIdeal.nD → PrngReg)
    (m' : (ℓ : Loc Cert.FfnBwdUpRefIdeal.nD Cert.FfnBwdUpRefIdeal.τ Cert.FfnBwdUpRefIdeal.sig) → Buf (Elt Ideal) ℓ) (g' : Dev Cert.FfnBwdUpRefIdeal.nD → PrngReg), Pre_FfnBwdUpIdeal m →
    (∀ c : Dev Cert.FfnBwdUpIdeal.nD,
      m' ((c.tc : Thread Cert.FfnBwdUpRefIdeal.nD Cert.FfnBwdUpRefIdeal.τ).loc Cert.FfnBwdUpRefIdeal.main_arg0) = m ((c.tc : Thread Cert.FfnBwdUpIdeal.nD Cert.FfnBwdUpIdeal.τ).loc Cert.FfnBwdUpIdeal.main_arg0)
      ∧ m' ((c.tc : Thread Cert.FfnBwdUpRefIdeal.nD Cert.FfnBwdUpRefIdeal.τ).loc Cert.FfnBwdUpRefIdeal.main_arg1) = m ((c.tc : Thread Cert.FfnBwdUpIdeal.nD Cert.FfnBwdUpIdeal.τ).loc Cert.FfnBwdUpIdeal.main_arg1)) →
    ∃ (v0 : (c : Dev Cert.FfnBwdUpIdeal.nD) → Buf (Elt Ideal) ((c.tc : Thread Cert.FfnBwdUpIdeal.nD Cert.FfnBwdUpIdeal.τ).loc Cert.FfnBwdUpIdeal.main_v3)),
      θ_run (Cert.FfnBwdUpIdeal.defs (F := Ideal)) (onTc (τ := Cert.FfnBwdUpIdeal.τ) (Cert.FfnBwdUpIdeal.main (F := Ideal))) ⟨m, fun _ => 0, g⟩ (fun r => ∀ c : Dev Cert.FfnBwdUpIdeal.nD,
          r.2.mem ((c.tc : Thread Cert.FfnBwdUpIdeal.nD Cert.FfnBwdUpIdeal.τ).loc Cert.FfnBwdUpIdeal.main_v3) = v0 c
          ∧ r.2.mem ((c.tc : Thread Cert.FfnBwdUpIdeal.nD Cert.FfnBwdUpIdeal.τ).loc Cert.FfnBwdUpIdeal.main_arg0) = m ((c.tc : Thread Cert.FfnBwdUpIdeal.nD Cert.FfnBwdUpIdeal.τ).loc Cert.FfnBwdUpIdeal.main_arg0)
          ∧ r.2.mem ((c.tc : Thread Cert.FfnBwdUpIdeal.nD Cert.FfnBwdUpIdeal.τ).loc Cert.FfnBwdUpIdeal.main_arg1) = m ((c.tc : Thread Cert.FfnBwdUpIdeal.nD Cert.FfnBwdUpIdeal.τ).loc Cert.FfnBwdUpIdeal.main_arg1))
      ∧ θ_run (Cert.FfnBwdUpRefIdeal.defs (F := Ideal)) (onTc (τ := Cert.FfnBwdUpRefIdeal.τ) (Cert.FfnBwdUpRefIdeal.main (F := Ideal))) ⟨m', fun _ => 0, g'⟩ (fun r => ∀ c : Dev Cert.FfnBwdUpRefIdeal.nD,
          r.2.mem ((c.tc : Thread Cert.FfnBwdUpRefIdeal.nD Cert.FfnBwdUpRefIdeal.τ).loc Cert.FfnBwdUpRefIdeal.main_v5) = v0 c
          ∧ r.2.mem ((c.tc : Thread Cert.FfnBwdUpRefIdeal.nD Cert.FfnBwdUpRefIdeal.τ).loc Cert.FfnBwdUpRefIdeal.main_arg0) = m' ((c.tc : Thread Cert.FfnBwdUpRefIdeal.nD Cert.FfnBwdUpRefIdeal.τ).loc Cert.FfnBwdUpRefIdeal.main_arg0)
          ∧ r.2.mem ((c.tc : Thread Cert.FfnBwdUpRefIdeal.nD Cert.FfnBwdUpRefIdeal.τ).loc Cert.FfnBwdUpRefIdeal.main_arg1) = m' ((c.tc : Thread Cert.FfnBwdUpRefIdeal.nD Cert.FfnBwdUpRefIdeal.τ).loc Cert.FfnBwdUpRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg1) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_MixerBwd_MixerBwdIdeal : Prop :=
  True

def Claim : Prop :=
  ∃ (hInBwd : Cert.InBwd.Facts) (hInBwdIdeal : Cert.InBwdIdeal.Facts) (hInBwdRefIdeal : Cert.InBwdRefIdeal.Facts) (hTail : Cert.Tail.Facts) (hTailIdeal : Cert.TailIdeal.Facts) (hTailRefIdeal : Cert.TailRefIdeal.Facts) (hFfnDown : Cert.FfnDown.Facts) (hFfnDownIdeal : Cert.FfnDownIdeal.Facts) (hFfnDownRefIdeal : Cert.FfnDownRefIdeal.Facts) (hFfnIn : Cert.FfnIn.Facts) (hFfnInIdeal : Cert.FfnInIdeal.Facts) (hFfnInRefIdeal : Cert.FfnInRefIdeal.Facts) (hMixerFwd : Cert.MixerFwd.Facts) (hMixerFwdIdeal : Cert.MixerFwdIdeal.Facts) (hMixerFwdRefIdeal : Cert.MixerFwdRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnOut : Cert.FfnOut.Facts) (hFfnOutIdeal : Cert.FfnOutIdeal.Facts) (hFfnOutRefIdeal : Cert.FfnOutRefIdeal.Facts) (hFfnBwdUp : Cert.FfnBwdUp.Facts) (hFfnBwdUpIdeal : Cert.FfnBwdUpIdeal.Facts) (hFfnBwdUpRefIdeal : Cert.FfnBwdUpRefIdeal.Facts) (hAdamW : Cert.AdamW.Facts) (hAdamWIdeal : Cert.AdamWIdeal.Facts) (hAdamWRefIdeal : Cert.AdamWRefIdeal.Facts) (hMixerBwd : Cert.MixerBwd.Facts) (hMixerBwdIdeal : Cert.MixerBwdIdeal.Facts) (hPre_in_bwd_finite : Cert.Pre_in_bwd_finite.Facts) (hPre_tail_finite : Cert.Pre_tail_finite.Facts) (hPre_ffn_in_finite : Cert.Pre_ffn_in_finite.Facts) (hPre_mixer_fwd_finite : Cert.Pre_mixer_fwd_finite.Facts),
    quiescent_InBwd (hInBwd := hInBwd)
    ∧ quiescent_InBwdIdeal (hInBwdIdeal := hInBwdIdeal)
    ∧ quiescent_InBwdIdeal_pre_in_bwd_finite (hInBwdIdeal := hInBwdIdeal) (hPre_in_bwd_finite := hPre_in_bwd_finite)
    ∧ quiescent_InBwdRefIdeal (hInBwdRefIdeal := hInBwdRefIdeal)
    ∧ quiescent_InBwdRefIdeal_pre_in_bwd_finite (hInBwdRefIdeal := hInBwdRefIdeal) (hPre_in_bwd_finite := hPre_in_bwd_finite)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_MixerFwd (hMixerFwd := hMixerFwd)
    ∧ quiescent_MixerFwdIdeal (hMixerFwdIdeal := hMixerFwdIdeal)
    ∧ quiescent_MixerFwdIdeal_pre_mixer_fwd_finite (hMixerFwdIdeal := hMixerFwdIdeal) (hPre_mixer_fwd_finite := hPre_mixer_fwd_finite)
    ∧ quiescent_MixerFwdRefIdeal (hMixerFwdRefIdeal := hMixerFwdRefIdeal)
    ∧ quiescent_MixerFwdRefIdeal_pre_mixer_fwd_finite (hMixerFwdRefIdeal := hMixerFwdRefIdeal) (hPre_mixer_fwd_finite := hPre_mixer_fwd_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnBwdUp (hFfnBwdUp := hFfnBwdUp)
    ∧ quiescent_FfnBwdUpIdeal (hFfnBwdUpIdeal := hFfnBwdUpIdeal)
    ∧ quiescent_FfnBwdUpRefIdeal (hFfnBwdUpRefIdeal := hFfnBwdUpRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_MixerBwd (hMixerBwd := hMixerBwd)
    ∧ quiescent_MixerBwdIdeal (hMixerBwdIdeal := hMixerBwdIdeal)
    ∧ preserves_InBwd_InBwdIdeal
    ∧ algebraic_InBwdIdeal_InBwdRefIdeal_pre_in_bwd_finite (hInBwdIdeal := hInBwdIdeal) (hInBwdRefIdeal := hInBwdRefIdeal) (hPre_in_bwd_finite := hPre_in_bwd_finite)
    ∧ preserves_Tail_TailIdeal
    ∧ algebraic_TailIdeal_TailRefIdeal_pre_tail_finite (hTailIdeal := hTailIdeal) (hTailRefIdeal := hTailRefIdeal) (hPre_tail_finite := hPre_tail_finite)
    ∧ preserves_FfnDown_FfnDownIdeal
    ∧ algebraic_FfnDownIdeal_FfnDownRefIdeal (hFfnDownIdeal := hFfnDownIdeal) (hFfnDownRefIdeal := hFfnDownRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_MixerFwd_MixerFwdIdeal
    ∧ algebraic_MixerFwdIdeal_MixerFwdRefIdeal_pre_mixer_fwd_finite (hMixerFwdIdeal := hMixerFwdIdeal) (hMixerFwdRefIdeal := hMixerFwdRefIdeal) (hPre_mixer_fwd_finite := hPre_mixer_fwd_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnBwdUp_FfnBwdUpIdeal
    ∧ algebraic_FfnBwdUpIdeal_FfnBwdUpRefIdeal (hFfnBwdUpIdeal := hFfnBwdUpIdeal) (hFfnBwdUpRefIdeal := hFfnBwdUpRefIdeal)
    ∧ preserves_AdamW_AdamWIdeal
    ∧ algebraic_AdamWIdeal_AdamWRefIdeal (hAdamWIdeal := hAdamWIdeal) (hAdamWRefIdeal := hAdamWRefIdeal)
    ∧ preserves_MixerBwd_MixerBwdIdeal
-- ==== Pre_ffn_in_finite.lean ====
abbrev S2048x4096 : Shape := ⟨2, ![2048, 4096]⟩
abbrev S2048x1024 : Shape := ⟨2, ![2048, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg5 : FVec F S1x1024 .f32) (main_arg6 : FVec F S1024x4096 .f32) (main_v3 : IVec S_ 1) (main_v7 : IVec S_ 1) (main_v11 : IVec S_ 1) (main_v15 : IVec S_ 1) : IVec S_ 1 :=
  let main_v16 : FVec F S1x1024 .f32 := Host.absf main_arg5
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024x4096 .f32 := Host.absf main_arg6
  let main_cst_8 : FVec F S_ .f32 := constant S_ .f32 0x7F800000#32
  let main_v21 : FVec F S1024x4096 .f32 := broadcastInDim S1024x4096 ![] bcast_S_S1024x4096 main_cst_8
  let main_v22 : IVec S1024x4096 1 := cmpf .olt main_v20 main_v21
  let main_c_9 : IVec S_ 1 := constantI S_ 1 1#1
  let main_v23 : IVec S_ 1 := (fun x v => Host.reduce IntOp.andi x v reducesTo_S1024x4096_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x4096 .f32) (main_arg1 : FVec F S2048x1024 .f32) (main_arg2 : FVec F S2048x1024 .f32) (main_arg3 : FVec F S2048x1024 .f32) (main_arg4 : FVec F S1024x1024 .f32) (main_arg5 : FVec F S1x1024 .f32) (main_arg6 : FVec F S1024x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg3
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1024x1024 .f32 := Host.absf main_arg4
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg5 main_arg6 main_v3 main_v7 main_v11 main_v15
-- ==== Pre_in_bwd_finite.lean ====
abbrev S2048x1024 : Shape := ⟨2, ![2048, 1024]⟩
abbrev S1x1024 : Shape := ⟨2, ![1, 1024]⟩
abbrev S1024x1792 : Shape := ⟨2, ![1024, 1792]⟩
abbrev S2048x1792 : Shape := ⟨2, ![2048, 1792]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1792 : S_.BroadcastsInDim S1024x1792 (![] : Fin 0 → Fin S1024x1792.rank)
  reducesTo_S1024x1792_S_d0_1 : S1024x1792.ReducesTo [0, 1] S_
  bcast_S_S2048x1792 : S_.BroadcastsInDim S2048x1792 (![] : Fin 0 → Fin S2048x1792.rank)
  reducesTo_S2048x1792_S_d0_1 : S2048x1792.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S1x1024 .f32) (main_arg2 : FVec F S1024x1792 .f32) (main_arg3 : FVec F S2048x1792 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x1792 .f32 := Host.absf main_arg2
  let main_cst_2 : FVec F S_ .f32 := constant S_ .f32 0x7F800000#32
  let main_v9 : FVec F S1024x1792 .f32 := broadcastInDim S1024x1792 ![] bcast_S_S1024x1792 main_cst_2
  let main_v10 : IVec S1024x1792 1 := cmpf .olt main_v8 main_v9
  let main_c_3 : IVec S_ 1 := constantI S_ 1 1#1
  let main_v11 : IVec S_ 1 := (fun x v => Host.reduce IntOp.andi x v reducesTo_S1024x1792_S_d0_1 h_S_) main_v10 main_c_3
  let main_v12 : FVec F S2048x1792 .f32 := Host.absf main_arg3
  let main_cst_4 : FVec F S_ .f32 := constant S_ .f32 0x7F800000#32
  let main_v13 : FVec F S2048x1792 .f32 := broadcastInDim S2048x1792 ![] bcast_S_S2048x1792 main_cst_4
  let main_v14 : IVec S2048x1792 1 := cmpf .olt main_v12 main_v13
  let main_c_5 : IVec S_ 1 := constantI S_ 1 1#1
  let main_v15 : IVec S_ 1 := (fun x v => Host.reduce IntOp.andi x v reducesTo_S2048x1792_S_d0_1 h_S_) main_v14 main_c_5
  fn_part1 (F := F) main_v3 main_v7 main_v11 main_v15
-- ==== Pre_mixer_fwd_finite.lean ====
abbrev S2048x1792 : Shape := ⟨2, ![2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S_ : Shape := ⟨0, ![]⟩

class Facts : Prop where
  bcast_S_S2048x1792 : S_.BroadcastsInDim S2048x1792 (![] : Fin 0 → Fin S2048x1792.rank)
  reducesTo_S2048x1792_S_d0_1 : S2048x1792.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S2048x1792 .f32) (main_arg1 : FVec F S1x512 .f32) (main_arg2 : FVec F S1x4x128x128 .f32) (main_arg3 : FVec F S1x4x128 .f32) (main_arg4 : FVec F S1x8 .f32) (main_arg5 : FVec F S32x8 .f32) : IVec S_ 1 :=
  let main_v0 : FVec F S2048x1792 .f32 := Host.absf main_arg0
  let main_cst : FVec F S_ .f32 := constant S_ .f32 0x7F800000#32
  let main_v1 : FVec F S2048x1792 .f32 := broadcastInDim S2048x1792 ![] bcast_S_S2048x1792 main_cst
  let main_v2 : IVec S2048x1792 1 := cmpf .olt main_v0 main_v1
  let main_c : IVec S_ 1 := constantI S_ 1 1#1
  let main_v3 : IVec S_ 1 := (fun x v => Host.reduce IntOp.andi x v reducesTo_S2048x1792_S_d0_1 h_S_) main_v2 main_c
  let main_v4 : FVec F S1x8 .f32 := Host.absf main_arg4
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : FVec F S32x8 .f32 := Host.absf main_arg5
  let main_cst_2 : FVec F S_ .f32 := constant S_ .f32 0x7F800000#32
  let main_v9 : FVec F S32x8 .f32 := broadcastInDim S32x8 ![] bcast_S_S32x8 main_cst_2
  let main_v10 : IVec S32x8 1 := cmpf .olt main_v8 main_v9
  let main_c_3 : IVec S_ 1 := constantI S_ 1 1#1
  let main_v11 : IVec S_ 1 := (fun x v => Host.reduce IntOp.andi x v reducesTo_S32x8_S_d0_1 h_S_) main_v10 main_c_3
  let main_v12 : IVec S_ 1 := andi main_v3 main_v7
  let main_v13 : IVec S_ 1 := andi main_v12 main_v11
  main_v13
-- ==== Pre_tail_finite.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x1024 .f32) (main_arg5 : FVec F S1024 .f32) (main_v3 : IVec S_ 1) (main_v7 : IVec S_ 1) (main_v11 : IVec S_ 1) (main_v15 : IVec S_ 1) : IVec S_ 1 :=
  let main_v16 : FVec F S256x1024 .f32 := Host.absf main_arg4
  let main_cst_6 : FVec F S_ .f32 := constant S_ .f32 0x7F800000#32
  let main_v17 : FVec F S256x1024 .f32 := broadcastInDim S256x1024 ![] bcast_S_S256x1024 main_cst_6
  let main_v18 : IVec S256x1024 1 := cmpf .olt main_v16 main_v17
  let main_c_7 : IVec S_ 1 := constantI S_ 1 1#1
  let main_v19 : IVec S_ 1 := (fun x v => Host.reduce IntOp.andi x v reducesTo_S256x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x1024 .f32) (main_arg1 : FVec F S2048x256 .f32) (main_arg2 : FVec F S2048x1024 .f32) (main_arg3 : FVec F S1024x1024 .f32) (main_arg4 : FVec F S256x1024 .f32) (main_arg5 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_v3 main_v7 main_v11 main_v15
-- ==== InBwd.lean ====
abbrev S2048x1024 : Shape := ⟨2, ![2048, 1024]⟩
abbrev S1x1024 : Shape := ⟨2, ![1, 1024]⟩
abbrev S1024x1792 : Shape := ⟨2, ![1024, 1792]⟩
abbrev S2048x1792 : Shape := ⟨2, ![2048, 1792]⟩
abbrev S1792x1024 : Shape := ⟨2, ![1792, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1792, .f32⟩
  | .hbm, ⟨3, _⟩ => ⟨S2048x1792, .f32⟩
  | .hbm, ⟨4, _⟩ => ⟨S2048x1024, .f32⟩
  | .hbm, ⟨5, _⟩ => ⟨S2048x1792, .bf16⟩
  | .hbm, ⟨6, _⟩ => ⟨S1792x1024, .f32⟩
  | .hbm, ⟨7, _⟩ => ⟨S1792x1024, .bf16⟩
  | .hbm, ⟨8, _⟩ => ⟨S2048x1024, .f32⟩
  | .hbm, ⟨9, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_17 : BitVec 32 := 0#32
  let v39 : BitVec 1 := Scalar.cmpi .ne v38 c0_i32_17
  v39

def k0_cond2 (i : grid0.Coords) : BitVec 1 :=
  let arg0 : BitVec 32 := BitVec.ofNat 32 (i 0).val
  let c0_i32_18 : BitVec 32 := 0#32
  let v40 : BitVec 1 := Scalar.cmpi .sgt arg0 c0_i32_18
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S2048x1024 : Shape := ⟨2, ![2048, 1024]⟩
abbrev S1x1024 : Shape := ⟨2, ![1, 1024]⟩
abbrev S1024x1792 : Shape := ⟨2, ![1024, 1792]⟩
abbrev S2048x1792 : Shape := ⟨2, ![2048, 1792]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1792, .f32⟩
  | .hbm, ⟨3, _⟩ => ⟨S2048x1792, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1792, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Tail.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1024 : Shape := ⟨1, ![1024]⟩
abbrev S256x4x256 : Shape := ⟨3, ![256, 4, 256]⟩
abbrev S4x256x256 : Shape := ⟨3, ![4, 256, 256]⟩
abbrev S1x1024 : Shape := ⟨2, ![1, 1024]⟩
abbrev S8x128 : Shape := ⟨2, ![8, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S256x4x256, .f32⟩
  | .hbm, ⟨7, _⟩ => ⟨S4x256x256, .f32⟩
  | .hbm, ⟨8, _⟩ => ⟨S1024x1024, .bf16⟩
  | .hbm, ⟨9, _⟩ => ⟨S4x256x256, .bf16⟩
  | .hbm, ⟨10, _⟩ => ⟨S1x1024, .f32⟩
  | .hbm, ⟨11, _⟩ => ⟨S2048x1024, .f32⟩
  | .hbm, ⟨12, _⟩ => ⟨S1024x1024, .f32⟩
  | .hbm, ⟨13, _⟩ => ⟨S4x256x256, .f32⟩
  | .hbm, ⟨14, _⟩ => ⟨S1x1024, .f32⟩
  | .hbm, ⟨15, _⟩ => ⟨S8x128, .f32⟩
  | .hbm, ⟨16, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S4x256x256, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .f32⟩
  | .local _ .vmem, ⟨12, _⟩ => ⟨S4x256x256, .f32⟩
  | .local _ .vmem, ⟨13, _⟩ => ⟨S1x1024, .f32⟩
  | .local _ .vmem, ⟨14, _⟩ => ⟨S8x128, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_41 : BitVec 32 := 0#32
  let v84 : BitVec 1 := Scalar.cmpi .ne v83 c0_i32_41
  v84

def k0_cond2 (i : grid0.Coords) : BitVec 1 :=
  let arg0 : BitVec 32 := BitVec.ofNat 32 (i 0).val
  let c0_i32_42 : BitVec 32 := 0#32
  let v85 : BitVec 1 := Scalar.cmpi .sgt arg0 c0_i32_42
  let v86 : BitVec 32 := Scalar.extui v85
  let c0_i32_43 : BitVec 32 := 0#32
  let v87 : BitVec 1 := Scalar.cmpi .ne v86 c0_i32_43
  v87

def k0_cond3 (i : grid0.Coords) : BitVec 1 :=
  let arg0 : BitVec 32 := BitVec.ofNat 32 (i 0).val
  let c7_i32 : BitVec 32 := 7#32
  let v88 : BitVec 1 := Scalar.cmpi .eq arg0 c7_i32
  let v89 : BitVec 32 := Scalar.extui v88
  let c0_i32_44 : BitVec 32 := 0#32
  let v90 : BitVec 1 := Scalar.cmpi .ne v89 c0_i32_44
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailRefIdeal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x256 : Shape := ⟨2, ![1024, 256]⟩
abbrev S256x4x256 : Shape := ⟨3, ![256, 4, 256]⟩
abbrev S4x256x256 : Shape := ⟨3, ![4, 256, 256]⟩
abbrev S8x128 : Shape := ⟨2, ![8, 128]⟩

abbrev nBuf : Space → Nat
  | .hbm => 106
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S2048x1024, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S1024x256, .f32⟩
  | .hbm, ⟨93, _⟩ => ⟨S256x1024, .f32⟩
  | .hbm, ⟨94, _⟩ => ⟨S2048x1024, .f32⟩
  | .hbm, ⟨95, _⟩ => ⟨S1024x1024, .f32⟩
  | .hbm, ⟨96, _⟩ => ⟨S1024x1024, .f32⟩
  | .hbm, ⟨97, _⟩ => ⟨S2048x1024, .f32⟩
  | .hbm, ⟨98, _⟩ => ⟨S2048x1024, .f32⟩
  | .hbm, ⟨99, _⟩ => ⟨S256x4x256, .f32⟩
  | .hbm, ⟨100, _⟩ => ⟨S4x256x256, .f32⟩
  | .hbm, ⟨101, _⟩ => ⟨S1x1024, .f32⟩
  | .hbm, ⟨102, _⟩ => ⟨S_, .f32⟩
  | .hbm, ⟨103, _⟩ => ⟨S_, .f32⟩
  | .hbm, ⟨104, _⟩ => ⟨S8x128, .f32⟩
  | .hbm, ⟨105, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_19 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== FfnDown.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S4096x2048 : Shape := ⟨2, ![4096, 2048]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 17
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S4096x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S4096x2048, .bf16⟩
  | .hbm, ⟨11, _⟩ => ⟨S2048x1024, .bf16⟩
  | .hbm, ⟨12, _⟩ => ⟨S2048x4096, .bf16⟩
  | .hbm, ⟨13, _⟩ => ⟨S4x1024x1024, .f32⟩
  | .hbm, ⟨14, _⟩ => ⟨S4x1024x1024, .bf16⟩
  | .hbm, ⟨15, _⟩ => ⟨S2048x4096, .bf16⟩
  | .hbm, ⟨16, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_12 : BitVec 32 := 0#32
  let v20 : BitVec 1 := Scalar.cmpi .ne v19 c0_i32_12
  v20

def k0_cond2 (i : grid0.Coords) : BitVec 1 :=
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S4096x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S1024x4096, .f32⟩
  | .hbm, ⟨19, _⟩ => ⟨S4096x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | .hbm, ⟨26, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== FfnIn.lean ====
abbrev S2048x4096 : Shape := ⟨2, ![2048, 4096]⟩
abbrev S2048x1024 : Shape := ⟨2, ![2048, 1024]⟩
abbrev S1024x1024 : Shape := ⟨2, ![1024, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1024x4096, .f32⟩
  | .hbm, ⟨7, _⟩ => ⟨S2048x1024, .f32⟩
  | .hbm, ⟨8, _⟩ => ⟨S2048x1024, .f32⟩
  | .hbm, ⟨9, _⟩ => ⟨S1024x4x1024, .f32⟩
  | .hbm, ⟨10, _⟩ => ⟨S4x1024x1024, .f32⟩
  | .hbm, ⟨11, _⟩ => ⟨S2048x4096, .bf16⟩
  | .hbm, ⟨12, _⟩ => ⟨S4x1024x1024, .bf16⟩
  | .hbm, ⟨13, _⟩ => ⟨S2048x1024, .bf16⟩
  | .hbm, ⟨14, _⟩ => ⟨S1024x1024, .bf16⟩
  | .hbm, ⟨15, _⟩ => ⟨S2048x1024, .f32⟩
  | .hbm, ⟨16, _⟩ => ⟨S2048x1024, .f32⟩
  | .hbm, ⟨17, _⟩ => ⟨S1024x1024, .f32⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S1x1024, .f32⟩
  | .local _ .vmem, ⟨17, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def k0_cond3 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def k0_cond4 (i : grid0.Coords) : BitVec 1 :=
  let arg0 : BitVec 32 := BitVec.ofNat 32 (i 0).val
  let c0_i32_31 : BitVec 32 := 0#32
  let v59 : BitVec 1 := Scalar.cmpi .eq arg0 c0_i32_31
  let v60 : BitVec 32 := Scalar.extui v59
  let c0_i32_32 : BitVec 32 := 0#32
  let v61 : BitVec 1 := Scalar.cmpi .ne v60 c0_i32_32
  v61

def k0_cond5 (i : grid0.Coords) : BitVec 1 :=
  let arg0 : BitVec 32 := BitVec.ofNat 32 (i 0).val
  let c0_i32_33 : BitVec 32 := 0#32
  let v62 : BitVec 1 := Scalar.cmpi .sgt arg0 c0_i32_33
  let v63 : BitVec 32 := Scalar.extui v62
  let c0_i32_34 : BitVec 32 := 0#32
  let v64 : BitVec 1 := Scalar.cmpi .ne v63 c0_i32_34
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnInRefIdeal.lean ====
abbrev S2048x4096 : Shape := ⟨2, ![2048, 4096]⟩
abbrev S2048x1024 : Shape := ⟨2, ![2048, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1024x4096, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1024x1024, .f32⟩
  | .hbm, ⟨56, _⟩ => ⟨S1024x1024, .f32⟩
  | .hbm, ⟨57, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== MixerFwd.lean ====
abbrev S2048x1792 : Shape := ⟨2, ![2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S4x128x128 : Shape := ⟨3, ![4, 128, 128]⟩
abbrev S4x128 : Shape := ⟨2, ![4, 128]⟩
abbrev S128x4 : Shape := ⟨2, ![128, 4]⟩
abbrev S8 : Shape := ⟨1, ![8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S2048x1024 : Shape := ⟨2, ![2048, 1024]⟩
abbrev S16x8x128x256 : Shape := ⟨4, ![16, 8, 128, 256]⟩
abbrev S16x8x256x128 : Shape := ⟨4, ![16, 8, 256, 128]⟩
abbrev S2048x128 : Shape := ⟨2, ![2048, 128]⟩
abbrev S128x1792 : Shape := ⟨2, ![128, 1792]⟩
abbrev S128x1024 : Shape := ⟨2, ![128, 1024]⟩
abbrev S1x8x128x256 : Shape := ⟨4, ![1, 8, 128, 256]⟩
abbrev S1x8x256x128 : Shape := ⟨4, ![1, 8, 256, 128]⟩
abbrev S128x128 : Shape := ⟨2, ![128, 128]⟩
abbrev S8x128x256 : Shape := ⟨3, ![8, 128, 256]⟩
abbrev S1x1 : Shape := ⟨2, ![1, 1]⟩
abbrev S1x128x256 : Shape := ⟨3, ![1, 128, 256]⟩
abbrev S1x128x128 : Shape := ⟨3, ![1, 128, 128]⟩
abbrev S1x128 : Shape := ⟨2, ![1, 128]⟩
abbrev S256x256 : Shape := ⟨2, ![256, 256]⟩
abbrev S256x128 : Shape := ⟨2, ![256, 128]⟩
abbrev S1 : Shape := ⟨1, ![1]⟩
abbrev S1x1x128x256 : Shape := ⟨4, ![1, 1, 128, 256]⟩
abbrev S1x1x256x128 : Shape := ⟨4, ![1, 1, 256, 128]⟩

abbrev nBuf : Space → Nat
  | .hbm => 54
  | .vmem => 22
  | .smem => 2
  | _ => 0

abbrev bufTy : (tb : Table) → Fin (tcTables nBuf tb) → BufTy
  | .hbm, ⟨0, _⟩ => ⟨S2048x1792, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S1x8, .f32⟩
  | .hbm, ⟨5, _⟩ => ⟨S32x8, .f32⟩
  | .hbm, ⟨6, _⟩ => ⟨S4x128x128, .f32⟩
  | .hbm, ⟨7, _⟩ => ⟨S4x128, .f32⟩
  | .hbm, ⟨8, _⟩ => ⟨S128x4, .f32⟩
  | .hbm, ⟨9, _⟩ => ⟨S8, .f32⟩
  | .hbm, ⟨10, _⟩ => ⟨S128, .i32⟩
  | .hbm, ⟨11, _⟩ => ⟨S128x1, .i32⟩
  | .hbm, ⟨12, _⟩ => ⟨S256, .i32⟩
  | .hbm, ⟨13, _⟩ => ⟨S1x256, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i32⟩
  | .hbm, ⟨48, _⟩ => ⟨S2048x1024, .bf16⟩
  | .hbm, ⟨49, _⟩ => ⟨S16x8x128x256, .bf16⟩
  | .hbm, ⟨50, _⟩ => ⟨S16x8x256x128, .bf16⟩
  | .hbm, ⟨51, _⟩ => ⟨S2048x128, .f32⟩
  | .hbm, ⟨52, _⟩ => ⟨S2048x1024, .f32⟩
  | .hbm, ⟨53, _⟩ => ⟨S2048x1024, .f32⟩
  | .local _ .vmem, ⟨0, _⟩ => ⟨S128x1792, .f32⟩
  | .local _ .vmem, ⟨1, _⟩ => ⟨S128x1792, .f32⟩
  | .local _ .vmem, ⟨2, _⟩ => ⟨S128x256, .f32⟩
  | .local _ .vmem, ⟨3, _⟩ => ⟨S128x256, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S128x256, .i32⟩
  | .local _ .vmem, ⟨8, _⟩ => ⟨S128x1024, .bf16⟩
  | .local _ .vmem, ⟨9, _⟩ => ⟨S128x1024, .bf16⟩
  | .local _ .vmem, ⟨10, _⟩ => ⟨S1x8x128x256, .bf16⟩
  | .local _ .vmem, ⟨11, _⟩ => ⟨S1x8x128x256, .bf16⟩
  | .local _ .vmem, ⟨12, _⟩ => ⟨S1x8x256x128, .bf16⟩
  | .local _ .vmem, ⟨13, _⟩ => ⟨S1x8x256x128, .bf16⟩
  | .local _ .vmem, ⟨14, _⟩ => ⟨S128x128, .f32⟩
  | .local _ .vmem, ⟨15, _⟩ => ⟨S128x128, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S8x128x256, .f32⟩
  | .local _ .vmem, ⟨21, _⟩ => ⟨S4x128x128, .bf16⟩
  | .local _ .smem, ⟨0, _⟩ => ⟨S8, .f32⟩
  | .local _ .smem, ⟨1, _⟩ => ⟨S32x8, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v33_2 : Ref sig .tc := ⟨.hbm, 50, rfl⟩
abbrev main_v33_3 : Ref sig .tc := ⟨.hbm, 51, rfl⟩
abbrev main_v33_4 : Ref sig .tc := ⟨.hbm, 52, rfl⟩
abbrev main_v33_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixerFwdIdeal.lean ====
variable {F : FTy → Type} [FloatOps F] [Named F]
def κ : String → Option EReal := fun
  | "masked" => some ⊥
  | _ => none
-- ==== MixerFwdRefIdeal.lean ====
abbrev S2048x1792 : Shape := ⟨2, ![2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x1792 : Shape := ⟨3, ![1, 2048, 1792]⟩
abbrev S1x2048x1024 : Shape := ⟨3, ![1, 2048, 1024]⟩
abbrev S_ : Shape := ⟨0, ![]⟩
abbrev S1x2048x512 : Shape := ⟨3, ![1, 2048, 512]⟩
abbrev S1x2048x128 : Shape := ⟨3, ![1, 2048, 128]⟩
abbrev S512 : Shape := ⟨1, ![512]⟩
abbrev S4x128x128 : Shape := ⟨3, ![4, 128, 128]⟩
abbrev S4x128 : Shape := ⟨2, ![4, 128]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8 : Shape := ⟨1, ![8]⟩
abbrev S1x16x128x2x4x64 : Shape := ⟨6, ![1, 16, 128, 2, 4, 64]⟩
abbrev S1x2048x2x64 : Shape := ⟨4, ![1, 2048, 2, 64]⟩
abbrev S1x2176x2x64 : Shape := ⟨4, ![1, 2176, 2, 64]⟩
abbrev S1x17x128x2x64 : Shape := ⟨5, ![1, 17, 128, 2, 64]⟩
abbrev S1x16x128x2x64 : Shape := ⟨5, ![1, 16, 128, 2, 64]⟩
abbrev S1x16x256x2x64 : Shape := ⟨5, ![1, 16, 256, 2, 64]⟩
abbrev S1x2x16x256x128x4 : Shape := ⟨6, ![1, 2, 16, 256, 128, 4]⟩
abbrev S1x2x4x16x128x256 : Shape := ⟨6, ![1, 2, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x1x128x256 : Shape := ⟨5, ![2, 4, 1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x128x256 : Shape := ⟨6, ![1, 2, 4, 1, 128, 256]⟩
abbrev S2x4x1x1x1 : Shape := ⟨5, ![2, 4, 1, 1, 1]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S1x16x2x64x4x128 : Shape := ⟨6, ![1, 16, 2, 64, 4, 128]⟩
abbrev S8x16x128x256 : Shape := ⟨4, ![8, 16, 128, 256]⟩
abbrev S16x8x128x256 : Shape := ⟨4, ![16, 8, 128, 256]⟩
abbrev S8x2048 : Shape := ⟨2, ![8, 2048]⟩
abbrev S2048x8 : Shape := ⟨2, ![2048, 8]⟩
abbrev S2048x1024 : Shape := ⟨2, ![2048, 1024]⟩
abbrev S16x8x256x128 : Shape := ⟨4, ![16, 8, 256, 128]⟩
abbrev S2048x128 : Shape := ⟨2, ![2048, 128]⟩

abbrev nBuf : Space → Nat
  | .hbm => 259
  | .vmem => 0
  | .smem => 0
  | _ => 0

abbrev hbmTy0_0 (i : Nat) : BufTy := match i % 128 with
  | 0 => ⟨S2048x1792, .f32⟩
  | 1 => ⟨S1x512, .f32⟩
  | 2 => ⟨S1x4x128x128, .f32⟩
  | 3 => ⟨S1x4x128, .f32⟩
  | 4 => ⟨S1x8, .f32⟩
  | 5 => ⟨S32x8, .f32⟩
  | 6 => ⟨S1x2048x1792, .f32⟩
  | 7 => ⟨S1x2048x1024, .f32⟩
  | 8 => ⟨S1x2048x1024, .f32⟩
  | 9 => ⟨S1x2048x1024, .f32⟩
  | 10 => ⟨S_, .f32⟩
  | 11 => ⟨S1x2048x1024, .f32⟩
  | 12 => ⟨S1x2048x1024, .f32⟩
  | 13 => ⟨S1x2048x1024, .f32⟩
  | 14 => ⟨S_, .f32⟩
  | 15 => ⟨S1x2048x1024, .f32⟩
  | 16 => ⟨S1x2048x1024, .f32⟩
  | 17 => ⟨S1x2048x1024, .f32⟩
  | 18 => ⟨S_, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S1x2048x1024, .f32⟩
  | 26 => ⟨S1x2048x1024, .f32⟩
  | 27 => ⟨S1x2048x1024, .f32⟩
  | 28 => ⟨S_, .f32⟩
  | 29 => ⟨S1x2048x1024, .f32⟩
  | 30 => ⟨S1x2048x1024, .f32⟩
  | 31 => ⟨S1x2048x1024, .f32⟩
  | 32 => ⟨S_, .f32⟩
  | 33 => ⟨S1x2048x1024, .f32⟩
  | 34 => ⟨S1x2048x1024, .f32⟩
  | 35 => ⟨S1x2048x1024, .f32⟩
  | 36 => ⟨S_, .f32⟩
  | 37 => ⟨S1x2048x1024, .f32⟩
  | 38 => ⟨S1x2048x1024, .f32⟩
  | 39 => ⟨S_, .f32⟩
  | 40 => ⟨S1x2048x1024, .f32⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S1x2048x1024, .f32⟩
  | 50 => ⟨S1x2048x1024, .f32⟩
  | 51 => ⟨S_, .f32⟩
  | 52 => ⟨S1x2048x1024, .f32⟩
  | 53 => ⟨S1x2048x1024, .f32⟩
  | 54 => ⟨S_, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S1x2048x1024, .f32⟩
  | 61 => ⟨S1x2048x1024, .f32⟩
  | 62 => ⟨S1x2048x512, .f32⟩
  | 63 => ⟨S1x2048x512, .f32⟩
  | 64 => ⟨S1x2048x512, .f32⟩
  | 65 => ⟨S1x2048x128, .f32⟩
  | 66 => ⟨S1x2048x128, .f32⟩
  | 67 => ⟨S512, .f32⟩
  | 68 => ⟨S4x128x128, .f32⟩
  | 69 => ⟨S4x128, .f32⟩
  | 70 => ⟨S1x2048x4x128, .f32⟩
  | 71 => ⟨S4x128, .f32⟩
  | 72 => ⟨S1x2048x4x128, .f32⟩
  | 73 => ⟨S_, .f32⟩
  | 74 => ⟨S1x2048x4, .f32⟩
  | 75 => ⟨S1x2048x4x1, .f32⟩
  | 76 => ⟨S_, .f32⟩
  | 77 => ⟨S1x2048x4x1, .f32⟩
  | 78 => ⟨S1x2048x4x1, .f32⟩
  | 79 => ⟨S_, .f32⟩
  | 80 => ⟨S1x2048x4x1, .f32⟩
  | 81 => ⟨S1x2048x4x1, .f32⟩
  | 82 => ⟨S1x2048x4x1, .f32⟩
  | 83 => ⟨S1x2048x4x128, .f32⟩
  | 84 => ⟨S1x2048x4x128, .f32⟩
  | 85 => ⟨S1x1x4x128, .f32⟩
  | 86 => ⟨S1x2048x4x128, .f32⟩
  | 87 => ⟨S1x2048x4x128, .f32⟩
  | 88 => ⟨S1x16x128x4x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .i32⟩
  | 102 => ⟨S_, .f32⟩
  | 103 => ⟨S4x128x128, .i1⟩
  | 104 => ⟨S4x128x128, .f32⟩
  | 105 => ⟨S4x128x128, .f32⟩
  | 106 => ⟨S4x1x16x128x128, .f32⟩
  | 107 => ⟨S1x16x128x4x128, .f32⟩
  | 108 => ⟨S128x4, .f32⟩
  | 109 => ⟨S128x4x1, .f32⟩
  | 110 => ⟨S1x1x128x4x1, .f32⟩
  | 111 => ⟨S1x16x128x4x128, .f32⟩
  | 112 => ⟨S1x16x128x4x128, .f32⟩
  | 113 => ⟨S1x2048x512, .f32⟩
  | 114 => ⟨S1x2048x512, .f32⟩
  | 115 => ⟨S8, .f32⟩
  | 116 => ⟨S1x16x128x2x4x64, .f32⟩
  | 117 => ⟨S1x2048x2x64, .f32⟩
  | 118 => ⟨S_, .i32⟩
  | 119 => ⟨S_, .f32⟩
  | 120 => ⟨S1x2176x2x64, .f32⟩
  | 121 => ⟨S1x17x128x2x64, .f32⟩
  | 122 => ⟨S1x16x128x2x64, .f32⟩
  | 123 => ⟨S1x16x128x2x64, .f32⟩
  | 124 => ⟨S1x16x256x2x64, .f32⟩
  | 125 => ⟨S1x2x16x256x128x4, .f32⟩
  | 126 => ⟨S1x2x4x16x128x256, .f32⟩
  | 127 => ⟨S_, .f32⟩
  | _ => ⟨S2048x1792, .f32⟩

abbrev hbmTy0_1 (i : Nat) : BufTy := match i % 128 with
  | 0 => ⟨S1x2x4x16x128x256, .f32⟩
  | 1 => ⟨S1x2x4x16x128x256, .f32⟩
  | 2 => ⟨S128, .i32⟩
  | 3 => ⟨S128x1, .i32⟩
  | 4 => ⟨S256, .i32⟩
  | 5 => ⟨S1x256, .i32⟩
  | 6 => ⟨S_, .i32⟩
  | 7 => ⟨S128x1, .i32⟩
  | 8 => ⟨S128x1, .i32⟩
  | 9 => ⟨S128x256, .i32⟩
  | 10 => ⟨S128x256, .i32⟩
  | 11 => ⟨S128x256, .i32⟩
  | 12 => ⟨S_, .i32⟩
  | 13 => ⟨S128x256, .i32⟩
  | 14 => ⟨S128x256, .i1⟩
  | 15 => ⟨S_, .i32⟩
  | 16 => ⟨S128x256, .i32⟩
  | 17 => ⟨S128x256, .i1⟩
  | 18 => ⟨S128x256, .i1⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i32⟩
  | 25 => ⟨S128x256, .f32⟩
  | 26 => ⟨S_, .f32⟩
  | 27 => ⟨S128x256, .f32⟩
  | 28 => ⟨S128x256, .f32⟩
  | 29 => ⟨S128x256, .f32⟩
  | 30 => ⟨S_, .f32⟩
  | 31 => ⟨S128x256, .f32⟩
  | 32 => ⟨S128x256, .f32⟩
  | 33 => ⟨S_, .f32⟩
  | 34 => ⟨S128x256, .f32⟩
  | 35 => ⟨S128x256, .f32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i32⟩
  | 53 => ⟨S128x256, .i32⟩
  | 54 => ⟨S128x256x1, .i32⟩
  | 55 => ⟨S128x256x8, .f32⟩
  | 56 => ⟨S8x128x256, .f32⟩
  | 57 => ⟨S2x4x1x128x256, .f32⟩
  | 58 => ⟨S16, .i32⟩
  | 59 => ⟨S16x1x1, .i32⟩
  | 60 => ⟨S_, .i32⟩
  | 61 => ⟨S16x1x1, .i32⟩
  | 62 => ⟨S16x1x1, .i1⟩
  | 63 => ⟨S256, .i32⟩
  | 64 => ⟨S1x1x256, .i32⟩
  | 65 => ⟨S_, .i32⟩
  | 66 => ⟨S1x1x256, .i32⟩
  | 67 => ⟨S1x1x256, .i1⟩
  | 68 => ⟨S16x1x256, .i1⟩
  | 69 => ⟨S16x1x256, .i1⟩
  | 70 => ⟨S16x1x256, .i1⟩
  | 71 => ⟨S1x128x256, .i1⟩
  | 72 => ⟨S16x1x256, .i1⟩
  | 73 => ⟨S16x128x256, .i1⟩
  | 74 => ⟨S16x128x256, .i1⟩
  | 75 => ⟨S16x128x256, .i1⟩
  | 76 => ⟨S1x2x4x1x128x256, .f32⟩
  | 77 => ⟨S1x2x4x16x128x256, .f32⟩
  | 78 => ⟨S1x2x4x16x128x256, .f32⟩
  | 79 => ⟨S_, .f32⟩
  | 80 => ⟨S_, .f32⟩
  | 81 => ⟨S1x2x4x16x128x256, .i1⟩
  | 82 => ⟨S1x2x4x16x128x256, .f32⟩
  | 83 => ⟨S1x2x4x16x128x256, .f32⟩
  | 84 => ⟨S2x4x1x1x1, .f32⟩
  | 85 => ⟨S_, .f32⟩
  | 86 => ⟨S1x2x4x16x128, .f32⟩
  | 87 => ⟨S1x2x4x16x128x1, .f32⟩
  | 88 => ⟨S1x2x4x1x1x1, .f32⟩
  | 89 => ⟨S1x2x4x16x128x1, .f32⟩
  | 90 => ⟨S1x2x4x16x128x1, .f32⟩
  | 91 => ⟨S1x2x4x16x128x256, .f32⟩
  | 92 => ⟨S1x2x4x16x128x256, .f32⟩
  | 93 => ⟨S1x2x4x16x128x256, .f32⟩
  | 94 => ⟨S1x2x4x1x1x1, .f32⟩
  | 95 => ⟨S1x2x4x16x128x1, .f32⟩
  | 96 => ⟨S1x2x4x16x128x1, .f32⟩
  | 97 => ⟨S1x2x4x16x128x1, .f32⟩
  | 98 => ⟨S_, .f32⟩
  | 99 => ⟨S1x2x4x16x128, .f32⟩
  | 100 => ⟨S1x2x4x16x128x1, .f32⟩
  | 101 => ⟨S1x2x4x16x128x1, .f32⟩
  | 102 => ⟨S1x2x4x16x128x256, .f32⟩
  | 103 => ⟨S1x2x4x16x128x256, .f32⟩
  | 104 => ⟨S1x2x4x16x128x1, .f32⟩
  | 105 => ⟨S1x2048x2x64, .f32⟩
  | 106 => ⟨S_, .i32⟩
  | 107 => ⟨S_, .f32⟩
  | 108 => ⟨S1x2176x2x64, .f32⟩
  | 109 => ⟨S1x17x128x2x64, .f32⟩
  | 110 => ⟨S1x16x128x2x64, .f32⟩
  | 111 => ⟨S1x16x128x2x64, .f32⟩
  | 112 => ⟨S1x16x256x2x64, .f32⟩
  | 113 => ⟨S1x16x2x64x4x128, .f32⟩
  | 114 => ⟨S1x16x128x2x4x64, .f32⟩
  | 115 => ⟨S1x2048x512, .f32⟩
  | 116 => ⟨S1x2048x1024, .f32⟩
  | 117 => ⟨S8x16x128x256, .f32⟩
  | 118 => ⟨S16x8x128x256, .f32⟩
  | 119 => ⟨S8x2048, .f32⟩
  | 120 => ⟨S2048x8, .f32⟩
  | 121 => ⟨S2048x1024, .f32⟩
  | 122 => ⟨S2048x1024, .bf16⟩
  | 123 => ⟨S16x8x128x256, .bf16⟩
  | 124 => ⟨S16x8x256x128, .f32⟩
  | 125 => ⟨S16x8x256x128, .bf16⟩
  | 126 => ⟨S_, .i32⟩
  | 127 => ⟨S_, .f32⟩
  | _ => ⟨S2048x1792, .f32⟩

abbrev hbmTy0_2 (i : Nat) : BufTy := match i % 128 with
  | 0 => ⟨S2048x128, .f32⟩
  | 1 => ⟨S2048x1024, .f32⟩
  | 2 => ⟨S2048x1024, .f32⟩
  | _ => ⟨S2048x1792, .f32⟩

abbrev hbmTy (i : Nat) : BufTy := match i / 128 with
  | 0 => hbmTy0_0 i
  | 1 => hbmTy0_1 i
  | 2 => hbmTy0_2 i
  | _ => ⟨S2048x1792, .f32⟩

abbrev bufTy : (tb : Table) → Fin (tcTables nBuf tb) → BufTy
  | .hbm, ⟨i, _⟩ => hbmTy i
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c : Ref sig .tc := ⟨.hbm, 89, rfl⟩
abbrev main_v67 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_call2_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_19 : Ref sig .tc := ⟨.hbm, 140, rfl⟩
abbrev main_v101 : Ref sig .tc := ⟨.hbm, 141, rfl⟩
abbrev main_v102 : Ref sig .tc := ⟨.hbm, 142, rfl⟩
abbrev main_c_20 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_c_22 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_23 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_24 : Ref sig .tc := ⟨.hbm, 158, rfl⟩
abbrev main_v114 : Ref sig .tc := ⟨.hbm, 159, rfl⟩
abbrev main_v115 : Ref sig .tc := ⟨.hbm, 160, rfl⟩
abbrev main_cst_25 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_26 : Ref sig .tc := ⟨.hbm, 165, rfl⟩
abbrev main_v119 : Ref sig .tc := ⟨.hbm, 166, rfl⟩
abbrev main_v120 : Ref sig .tc := ⟨.hbm, 167, rfl⟩
abbrev main_c_27 : Ref sig .tc := ⟨.hbm, 168, rfl⟩
abbrev main_v121 : Ref sig .tc := ⟨.hbm, 169, rfl⟩
abbrev main_v122 : Ref sig .tc := ⟨.hbm, 170, rfl⟩
abbrev main_c_28 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_29 : Ref sig .tc := ⟨.hbm, 175, rfl⟩
abbrev main_v126 : Ref sig .tc := ⟨.hbm, 176, rfl⟩
abbrev main_v127 : Ref sig .tc := ⟨.hbm, 177, rfl⟩
abbrev main_c_30 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_31 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_32 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_33 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_v154 : Ref sig .tc := ⟨.hbm, 211, rfl⟩
abbrev main_v155 : Ref sig .tc := ⟨.hbm, 212, rfl⟩
abbrev main_cst_34 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_35 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_c_36 : Ref sig .tc := ⟨.hbm, 234, rfl⟩
abbrev main_call5_v0 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_c_37 : Ref sig .tc := ⟨.hbm, 254, rfl⟩
abbrev main_call6_v0 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S1024x1792 : Shape := ⟨2, ![1024, 1792]⟩
abbrev S1792x1024 : Shape := ⟨2, ![1792, 1024]⟩
abbrev S2048x1792 : Shape := ⟨2, ![2048, 1792]⟩
abbrev S256x1024 : Shape := ⟨2, ![256, 1024]⟩
abbrev S256x1792 : Shape := ⟨2, ![256, 1792]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1792, .f32⟩
  | .hbm, ⟨3, _⟩ => ⟨S1792x1024, .f32⟩
  | .hbm, ⟨4, _⟩ => ⟨S1792x1024, .bf16⟩
  | .hbm, ⟨5, _⟩ => ⟨S2048x1792, .f32⟩
  | .hbm, ⟨6, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1792x1024, .bf16⟩
  | .local _ .vmem, ⟨4, _⟩ => ⟨S256x1792, .f32⟩
  | .local _ .vmem, ⟨5, _⟩ => ⟨S256x1792, .f32⟩
  | .local _ .vmem, ⟨6, _⟩ => ⟨S256x1024, .bf16⟩
  | .local _ .vmem, ⟨7, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S2048x1024 : Shape := ⟨2, ![2048, 1024]⟩
abbrev S1x1024 : Shape := ⟨2, ![1, 1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩
abbrev S2048x1792 : Shape := ⟨2, ![2048, 1792]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1792, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1792, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1024x2048, .f32⟩
  | .hbm, ⟨23, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnUp.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S4096x2048 : Shape := ⟨2, ![4096, 2048]⟩
abbrev S512x1024 : Shape := ⟨2, ![512, 1024]⟩
abbrev S1x1024x1024 : Shape := ⟨3, ![1, 1024, 1024]⟩
abbrev S1024x512 : Shape := ⟨2, ![1024, 512]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S2048x4096, .bf16⟩
  | .hbm, ⟨7, _⟩ => ⟨S2048x4096, .bf16⟩
  | .hbm, ⟨8, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x4096, .bf16⟩
  | .hbm, ⟨9, _⟩ => ⟨S4096x2048, .f32⟩
  | .hbm, ⟨10, _⟩ => ⟨S4096x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnOut.lean ====
abbrev S2048x1024 : Shape := ⟨2, ![2048, 1024]⟩
abbrev S2048x4096 : Shape := ⟨2, ![2048, 4096]⟩
abbrev S4096x1024 : Shape := ⟨2, ![4096, 1024]⟩
abbrev S4x1024x1024 : Shape := ⟨3, ![4, 1024, 1024]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S2048x4096, .bf16⟩
  | .hbm, ⟨4, _⟩ => ⟨S4x1024x1024, .f32⟩
  | .hbm, ⟨5, _⟩ => ⟨S4x1024x1024, .bf16⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnOutRefIdeal.lean ====
abbrev S2048x1024 : Shape := ⟨2, ![2048, 1024]⟩
abbrev S2048x4096 : Shape := ⟨2, ![2048, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfnBwdUp.lean ====
abbrev S2048x1024 : Shape := ⟨2, ![2048, 1024]⟩
abbrev S2048x4096 : Shape := ⟨2, ![2048, 4096]⟩
abbrev S1024x2048 : Shape := ⟨2, ![1024, 2048]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .bf16⟩
  | .hbm, ⟨3, _⟩ => ⟨S1024x2048, .f32⟩
  | .hbm, ⟨4, _⟩ => ⟨S1024x2048, .bf16⟩
  | .hbm, ⟨5, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1x1024x1024, .f32⟩
  | .local _ .vmem, ⟨4, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnBwdUpRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamW.lean ====
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixerBwd.lean ====
abbrev S2048x1792 : Shape := ⟨2, ![2048, 1792]⟩
abbrev S2048x1024 : Shape := ⟨2, ![2048, 1024]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S2048x512 : Shape := ⟨2, ![2048, 512]⟩
abbrev S16x128x8x64 : Shape := ⟨4, ![16, 128, 8, 64]⟩
abbrev S2048x128 : Shape := ⟨2, ![2048, 128]⟩
abbrev S_ : Shape := ⟨0, ![]⟩
abbrev S2176x128 : Shape := ⟨2, ![2176, 128]⟩
abbrev S17x128x2x64 : Shape := ⟨4, ![17, 128, 2, 64]⟩
abbrev S16x128x2x64 : Shape := ⟨4, ![16, 128, 2, 64]⟩
abbrev S16x256x2x64 : Shape := ⟨4, ![16, 256, 2, 64]⟩
abbrev S16x256x2x4x64 : Shape := ⟨5, ![16, 256, 2, 4, 64]⟩
abbrev S16x256x8x64 : Shape := ⟨4, ![16, 256, 8, 64]⟩
abbrev S16x8x128x256 : Shape := ⟨4, ![16, 8, 128, 256]⟩
abbrev S128x256 : Shape := ⟨2, ![128, 256]⟩
abbrev S128x256x1 : Shape := ⟨3, ![128, 256, 1]⟩
abbrev S8x128x256 : Shape := ⟨3, ![8, 128, 256]⟩
abbrev S16x8x128 : Shape := ⟨3, ![16, 8, 128]⟩
abbrev S16x128x8 : Shape := ⟨3, ![16, 128, 8]⟩
abbrev S2048x8 : Shape := ⟨2, ![2048, 8]⟩
abbrev S16x8x256x128 : Shape := ⟨4, ![16, 8, 256, 128]⟩
abbrev S4x128 : Shape := ⟨2, ![4, 128]⟩
abbrev S128x4 : Shape := ⟨2, ![128, 4]⟩
abbrev S4x128x128 : Shape := ⟨3, ![4, 128, 128]⟩
abbrev S4x128x1 : Shape := ⟨3, ![4, 128, 1]⟩
abbrev S8x128 : Shape := ⟨2, ![8, 128]⟩
abbrev S8x32x1 : Shape := ⟨3, ![8, 32, 1]⟩
abbrev S1792x1024 : Shape := ⟨2, ![1792, 1024]⟩
abbrev S128x1792 : Shape := ⟨2, ![128, 1792]⟩
abbrev S128x1024 : Shape := ⟨2, ![128, 1024]⟩
abbrev S1x8x128x256 : Shape := ⟨4, ![1, 8, 128, 256]⟩
abbrev S1x8x256x128 : Shape := ⟨4, ![1, 8, 256, 128]⟩
abbrev S128x128 : Shape := ⟨2, ![128, 128]⟩
abbrev S1024x1024 : Shape := ⟨2, ![1024, 1024]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S256x256 : Shape := ⟨2, ![256, 256]⟩
abbrev S256x128 : Shape := ⟨2, ![256, 128]⟩
abbrev S1x1x128x256 : Shape := ⟨4, ![1, 1, 128, 256]⟩
abbrev S1x128x256 : Shape := ⟨3, ![1, 128, 256]⟩
abbrev S1 : Shape := ⟨1, ![1]⟩
abbrev S1x1 : Shape := ⟨2, ![1, 1]⟩
abbrev S1x1x256x128 : Shape := ⟨4, ![1, 1, 256, 128]⟩
abbrev S1024x1792 : Shape := ⟨2, ![1024, 1792]⟩
abbrev S1x128x1 : Shape := ⟨3, ![1, 128, 1]⟩
abbrev S256 : Shape := ⟨1, ![256]⟩
abbrev S1x256 : Shape := ⟨2, ![1, 256]⟩
abbrev S32x256 : Shape := ⟨2, ![32, 256]⟩
abbrev S32 : Shape := ⟨1, ![32]⟩
abbrev S32x1 : Shape := ⟨2, ![32, 1]⟩
abbrev S1x32x1 : Shape := ⟨3, ![1, 32, 1]⟩

abbrev nBuf : Space → Nat
  | .hbm => 128
  | .vmem => 34
  | .smem => 0
  | _ => 0

abbrev bufTy : (tb : Table) → Fin (tcTables nBuf tb) → BufTy
  | .hbm, ⟨0, _⟩ => ⟨S2048x1792, .f32⟩
  | .hbm, ⟨1, _⟩ => ⟨S2048x1024, .f32⟩
  | .hbm, ⟨2, _⟩ => ⟨S2048x1024, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x8, .f32⟩
  | .hbm, ⟨7, _⟩ => ⟨S32x8, .f32⟩
  | .hbm, ⟨8, _⟩ => ⟨S2048x512, .f32⟩
  | .hbm, ⟨9, _⟩ => ⟨S16x128x8x64, .f32⟩
  | .hbm, ⟨10, _⟩ => ⟨S2048x128, .f32⟩
  | .hbm, ⟨11, _⟩ => ⟨S_, .f32⟩
  | .hbm, ⟨12, _⟩ => ⟨S2176x128, .f32⟩
  | .hbm, ⟨13, _⟩ => ⟨S17x128x2x64, .f32⟩
  | .hbm, ⟨14, _⟩ => ⟨S16x128x2x64, .f32⟩
  | .hbm, ⟨15, _⟩ => ⟨S16x128x2x64, .f32⟩
  | .hbm, ⟨16, _⟩ => ⟨S16x256x2x64, .f32⟩
  | .hbm, ⟨17, _⟩ => ⟨S16x256x2x4x64, .f32⟩
  | .hbm, ⟨18, _⟩ => ⟨S16x256x8x64, .f32⟩
  | .hbm, ⟨19, _⟩ => ⟨S16x8x128x256, .f32⟩
  | .hbm, ⟨20, _⟩ => ⟨S_, .f32⟩
  | .hbm, ⟨21, _⟩ => ⟨S16x8x128x256, .f32⟩
  | .hbm, ⟨22, _⟩ => ⟨S16x8x128x256, .f32⟩
  | .hbm, ⟨23, _⟩ => ⟨S_, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S128x256, .i1⟩
  | .hbm, ⟨32, _⟩ => ⟨S128x256, .i1⟩
  | .hbm, ⟨33, _⟩ => ⟨S128x256, .i1⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S_, .f32⟩
  | .hbm, ⟨38, _⟩ => ⟨S128x256, .f32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S128x256, .f32⟩
  | .hbm, ⟨43, _⟩ => ⟨S128x256, .f32⟩
  | .hbm, ⟨44, _⟩ => ⟨S128x256, .f32⟩
  | .hbm, ⟨45, _⟩ => ⟨S_, .f32⟩
  | .hbm, ⟨46, _⟩ => ⟨S128x256, .f32⟩
  | .hbm, ⟨47, _⟩ => ⟨S128x256, .f32⟩
  | .hbm, ⟨48, _⟩ => ⟨S128x256, .f32⟩
  | .hbm, ⟨49, _⟩ => ⟨S128x256, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S128x256x1, .i32⟩
  | .hbm, ⟨57, _⟩ => ⟨S8x128x256, .f32⟩
  | .hbm, ⟨58, _⟩ => ⟨S_, .i32⟩
  | .hbm, ⟨59, _⟩ => ⟨S16x8x128x256, .i32⟩
  | .hbm, ⟨60, _⟩ => ⟨S16x8x128x256, .i32⟩
  | .hbm, ⟨61, _⟩ => ⟨S16x8x128x256, .i32⟩
  | .hbm, ⟨62, _⟩ => ⟨S16x8x128x256, .i32⟩
  | .hbm, ⟨63, _⟩ => ⟨S16x8x128x256, .i32⟩
  | .hbm, ⟨64, _⟩ => ⟨S16x8x128x256, .i1⟩
  | .hbm, ⟨65, _⟩ => ⟨S16x8x128x256, .i1⟩
  | .hbm, ⟨66, _⟩ => ⟨S16x8x128x256, .i1⟩
  | .hbm, ⟨67, _⟩ => ⟨S16x8x128x256, .f32⟩
  | .hbm, ⟨68, _⟩ => ⟨S16x8x128x256, .f32⟩
  | .hbm, ⟨69, _⟩ => ⟨S_, .f32⟩
  | .hbm, ⟨70, _⟩ => ⟨S16x8x128x256, .f32⟩
  | .hbm, ⟨71, _⟩ => ⟨S16x8x128x256, .f32⟩
  | .hbm, ⟨72, _⟩ => ⟨S16x8x128, .f32⟩
  | .hbm, ⟨73, _⟩ => ⟨S_, .f32⟩
  | .hbm, ⟨74, _⟩ => ⟨S16x8x128, .f32⟩
  | .hbm, ⟨75, _⟩ => ⟨S16x8x128, .f32⟩
  | .hbm, ⟨76, _⟩ => ⟨S16x8x128x256, .f32⟩
  | .hbm, ⟨77, _⟩ => ⟨S16x8x128x256, .f32⟩
  | .hbm, ⟨78, _⟩ => ⟨S16x8x128x256, .f32⟩
  | .hbm, ⟨79, _⟩ => ⟨S16x8x128, .f32⟩
  | .hbm, ⟨80, _⟩ => ⟨S16x8x128, .f32⟩
  | .hbm, ⟨81, _⟩ => ⟨S_, .f32⟩
  | .hbm, ⟨82, _⟩ => ⟨S16x8x128, .f32⟩
  | .hbm, ⟨83, _⟩ => ⟨S16x8x128, .f32⟩
  | .hbm, ⟨84, _⟩ => ⟨S16x8x128x256, .f32⟩
  | .hbm, ⟨85, _⟩ => ⟨S16x8x128x256, .f32⟩
  | .hbm, ⟨86, _⟩ => ⟨S16x8x128x256, .bf16⟩
  | .hbm, ⟨87, _⟩ => ⟨S16x8x128, .f32⟩
  | .hbm, ⟨88, _⟩ => ⟨S16x128x8, .f32⟩
  | .hbm, ⟨89, _⟩ => ⟨S2048x8, .f32⟩
  | .hbm, ⟨90, _⟩ => ⟨S2048x1024, .f32⟩
  | .hbm, ⟨91, _⟩ => ⟨S_, .f32⟩
  | .hbm, ⟨92, _⟩ => ⟨S2048x1024, .f32⟩
  | .hbm, ⟨93, _⟩ => ⟨S_, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S16x8x256x128, .bf16⟩
  | .hbm, ⟨115, _⟩ => ⟨S_, .f32⟩
  | .hbm, ⟨116, _⟩ => ⟨S2048x128, .f32⟩
  | .hbm, ⟨117, _⟩ => ⟨S4x128, .f32⟩
  | .hbm, ⟨118, _⟩ => ⟨S128x4, .f32⟩
  | .hbm, ⟨119, _⟩ => ⟨S4x128x128, .f32⟩
  | .hbm, ⟨120, _⟩ => ⟨S2048x1024, .bf16⟩
  | .hbm, ⟨121, _⟩ => ⟨S2048x1792, .bf16⟩
  | .hbm, ⟨122, _⟩ => ⟨S4x128x128, .f32⟩
  | .hbm, ⟨123, _⟩ => ⟨S4x128x1, .f32⟩
  | .hbm, ⟨124, _⟩ => ⟨S1x512, .f32⟩
  | .hbm, ⟨125, _⟩ => ⟨S8x128, .f32⟩
  | .hbm, ⟨126, _⟩ => ⟨S8x32x1, .f32⟩
  | .hbm, ⟨127, _⟩ => ⟨S1792x1024, .f32⟩
  | .local _ .vmem, ⟨0, _⟩ => ⟨S128x1792, .f32⟩
  | .local _ .vmem, ⟨1, _⟩ => ⟨S128x1792, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S128x1024, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S1x8x128x256, .bf16⟩
  | .local _ .vmem, ⟨10, _⟩ => ⟨S1x8x128x256, .bf16⟩
  | .local _ .vmem, ⟨11, _⟩ => ⟨S1x8x256x128, .bf16⟩
  | .local _ .vmem, ⟨12, _⟩ => ⟨S1x8x256x128, .bf16⟩
  | .local _ .vmem, ⟨13, _⟩ => ⟨S128x128, .f32⟩
  | .local _ .vmem, ⟨14, _⟩ => ⟨S128x128, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x256, .i32⟩
  | .local _ .vmem, ⟨20, _⟩ => ⟨S1024x1024, .bf16⟩
  | .local _ .vmem, ⟨21, _⟩ => ⟨S1024x1024, .bf16⟩
  | .local _ .vmem, ⟨22, _⟩ => ⟨S2048x1792, .bf16⟩
  | .local _ .vmem, ⟨23, _⟩ => ⟨S4x128x128, .f32⟩
  | .local _ .vmem, ⟨24, _⟩ => ⟨S4x128x1, .f32⟩
  | .local _ .vmem, ⟨25, _⟩ => ⟨S1x512, .f32⟩
  | .local _ .vmem, ⟨26, _⟩ => ⟨S8x128, .f32⟩
  | .local _ .vmem, ⟨27, _⟩ => ⟨S8x32x1, .f32⟩
  | .local _ .vmem, ⟨28, _⟩ => ⟨S1792x1024, .f32⟩
  | .local _ .vmem, ⟨29, _⟩ => ⟨S4x128x128, .bf16⟩
  | .local _ .vmem, ⟨30, _⟩ => ⟨S4x128x128, .bf16⟩
  | .local _ .vmem, ⟨31, _⟩ => ⟨S8x128x256, .f32⟩
  | .local _ .vmem, ⟨32, _⟩ => ⟨S4x128x128, .f32⟩
  | .local _ .vmem, ⟨33, _⟩ => ⟨S128x256, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_14 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96_0 : Ref sig .tc := ⟨.hbm, 121, rfl⟩
abbrev main_v96_1 : Ref sig .tc := ⟨.hbm, 122, rfl⟩
abbrev main_v96_2 : Ref sig .tc := ⟨.hbm, 123, rfl⟩
abbrev main_v96_3 : Ref sig .tc := ⟨.hbm, 124, rfl⟩
abbrev main_v96_4 : Ref sig .tc := ⟨.hbm, 125, rfl⟩
abbrev main_v96_5 : Ref sig .tc := ⟨.hbm, 126, rfl⟩
abbrev main_v96_6 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v75 : Index := Scalar.indexCast v4
  let c0_40 : Index := 0#32
  ![v75.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v82 : Index := Scalar.indexCast v4
  let c512 : Index := 512#32
  ![v82.toNat, 512]
def k0_off3 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v152 : Index := Scalar.indexCast v4
  let c128_76 : Index := 128#32
  ![v152.toNat, 128]
def k0_off4 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v159 : Index := Scalar.indexCast v4
  let c640 : Index := 640#32
  ![v159.toNat, 640]
def k0_off5 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v229 : Index := Scalar.indexCast v4
  let c256_112 : Index := 256#32
  ![v229.toNat, 256]
def k0_off6 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v236 : Index := Scalar.indexCast v4
  let c768 : Index := 768#32
  ![v236.toNat, 768]
def k0_off7 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v306 : Index := Scalar.indexCast v4
  let c384_148 : Index := 384#32
  ![v306.toNat, 384]
def k0_off8 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v313 : Index := Scalar.indexCast v4
  let c896 : Index := 896#32
  ![v313.toNat, 896]
def k0_off9 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v470 : Index := Scalar.indexCast v4
  let c1024_227 : Index := 1024#32
  ![v470.toNat, 1024]
def k0_off10 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v590 : Index := Scalar.indexCast v4
  let c1152_295 : Index := 1152#32
  ![v590.toNat, 1152]
def k0_off11 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v710 : Index := Scalar.indexCast v4
  let c1280_361 : Index := 1280#32
  ![v710.toNat, 1280]
def k0_off12 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v830 : Index := Scalar.indexCast v4
  let c1408_427 : Index := 1408#32
  ![v830.toNat, 1408]
def k0_cond2 (i : grid0.Coords) : BitVec 1 :=
  let arg0 : BitVec 32 := BitVec.ofNat 32 (i 0).val
  let c0_i32_431 : BitVec 32 := 0#32
  let v841 : BitVec 1 := Scalar.cmpi .sgt arg0 c0_i32_431
  let v842 : BitVec 32 := Scalar.extui v841
  let c0_i32_432 : BitVec 32 := 0#32
  let v843 : BitVec 1 := Scalar.cmpi .ne v842 c0_i32_432
  v843

def k0_mult2 (i : grid0.Coords) : BitVec 32 :=
  let arg0 : BitVec 32 := BitVec.ofNat 32 (i 0).val
  let c1_i32_444 : BitVec 32 := 1#32
  let v866 : BitVec 32 := Scalar.subi arg0 c1_i32_444
  let c128_i32_445 : BitVec 32 := 128#32
  let v867 : BitVec 32 := Scalar.muli v866 c128_i32_445
  v867
def k0_off13 (i : grid0.Coords) : Fin 2 → Nat :=
  let arg0 : BitVec 32 := BitVec.ofNat 32 (i 0).val
  let c1_i32_444 : BitVec 32 := 1#32
  let v866 : BitVec 32 := Scalar.subi arg0 c1_i32_444
  let c128_i32_445 : BitVec 32 := 128#32
  let v867 : BitVec 32 := Scalar.muli v866 c128_i32_445
  let v868 : BitVec 32 := v867
  let v873 : Index := Scalar.indexCast v868
  let c1536_448 : Index := 1536#32
  ![v873.toNat, 1536]
def k0_cond3 (i : grid0.Coords) : BitVec 1 :=
  let arg0 : BitVec 32 := BitVec.ofNat 32 (i 0).val
  let c0_i32_435 : BitVec 32 := 0#32
  let v848 : BitVec 1 := Scalar.cmpi .sgt arg0 c0_i32_435
  let c8_i32 : BitVec 32 := 8#32
  let c0_i32_436 : BitVec 32 := 0#32
  let v849 : BitVec 1 := Scalar.cmpi .eq c8_i32 c0_i32_436
  let c1_i32_437 : BitVec 32 := 1#32
  let v850 : BitVec 32 := Scalar.select v849 c1_i32_437 c8_i32
  let v851 : BitVec 32 := Scalar.remsi arg0 v850
  let c0_i32_439 : BitVec 32 := 0#32
  let v853 : BitVec 1 := Scalar.cmpi .slt v851 c0_i32_439
  let c0_i32_440 : BitVec 32 := 0#32
  let v854 : BitVec 1 := Scalar.cmpi .slt v850 c0_i32_440
  let v855 : BitVec 1 := Scalar.xori v853 v854
  let c0_i32_438 : BitVec 32 := 0#32
  let v852 : BitVec 1 := Scalar.cmpi .ne v851 c0_i32_438
  let v856 : BitVec 1 := Scalar.andi v855 v852
  let v857 : BitVec 32 := Scalar.addi v851 v850
  let v858 : BitVec 32 := Scalar.select v856 v857 v851
  let c0_i32_441 : BitVec 32 := 0#32
  let v859 : BitVec 1 := Scalar.cmpi .eq v858 c0_i32_441
  let v860 : BitVec 1 := Scalar.andi v848 v859
  let v861 : BitVec 32 := Scalar.extui v860
  let c0_i32_442 : BitVec 32 := 0#32
  let v862 : BitVec 1 := Scalar.cmpi .ne v861 c0_i32_442
  v862

def k0_mult3 (i : grid0.Coords) : BitVec 32 :=
  let arg0 : BitVec 32 := BitVec.ofNat 32 (i 0).val
  let c8_i32_444 : BitVec 32 := 8#32
  let v866 : BitVec 32 := Scalar.subi arg0 c8_i32_444
  let c128_i32_445 : BitVec 32 := 128#32
  let v867 : BitVec 32 := Scalar.muli v866 c128_i32_445
  v867
def k0_off14 (i : grid0.Coords) : Fin 2 → Nat :=
  let arg0 : BitVec 32 := BitVec.ofNat 32 (i 0).val
  let c8_i32_444 : BitVec 32 := 8#32
  let v866 : BitVec 32 := Scalar.subi arg0 c8_i32_444
  let c128_i32_445 : BitVec 32 := 128#32
  let v867 : BitVec 32 := Scalar.muli v866 c128_i32_445
  let v868 : BitVec 32 := v867
  let v870 : Index := Scalar.indexCast v868
  let c0_448 : Index := 0#32
  ![v870.toNat, 0]
def k0_cond4 (i : grid0.Coords) : BitVec 1 :=
  let arg0 : BitVec 32 := BitVec.ofNat 32 (i 0).val
  let c15_i32 : BitVec 32 := 15#32
  let v863 : BitVec 1 := Scalar.cmpi .eq arg0 c15_i32
  let v864 : BitVec 32 := Scalar.extui v863
  let c0_i32_443 : BitVec 32 := 0#32
  let v865 : BitVec 1 := Scalar.cmpi .ne v864 c0_i32_443
  v865

def k0_off15 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v868 : Index := Scalar.indexCast v4
  let c1536_444 : Index := 1536#32
  ![v868.toNat, 1536]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 1 := Scalar.cmpi .eq arg0 c15_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c1_i32_6 : BitVec 32 := 1#32
  let v20 : BitVec 32 := Scalar.select v0 c1_i32_6 v19
  let c0_i32_7 : BitVec 32 := 0#32
  let c0_i32_8 : BitVec 32 := 0#32
  ![v20.toNat, c0_i32_7.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1792 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1792x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Proof.Reals.lean ====
module

public import Idealize.ShloMosaic.Lib.Pointwise
public import Idealize.ShloMosaic.Lib.ReduceAll

/-!
# Extended reals that are real

At the ideal instance a float is an extended real. Where every argument is finite the equations of this certificate are
equations of real numbers: this module carries sums, quotients and reciprocal roots of real numbers back to `ℝ`, reads
the float constants the programs hold, and reads the precondition `|x| < ∞` everywhere as "`x` is an array of reals".
-/

@[expose] public section

noncomputable section

namespace Cert.Reals

open Idealize.ShloMosaic

/-- A sum of real numbers, taken over the extended reals, is the real sum. -/
theorem coe_sum {ι : Type} [Fintype ι] (f : ι → ℝ) : ∑ k, ((f k : ℝ) : EReal) = ((∑ k, f k : ℝ) : EReal) := by
  classical
  refine Finset.induction_on (Finset.univ : Finset ι) (by simp) fun a s ha h => ?_
  rw [Finset.sum_insert ha, Finset.sum_insert ha, h, EReal.coe_add]

/-- A quotient of real numbers by a nonzero one is the real quotient. -/
theorem div_real (x : ℝ) {y : ℝ} (h : y ≠ 0) : Ideal.div (x : EReal) (y : EReal) = ((x / y : ℝ) : EReal) := by
  rw [Ideal.div_coe h, ← EReal.coe_mul]; congr 1; ring

/-- The reciprocal root of a positive real is real. -/
theorem rsqrt_real {r : ℝ} (h : 0 < r) : Ideal.rsqrt (r : EReal) = (((Real.sqrt r)⁻¹ : ℝ) : EReal) := by
  rw [Ideal.rsqrt_coe, if_neg (not_lt.2 h.le), if_neg h.ne']

/-- The constant 1024. -/
theorem c1024 : Ideal.ofBits .f32 0x44800000#32 = ((1024 : ℝ) : EReal) := by
  simp [Ideal.ofBits, Ideal.ieee, -EReal.coe_mul]; norm_num

/-- The constant -1/2. -/
theorem cNegHalf : Ideal.ofBits .f32 0xBF000000#32 = ((-(1 / 2) : ℝ) : EReal) := by
  simp [Ideal.ofBits, Ideal.ieee, -EReal.coe_mul]; norm_num

/-- The epsilon of the norms, the real number its float word denotes. -/
def eps : ℝ := 8796093 * 2 ^ (-43 : ℤ)

theorem eps_pos : 0 < eps := by unfold eps; positivity

/-- The constant the programs hold for the norms' epsilon. -/
theorem cEps : Ideal.ofBits .f32 0x358637BD#32 = ((eps : ℝ) : EReal) := by
  simp [Ideal.ofBits, Ideal.ieee, -EReal.coe_mul, eps]

/-- The constant the programs hold for infinity. -/
theorem cInf : Ideal.ofBits .f32 0x7F800000#32 = ⊤ := by
  simp [Ideal.ofBits, Ideal.ieee]

/-- An extended real of absolute value below infinity is a real number. -/
theorem real_of_abs_lt {x : EReal} (h : max x (-x) < ⊤) : ((x.toReal : ℝ) : EReal) = x := by
  induction x using EReal.rec with
  | bot => simp at h
  | top => simp at h
  | coe r => rfl

/-- The precondition `|x| < ∞` everywhere, as the programs compute it, makes `x` an array of real numbers. -/
theorem real_of_all {s u : Shape} {axes : List (Fin s.rank)} (d : Fin u.rank → Fin s.rank) (x : FVec Ideal s .f32) (hb : u.BroadcastsInDim s d)
    (hr : s.ReducesTo axes u) (hu : 0 < u.numel) (j : u.Idx) [Subsingleton u.Idx]
    (h : Host.reduce IntOp.andi (cmpf .olt (Host.absf x) (broadcastInDim s d hb (constant u .f32 0x7F800000#32)))
      (constantI u 1 1#1) hr hu j = 1#1) : ∃ X : s.Idx → ℝ, x = fun i => (X i : EReal) := by
  refine ⟨fun i => (x i).toReal, funext fun i => (real_of_abs_lt ?_).symm⟩
  have hi := Host.reduce_andi_all _ _ _ _ j h i
  pointwise at hi
  rw [cInf] at hi
  by_contra hn
  rw [show decide (FloatOps.absf (x i) < (⊤ : EReal)) = false from decide_eq_false hn] at hi
  exact absurd hi (by decide)

/-- The constants 1, 1/2, 2, 1/1024 and 2048. -/
theorem cOne : Ideal.ofBits .f32 0x3F800000#32 = 1 := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num

/-- An extended real that is a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} [Fintype ι] {f : ι → EReal} (h : ∀ k, IsReal (f k)) : IsReal (∑ k, f k) := by
  choose g hg using h
  exact ⟨∑ k, g k, by simp only [hg, coe_sum]⟩
theorem IsReal.logistic {x : EReal} : IsReal x → IsReal (Ideal.logistic x) := by
  rintro ⟨a, rfl⟩; exact ⟨_, Ideal.logistic_coe a⟩

/-- An argument the precondition calls finite is an array of real numbers. -/
theorem isReal_of_all {s u : Shape} {axes : List (Fin s.rank)} (d : Fin u.rank → Fin s.rank) (x : FVec Ideal s .f32) (hb : u.BroadcastsInDim s d)
    (hr : s.ReducesTo axes u) (hu : 0 < u.numel) (j : u.Idx) [Subsingleton u.Idx]
    (h : Host.reduce IntOp.andi (cmpf .olt (Host.absf x) (broadcastInDim s d hb (constant u .f32 0x7F800000#32)))
      (constantI u 1 1#1) hr hu j = 1#1) (i : s.Idx) : IsReal (x i) := by
  obtain ⟨X, hX⟩ := real_of_all d x hb hr hu j h
  exact ⟨X i, congrFun hX i⟩

end Cert.Reals
end
-- ==== Proof.InBwdEq.lean ====
module

public import proofs.«01_k».proof.Proof.Reals

/-!
# The gradient of the first norm, row by row

For one row `x` of the block's input with gain `g`, the norm is `x l * r * g l`, `r = (mean (x²) + ε)^(-1/2)`. With `dy`
the cotangent of the normed row times the gain, the kernel writes `r * (dy - x̂ * mean (dy * x̂))`, `x̂ = x * r`; the
reference differentiates the norm's own operations. Over the reals the two agree.
-/

@[expose] public section

noncomputable section

namespace Cert.InBwdEq

open Idealize.ShloMosaic Cert.Reals

/-- `Σ x² / 1024 + ε`, the argument of the norm's reciprocal root. -/
abbrev meanSq (x : Fin 1024 → EReal) : EReal :=
  Ideal.div (∑ k, x k * x k) (Ideal.ofBits .f32 0x44800000#32) + Ideal.ofBits .f32 0x358637BD#32

/-- The kernel's row: the residual's cotangent `h`, plus the norm's gradient in closed form; `d` is the cotangent of
    the normed row. -/
def kernelRow (x d h g : Fin 1024 → EReal) (l : Fin 1024) : EReal :=
  h l + Ideal.rsqrt (meanSq x) * (d l * g l - x l * Ideal.rsqrt (meanSq x) *
    Ideal.div (∑ k, d k * g k * (x k * Ideal.rsqrt (meanSq x))) (Ideal.ofBits .f32 0x44800000#32))

/-- What the reference adds for the mean square, once for each of its two factors. -/
def refMean (x d g : Fin 1024 → EReal) : EReal :=
  Ideal.div ((∑ k, x k * (d k * g k)) * (Ideal.ofBits .f32 0xBF000000#32 *
    Ideal.div (Ideal.rsqrt (meanSq x)) (meanSq x))) (Ideal.ofBits .f32 0x44800000#32)

/-- The reference's row: the derivative of each operation of the norm. -/
def refRow (x d h g : Fin 1024 → EReal) (l : Fin 1024) : EReal :=
  h l + d l * g l * Ideal.rsqrt (meanSq x) + x l * refMean x d g + refMean x d g * x l

/-- The reciprocal root's argument is a positive real when the row is real. -/
theorem meanSq_real (X : Fin 1024 → ℝ) : ∃ v : ℝ, 0 < v ∧ meanSq (fun k => (X k : EReal)) = (v : EReal) := by
  refine ⟨(∑ k, X k * X k) / 1024 + eps, ?_, ?_⟩
  · have h : 0 ≤ ∑ k, X k * X k := Finset.sum_nonneg fun k _ => mul_self_nonneg _
    have := eps_pos
    positivity
  · unfold meanSq
    simp only [← EReal.coe_mul, coe_sum, c1024, cEps]
    rw [div_real _ (by norm_num), ← EReal.coe_add]

/-- The two rows agree where the row, its gain and the normed row's cotangent are real; of the residual's cotangent
    nothing is needed. -/
theorem row_eq (X D G : Fin 1024 → ℝ) (h : Fin 1024 → EReal) (l : Fin 1024) :
    kernelRow (fun k => (X k : EReal)) (fun k => (D k : EReal)) h (fun k => (G k : EReal)) l
      = refRow (fun k => (X k : EReal)) (fun k => (D k : EReal)) h (fun k => (G k : EReal)) l := by
  obtain ⟨v, hv, e⟩ := meanSq_real X
  unfold kernelRow refRow refMean
  rw [e, rsqrt_real hv, c1024, cNegHalf, div_real _ hv.ne']
  simp only [← EReal.coe_mul, coe_sum]
  rw [div_real _ (by norm_num), div_real _ (by norm_num)]
  simp only [← EReal.coe_mul, ← EReal.coe_sub, add_assoc, ← EReal.coe_add]
  congr 2
  have hs : ∑ k, D k * G k * (X k * (Real.sqrt v)⁻¹) = (∑ k, X k * (D k * G k)) * (Real.sqrt v)⁻¹ := by
    rw [Finset.sum_mul]; exact Finset.sum_congr rfl fun k _ => by ring
  have hq : (Real.sqrt v)⁻¹ / v = (Real.sqrt v)⁻¹ * (Real.sqrt v)⁻¹ * (Real.sqrt v)⁻¹ := by
    have h2 := Real.mul_self_sqrt hv.le
    have h0 := (Real.sqrt_pos.2 hv).ne'
    field_simp
    nlinarith
  rw [hs, hq]
  ring

end Cert.InBwdEq
end
-- ==== Proof.InBwdBlock.lean ====
module

public import proofs.«01_k».proof.Proof.InBwdEq
public import proofs.«01_k».proof.Proof.Gen.InBwdIdeal.Value
public import Idealize.ShloMosaic.Lib.Pipeline.ValueKit

/-!
# What the norm's backward kernel leaves in its result arrays

The kernel walks the 2048 rows in four blocks of 512. At each it writes the block's rows of `dx` and adds the block's
part of the gain's gradient into one row. `dx_array` states the first array, `dg_array` the second.
-/

@[expose] public section

set_option maxRecDepth 16384

noncomputable section

namespace Cert.InBwdIdeal.Block

open Idealize.ShloMosaic Idealize.ShloMosaic.TcCoe Idealize.SL.Sem
open Idealize.ShloMosaic.Pipeline (Dat)
open Cert.InBwdIdeal Cert.InBwdIdeal.Gen Cert.InBwdEq

variable (m : (ℓ : Loc nD τ sig) → Buf (Elt Ideal) ℓ)

/-- Row `r` of `dz · w`ᵀ, the cotangent of the normed row. -/
def cot {n : ℕ} (dz : Fin n → Fin 1792 → EReal) (w : Fin 1024 → Fin 1792 → EReal) (r : Fin n) (l : Fin 1024) : EReal :=
  ∑ k, dz r k * w l k

/-- The `dx` block at a row and a lane. -/
theorem pay6_at (dz : FVec Ideal S512x1792 .bf16) (wt : FVec Ideal S1792x1024 .bf16) (x dh1 : FVec Ideal S512x1024 .f32)
    (g : FVec Ideal S1x1024 .f32) (r : Fin 512) (l : Fin 1024) :
    k0_pay6 (F := Ideal) dz wt x dh1 g (ix2 r l)
      = kernelRow (fun k => x (ix2 r k)) (cot (fun a b => dz (ix2 a b)) (fun a b => wt (ix2 b a)) r)
          (fun k => dh1 (ix2 r k)) (fun k => g (ix2 0 k)) l := by
  pointwise [k0_pay6, k0_pay5, k0_pay4, k0_pay3]
  rfl

/-- The gain's part of one block, at a lane: the sum over the block's rows. -/
theorem pay7_at (dz : FVec Ideal S512x1792 .bf16) (wt : FVec Ideal S1792x1024 .bf16) (x : FVec Ideal S512x1024 .f32) (l : Fin 1024) :
    k0_pay7 (F := Ideal) dz wt x (ix2 0 l)
      = ∑ r : Fin 512, cot (fun a b => dz (ix2 a b)) (fun a b => wt (ix2 b a)) r l
          * (x (ix2 r l) * Ideal.rsqrt (meanSq fun k => x (ix2 r k))) := by
  pointwise [k0_pay7, k0_pay5, k0_pay4, k0_pay3]
  rfl

/-- The kernel's `dx`, of the whole arrays. -/
def dxOf (x : FVec Ideal S2048x1024 .f32) (g : FVec Ideal S1x1024 .f32) (w : FVec Ideal S1024x1792 .f32)
    (dz : FVec Ideal S2048x1792 .f32) (dh : FVec Ideal S2048x1024 .f32) : FVec Ideal S2048x1024 .f32 := fun i =>
  kernelRow (fun k => x (ix2 (i 0) k)) (cot (fun a b => dz (ix2 a b)) (fun a b => w (ix2 a b)) (i 0))
    (fun k => dh (ix2 (i 0) k)) (fun k => g (ix2 0 k)) (i 1)

/-- The kernel's gradient of the gain, of the whole arrays. -/
def dgOf (x : FVec Ideal S2048x1024 .f32) (w : FVec Ideal S1024x1792 .f32) (dz : FVec Ideal S2048x1792 .f32) :
    FVec Ideal S1x1024 .f32 := fun i =>
  ∑ r : Fin 2048, cot (fun a b => dz (ix2 a b)) (fun a b => w (ix2 a b)) r (i 1)
    * (x (ix2 r (i 1)) * Ideal.rsqrt (meanSq fun k => x (ix2 r k)))

/-- The windows' block indices at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ t.val < 4 :=
  (by decide +kernel : ∀ t : Fin grid0.N, _)

/-- Row `r` of point `t`'s block, as a row of the arrays. -/
def row (t : Fin cfg0.N) (r : Fin 512) : Fin 2048 := ⟨t.val * 512 + r.val, by have := (idx t).2.2.2.2.2.2.2; omega⟩

/-- The blocks of point `t`, read in the argument arrays: rows `512 t …` of `dz`, -/
theorem read0 (c : Dev nD) (t : Fin cfg0.N) (r : Fin 512) (k : Fin 1792) :
    (show FVec Ideal S512x1792 .bf16 from iblk m c 0 t) (ix2 r k)
      = (show FVec Ideal S2048x1792 .f32 from m ((c : Thread nD τ).loc main_arg3)) (ix2 (row t r) k) := by
  blk_point [iblk, V, idx t, row]
/-- the whole transposed weight, -/
theorem read1 (c : Dev nD) (t : Fin cfg0.N) (k : Fin 1792) (l : Fin 1024) :
    (show FVec Ideal S1792x1024 .bf16 from iblk m c 1 t) (ix2 k l)
      = (show FVec Ideal S1024x1792 .f32 from m ((c : Thread nD τ).loc main_arg2)) (ix2 l k) := by
  blk_point [iblk, V, idx t]
/-- of `x`, -/
theorem read2 (c : Dev nD) (t : Fin cfg0.N) (r : Fin 512) (k : Fin 1024) :
    (show FVec Ideal S512x1024 .f32 from iblk m c 2 t) (ix2 r k)
      = (show FVec Ideal S2048x1024 .f32 from m ((c : Thread nD τ).loc main_arg0)) (ix2 (row t r) k) := by
  blk_point [iblk, V, idx t, row]
/-- of the residual's cotangent, -/
theorem read3 (c : Dev nD) (t : Fin cfg0.N) (r : Fin 512) (k : Fin 1024) :
    (show FVec Ideal S512x1024 .f32 from iblk m c 3 t) (ix2 r k)
      = (show FVec Ideal S2048x1024 .f32 from m ((c : Thread nD τ).loc main_arg4)) (ix2 (row t r) k) := by
  blk_point [iblk, V, idx t, row]
/-- and the gain. -/
theorem read4 (c : Dev nD) (t : Fin cfg0.N) (k : Fin 1024) :
    (show FVec Ideal S1x1024 .f32 from iblk m c 4 t) (ix2 0 k)
      = (show FVec Ideal S1x1024 .f32 from m ((c : Thread nD τ).loc main_arg1)) (ix2 0 k) := by
  blk_point [iblk, V, idx t]

/-- At block index `y` of point `t` the kernel stores its `dx` at the array index `y` sits at. -/
theorem dx_point (c : Dev nD) (t : Fin cfg0.N) (y : S512x1024.Idx) :
    k0_pay6 (F := Ideal) (iblk m c 0 t) (iblk m c 1 t) (iblk m c 2 t) (iblk m c 3 t) (iblk m c 4 t) y
      = dxOf (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have he : ((cfg0.win 5).blk t).view.emb y = (ix2 (row t (y 0)) (y 1) : S2048x1024.Idx) := by
    blk_ext [idx t, row]
  rw [he]
  refine (congrArg _ (eq_ix2 y)).trans ((pay6_at _ _ _ _ _ (y 0) (y 1)).trans ?_)
  have e0 := read0 m c t
  have e1 := read1 m c t
  have e2 := read2 m c t
  have e3 := read3 m c t
  have e4 := read4 m c t
  dsimp only at e0 e1 e2 e3 e4
  set_option backward.isDefEq.respectTransparency false in simp only [e0, e1, e2, e3, e4]
  rfl

/-- The result `dx` after the run. -/
theorem dx_array (c : Dev nD) : (dats m 0 c).arrAt 5 cfg0.N
    = dxOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  rcases Nat.eq_zero_or_pos t.val with h | h
  · rw [outsAt0_A m c t (by omega) (by omega)]; frame_out
    exact dx_point m c t y
  · rw [outsAt0_B m c t (by have := (idx t).2.2.2.2.2.2.2; omega) h]; frame_out
    exact dx_point m c t y

/-- What the first point stores in the gain's row, -/
theorem pay1_at (v : FVec Ideal S1x1024 .f32) (j : S1x1024.Idx) : k0_pay1 (F := Ideal) v j = v j := by
  pointwise [k0_pay1]
/-- and what a later point stores, of the row so far and its own part. -/
theorem pay2_at (v a : FVec Ideal S1x1024 .f32) (j : S1x1024.Idx) : k0_pay2 (F := Ideal) v a j = a j + v j := by
  pointwise [k0_pay2]

/-- The gain's gradient after the run. -/
theorem dg_array (c : Dev nD) : (dats m 0 c).arrAt 6 cfg0.N
    = dgOf (m ((c : Thread nD τ).loc main_arg0)) (m ((c : Thread nD τ).loc main_arg2))
        (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => (0 : EReal))
    (fun t j => k0_pay7 (F := Ideal) (iblk m c 0 t) (iblk m c 1 t) (iblk m c 2 t) j)
    (fun t h j => by
      rw [outsAt0_A m c t h (by have := (idx t).2.2.2.2.2.2.2; omega)]; frame_out; rw [pay1_at, zero_add])
    (fun t h j => by
      rw [outsAt0_B m c t h (by omega)]; frame_out; rw [pay2_at])
    (le_of_eq N_0) t0_3 rfl j, zero_add]
  refine Eq.trans (b := ∑ p : Fin cfg0.N, ∑ r : Fin 512,
    cot (fun a b => (show FVec Ideal S2048x1792 .f32 from m ((c : Thread nD τ).loc main_arg3)) (ix2 a b))
        (fun a b => (show FVec Ideal S1024x1792 .f32 from m ((c : Thread nD τ).loc main_arg2)) (ix2 a b)) (row p r) (j 1)
      * ((show FVec Ideal S2048x1024 .f32 from m ((c : Thread nD τ).loc main_arg0)) (ix2 (row p r) (j 1))
        * Ideal.rsqrt (meanSq fun k => (show FVec Ideal S2048x1024 .f32 from m ((c : Thread nD τ).loc main_arg0)) (ix2 (row p r) k))))
    (Fin.sum_fin_congr fun p => ?_) ?_
  · have hj : j = (ix2 0 (j 1) : S1x1024.Idx) := by blk_ext
    refine (congrArg _ hj).trans ((pay7_at _ _ _ (j 1)).trans ?_)
    have e0 := read0 m c p
    have e1 := read1 m c p
    have e2 := read2 m c p
    dsimp only at e0 e1 e2
    set_option backward.isDefEq.respectTransparency false in simp only [e0, e1, e2]
    rfl
  · unfold dgOf
    refine Fin.sum_mul_add_congr fun s k hl => ?_
    rfl

end Cert.InBwdIdeal.Block
end
-- ==== Proof.InBwdRef.lean ====
module

public import proofs.«01_k».proof.Proof.InBwdEq
public import proofs.«01_k».proof.Proof.Gen.InBwdRefIdeal.Run
public import proofs.«01_k».proof.Proof.Gen.Pre_in_bwd_finite

/-!
# What the reference of the norm's backward pass computes, and what its precondition says
-/

@[expose] public section

set_option maxRecDepth 16384

noncomputable section

namespace Cert.InBwdRefIdeal.Ref

open Idealize.ShloMosaic Idealize.ShloMosaic.TcCoe Idealize.SL.Sem
open Cert.InBwdRefIdeal Cert.InBwdRefIdeal.Gen Cert.InBwdEq

variable (m : (ℓ : Loc nD τ sig) → Buf (Elt Ideal) ℓ)

/-- The reference's `dx`, of the whole arrays. -/
def dxOf (x : FVec Ideal S2048x1024 .f32) (g : FVec Ideal S1x1024 .f32) (w : FVec Ideal S1024x1792 .f32)
    (dz : FVec Ideal S2048x1792 .f32) (dh : FVec Ideal S2048x1024 .f32) : FVec Ideal S2048x1024 .f32 := fun i =>
  refRow (fun k => x (ix2 (i 0) k)) (fun l => ∑ k, dz (ix2 (i 0) k) * w (ix2 l k)) (fun k => dh (ix2 (i 0) k))
    (fun k => g (ix2 0 k)) (i 1)

/-- The reference's gradient of the gain, of the whole arrays. -/
def dgOf (x : FVec Ideal S2048x1024 .f32) (w : FVec Ideal S1024x1792 .f32) (dz : FVec Ideal S2048x1792 .f32) :
    FVec Ideal S1x1024 .f32 := fun i =>
  ∑ r : Fin 2048, x (ix2 r (i 1)) * Ideal.rsqrt (meanSq fun k => x (ix2 r k)) * ∑ k, dz (ix2 r k) * w (ix2 (i 1) k)

/-- The reference's run: its two results as these functions of its arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v36) = dxOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v19) = dgOf (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩)
    (Value.run (F := Ideal) m ρ)
  · funext i
    unfold dxOf refRow refMean
    idx_vars i
    pointwise [Value.res_main_v36]
    simp only [Fin.sum_univ_one, Fin.isValue]
  · funext i
    unfold dgOf
    idx_vars i
    pointwise

end Cert.InBwdRefIdeal.Ref

namespace Cert.Pre_in_bwd_finite

open Idealize.ShloMosaic Cert.Reals

/-- The precondition: the rows, the gain, the weight and the incoming cotangent are arrays of real numbers. -/
theorem reals (x : FVec Ideal S2048x1024 .f32) (g : FVec Ideal S1x1024 .f32) (w : FVec Ideal S1024x1792 .f32)
    (dz : FVec Ideal S2048x1792 .f32) (dh : FVec Ideal S2048x1024 .f32)
    (h : fn (F := Ideal) x g w dz dh = fun _ => 1#1) :
    (∃ X : S2048x1024.Idx → ℝ, x = fun i => (X i : EReal)) ∧ (∃ G : S1x1024.Idx → ℝ, g = fun i => (G i : EReal))
      ∧ (∃ W : S1024x1792.Idx → ℝ, w = fun i => (W i : EReal)) ∧ (∃ D : S2048x1792.Idx → ℝ, dz = fun i => (D i : EReal)) := by
  have h0 := congrFun h ix0
  unfold fn fn_part1 at h0
  simp only [andi, IntOp.andi_eq_one] at h0
  obtain ⟨⟨⟨ha, hb⟩, hc⟩, hd⟩ := h0
  haveI : Subsingleton S_.Idx := ⟨fun a b => funext fun i => i.elim0⟩
  exact ⟨real_of_all _ _ _ _ _ _ ha, real_of_all _ _ _ _ _ _ hb, real_of_all _ _ _ _ _ _ hc, real_of_all _ _ _ _ _ _ hd⟩

end Cert.Pre_in_bwd_finite
end
-- ==== Proof.InBwdClaims.lean ====
module

public import proofs.«01_k».proof.Defs
public import proofs.«01_k».proof.Proof.Gen.InBwd.Frame
public import proofs.«01_k».proof.Proof.InBwdBlock
public import proofs.«01_k».proof.Proof.InBwdRef
public import Idealize.ShloMosaic.Lib.Claim
public import Idealize.ShloMosaic.Lib.Quiescent

/-!
# The claims about the first norm's backward pass
-/

@[expose] public section

set_option maxRecDepth 16384

noncomputable section

namespace Cert.Proof.InBwd

open Idealize.ShloMosaic Idealize.ShloMosaic.TcCoe Idealize.SL.Sem
open Cert.InBwdEq

/-- The kernel's program runs and ends quiescent, its arguments unchanged. -/
theorem frame : Cert.quiescent_InBwd := fun m ρ _ => Cert.InBwd.Gen.frame m ρ
/-- So does its idealization, -/
theorem frameIdeal : Cert.quiescent_InBwdIdeal := fun m ρ _ => Cert.InBwdIdeal.Gen.frame m ρ
/-- and the reference. -/
theorem frameRef : Cert.quiescent_InBwdRefIdeal := fun m ρ _ =>
  (θ_run Cert.InBwdRefIdeal.defs _ _).mono (fun r h => ⟨fun c => (h c).2.2,
      Idealize.ShloMosaic.sem_eq_zero_of_no_sems (by decide) r.2⟩)
    (Cert.InBwdRefIdeal.Value.run (F := Ideal) m ρ)

/-- On real arrays the two `dx` are equal, row by row. -/
theorem dx_eq (X : Cert.InBwdIdeal.S2048x1024.Idx → ℝ) (G : Cert.InBwdIdeal.S1x1024.Idx → ℝ) (W : Cert.InBwdIdeal.S1024x1792.Idx → ℝ)
    (D : Cert.InBwdIdeal.S2048x1792.Idx → ℝ) (dh : FVec Ideal Cert.InBwdIdeal.S2048x1024 .f32) :
    Cert.InBwdRefIdeal.Ref.dxOf (fun i => (X i : EReal)) (fun i => (G i : EReal)) (fun i => (W i : EReal)) (fun i => (D i : EReal)) dh
      = Cert.InBwdIdeal.Block.dxOf (fun i => (X i : EReal)) (fun i => (G i : EReal)) (fun i => (W i : EReal)) (fun i => (D i : EReal)) dh := by
  funext i
  unfold Cert.InBwdRefIdeal.Ref.dxOf Cert.InBwdIdeal.Block.dxOf Cert.InBwdIdeal.Block.cot
  simp only [← EReal.coe_mul, Cert.Reals.coe_sum]
  exact (row_eq _ _ _ _ _).symm

/-- The two gradients of the gain are the same sum. -/
theorem dg_eq (x : FVec Ideal Cert.InBwdIdeal.S2048x1024 .f32) (w : FVec Ideal Cert.InBwdIdeal.S1024x1792 .f32)
    (dz : FVec Ideal Cert.InBwdIdeal.S2048x1792 .f32) :
    Cert.InBwdRefIdeal.Ref.dgOf x w dz = Cert.InBwdIdeal.Block.dgOf x w dz := by
  funext i
  exact Finset.sum_congr rfl fun r _ => mul_comm _ _

/-- Where rows, gain, weight and cotangent are real, the kernel's two results are the reference's. -/
theorem algebraic : Cert.algebraic_InBwdIdeal_InBwdRefIdeal_pre_in_bwd_finite := by
  intro m g m' g' hpre hagree
  refine ⟨_, _, Cert.InBwdIdeal.Value.run_blocks m g,
    (θ_run Cert.InBwdRefIdeal.defs _ _).mono (fun r h c => ⟨(h c).1.trans ?_, (h c).2.1.trans ?_, (h c).2.2⟩)
      (Cert.InBwdRefIdeal.Ref.run m' g')⟩
  all_goals obtain ⟨e0, e1, e2, e3, e4⟩ := hagree c
  · obtain ⟨⟨X, hX⟩, ⟨G, hG⟩, ⟨W, hW⟩, ⟨D, hD⟩⟩ := Cert.Pre_in_bwd_finite.reals _ _ _ _ _ (hpre c)
    rw [e0, e1, e2, e3, e4, Cert.InBwdIdeal.Block.dx_array m c, hX, hG, hW, hD]
    exact dx_eq X G W D _
  · rw [e0, e2, e3, Cert.InBwdIdeal.Block.dg_array m c]
    exact dg_eq _ _ _

end Cert.Proof.InBwd
end
-- ==== Proof.TailEq.lean ====
module

public import proofs.«01_k».proof.Proof.InBwdEq

/-!
# The loss and the gated embedding, row by row

One row `h` of the residual stream passes the gate `1 / (1 + exp (-(h · w)))` times the embedding `q · w'`, the last
norm, and the squared distance to the target row `t`. The kernel writes the loss's gradient by hand; the reference
differentiates the loss. `out_eq`, `gate_eq`, `embed_eq`, `gain_eq` and `loss_eq` say that both have the same values.
-/

@[expose] public section

noncomputable section

namespace Cert.TailEq

open Idealize.ShloMosaic Cert.Reals Cert.InBwdEq

/-- The arrays a row's value is made of: the rows of the stream, of the embedding and of the target, the two weights
    and the last gain. -/
structure Args where
  h : Fin 1024 → EReal
  q : Fin 256 → EReal
  t : Fin 1024 → EReal
  wg : Fin 1024 → Fin 1024 → EReal
  wp : Fin 256 → Fin 1024 → EReal
  g : Fin 1024 → EReal

namespace Args

variable (a : Args)

/-- The gate, -/
def gate (l : Fin 1024) : EReal := Ideal.logistic (∑ k, a.h k * a.wg k l)
/-- the embedding, -/
def emb (l : Fin 1024) : EReal := ∑ k, a.q k * a.wp k l
/-- the stream after the gated embedding, -/
def h3 (l : Fin 1024) : EReal := a.h l + a.gate l * a.emb l
/-- its normed row, -/
def xhat (l : Fin 1024) : EReal := a.h3 l * Ideal.rsqrt (meanSq a.h3)
/-- and the distance to the target. -/
def err (l : Fin 1024) : EReal := a.xhat l * a.g l - a.t l

/-- The cotangent of the normed row: as the kernel writes it, -/
def dy (l : Fin 1024) : EReal := a.err l * Ideal.ofBits .f32 0x3A800000#32
/-- and as the derivative of `1/2 · mean (err²)`. -/
def dyRef (l : Fin 1024) : EReal :=
  Ideal.div (Ideal.ofBits .f32 0x3F000000#32) (Ideal.ofBits .f32 0x44800000#32)
    * (Ideal.ofBits .f32 0x40000000#32 * a.err l)

/-- The cotangent of the stream after the embedding: the norm's gradient in closed form, -/
def dh3 (l : Fin 1024) : EReal :=
  Ideal.rsqrt (meanSq a.h3) * (a.dy l * a.g l - a.xhat l *
    Ideal.div (∑ k, a.dy k * a.g k * a.xhat k) (Ideal.ofBits .f32 0x44800000#32))
/-- and operation by operation. -/
def dh3Ref (l : Fin 1024) : EReal :=
  a.dyRef l * a.g l * Ideal.rsqrt (meanSq a.h3) + a.h3 l * refMean a.h3 a.dyRef a.g + refMean a.h3 a.dyRef a.g * a.h3 l

/-- The cotangent of the gate's argument, -/
def dgate (l : Fin 1024) : EReal := a.dh3 l * a.emb l * a.gate l * (1 - a.gate l)
def dgateRef (l : Fin 1024) : EReal := a.dh3Ref l * a.emb l * (a.gate l * (1 - a.gate l))
/-- of the embedding, -/
def demb (l : Fin 1024) : EReal := a.dh3 l * a.gate l
def dembRef (l : Fin 1024) : EReal := a.gate l * a.dh3Ref l
/-- and of the row. -/
def dh (l : Fin 1024) : EReal := a.dh3 l + ∑ k, a.dgate k * a.wg l k
def dhRef (l : Fin 1024) : EReal := a.dh3Ref l + ∑ k, a.dgateRef k * a.wg l k

/-- The two cotangents of the normed row are one. -/
theorem dy_eq (l : Fin 1024) : a.dyRef l = a.dy l := by
  unfold dyRef dy
  rw [cHalf, c1024, cTwo, cInv1024, div_real _ (by norm_num), ← mul_assoc, ← EReal.coe_mul, mul_comm]
  norm_num

/-- The arrays hold real numbers. -/
structure Real : Prop where
  h : ∀ k, IsReal (a.h k)
  q : ∀ k, IsReal (a.q k)
  t : ∀ k, IsReal (a.t k)
  wg : ∀ k l, IsReal (a.wg k l)
  wp : ∀ k l, IsReal (a.wp k l)
  g : ∀ k, IsReal (a.g k)

variable {a}

theorem Real.h3 (r : a.Real) (l : Fin 1024) : IsReal (a.h3 l) :=
  (r.h l).add (((IsReal.sum fun k => (r.h k).mul (r.wg k l)).logistic).mul (.sum fun k => (r.q k).mul (r.wp k l)))

theorem Real.rsq (r : a.Real) : IsReal (Ideal.rsqrt (meanSq a.h3)) := by
  choose X hX using r.h3
  obtain ⟨v, hv, e⟩ := meanSq_real X
  have : a.h3 = fun k => (X k : EReal) := funext hX
  rw [this, e, rsqrt_real hv]
  exact .coe _

theorem Real.err (r : a.Real) (l : Fin 1024) : IsReal (a.err l) :=
  (((r.h3 l).mul r.rsq).mul (r.g l)).sub (r.t l)

/-- The two cotangents of the stream after the embedding are one. -/
theorem dh3_eq (r : a.Real) (l : Fin 1024) : a.dh3Ref l = a.dh3 l := by
  choose X hX using r.h3
  choose E hE using r.err
  choose G hG using r.g
  have hx : a.h3 = fun k => (X k : EReal) := funext hX
  have hg : a.g = fun k => (G k : EReal) := funext hG
  have hd : a.dyRef = fun k => ((E k * (1 / 1024) : ℝ) : EReal) := funext fun k => by
    rw [dy_eq, dy, hE, cInv1024, EReal.coe_mul]
  have hd' : a.dy = fun k => ((E k * (1 / 1024) : ℝ) : EReal) := funext fun k => by rw [← dy_eq, hd]
  have e := row_eq X (fun k => E k * (1 / 1024)) G (fun _ => 0) l
  unfold kernelRow refRow at e
  unfold dh3Ref dh3 xhat
  rw [hd, hd', hg, hx]
  simpa only [zero_add] using e.symm

theorem dgate_eq (r : a.Real) (l : Fin 1024) : a.dgateRef l = a.dgate l := by
  rw [dgateRef, dgate, dh3_eq r, mul_assoc (a.dh3 l * a.emb l)]
theorem demb_eq (r : a.Real) (l : Fin 1024) : a.dembRef l = a.demb l := by
  rw [dembRef, demb, dh3_eq r, mul_comm]
/-- The two cotangents of the row are one. -/
theorem dh_eq (r : a.Real) (l : Fin 1024) : a.dhRef l = a.dh l := by
  simp only [dhRef, dh, dh3_eq r, dgate_eq r]

end Args

variable {n : ℕ} (A : Fin n → Args)

/-- The gradient of the gate's weight, summed over the rows, -/
theorem gate_eq (h : ∀ r, (A r).Real) (k l : Fin 1024) :
    ∑ r, (A r).dgateRef l * (A r).h k = ∑ r, (A r).h k * (A r).dgate l :=
  Finset.sum_congr rfl fun r _ => by rw [Args.dgate_eq (h r), mul_comm]
/-- of the embedding's weight, -/
theorem embed_eq (h : ∀ r, (A r).Real) (k : Fin 256) (l : Fin 1024) :
    ∑ r, (A r).dembRef l * (A r).q k = ∑ r, (A r).q k * (A r).demb l :=
  Finset.sum_congr rfl fun r _ => by rw [Args.demb_eq (h r), mul_comm]
/-- of the last gain, -/
theorem gain_eq (l : Fin 1024) : ∑ r, (A r).xhat l * (A r).dyRef l = ∑ r, (A r).dy l * (A r).xhat l :=
  Finset.sum_congr rfl fun r _ => by rw [Args.dy_eq, mul_comm]
/-- and the loss, `2048 · (1/2 · Σ mean (err²)) = Σ err²`. -/
theorem loss_eq (h : ∀ r, (A r).Real) :
    Ideal.ofBits .f32 0x45000000#32 * (Ideal.ofBits .f32 0x3F000000#32 *
        ∑ r, Ideal.div (∑ l, (A r).err l * (A r).err l) (Ideal.ofBits .f32 0x44800000#32))
      = ∑ r, ∑ l, (A r).err l * (A r).err l := by
  choose E hE using fun r => (h r).err
  simp only [hE, ← EReal.coe_mul, coe_sum, c2048, cHalf, c1024]
  simp only [div_real _ (show (1024 : ℝ) ≠ 0 by norm_num), coe_sum, ← EReal.coe_mul]
  congr 1
  rw [← Finset.sum_div]
  ring

end Cert.TailEq
end
-- ==== Proof.TailBlock.lean ====
module

public import proofs.«01_k».proof.Proof.TailEq
public import proofs.«01_k».proof.Proof.Gen.TailIdeal.Value
public import Idealize.ShloMosaic.Lib.Pipeline.ValueKit

/-!
# What the last kernel leaves in its result arrays

The kernel walks the 2048 rows in eight blocks of 256. At each it writes the block's rows of the stream's cotangent, twice,
and adds the block's part of the three gradients and of the loss. The theorems `…_array` state the six arrays.
-/

@[expose] public section

set_option maxRecDepth 16384

noncomputable section

namespace Cert.TailIdeal.Block

open Idealize.ShloMosaic Idealize.ShloMosaic.TcCoe Idealize.SL.Sem
open Idealize.ShloMosaic.Pipeline (Dat)
open Cert.TailIdeal Cert.TailIdeal.Gen Cert.Reals Cert.InBwdEq Cert.TailEq

section Payloads

variable (x tg : FVec Ideal S256x1024 .f32) (p : FVec Ideal S256x256 .f32) (wg : FVec Ideal S1024x1024 .bf16)
  (W : FVec Ideal S4x256x256 .bf16) (gf : FVec Ideal S1x1024 .f32)

/-- The arrays of row `r` of a block. -/
def blockArgs (r : Fin 256) : Args where
  h k := x (ix2 r k)
  q k := p (ix2 r k)
  t k := tg (ix2 r k)
  wg k l := wg (ix2 k l)
  wp k l := W (ix3 ⟨l.val / 256, by omega⟩ k ⟨l.val % 256, by omega⟩)
  g l := gf (ix2 0 l)

/-- The embedding's four groups of columns. -/
abbrev w0 : Vec Ideal S1x256x256 .bf16 :=
  View.ld (Val := Elt Ideal) (e' := .bf16) W (Rect.unit (s := S4x256x256) ![0, 0, 0] ![1, 256, 256] inb_S4x256x256_S1x256x256_0_0_0)
abbrev w1 : Vec Ideal S1x256x256 .bf16 :=
  View.ld (Val := Elt Ideal) (e' := .bf16) W (Rect.unit (s := S4x256x256) ![1, 0, 0] ![1, 256, 256] inb_S4x256x256_S1x256x256_1_0_0)
abbrev w2 : Vec Ideal S1x256x256 .bf16 :=
  View.ld (Val := Elt Ideal) (e' := .bf16) W (Rect.unit (s := S4x256x256) ![2, 0, 0] ![1, 256, 256] inb_S4x256x256_S1x256x256_2_0_0)
abbrev w3 : Vec Ideal S1x256x256 .bf16 :=
  View.ld (Val := Elt Ideal) (e' := .bf16) W (Rect.unit (s := S4x256x256) ![3, 0, 0] ![1, 256, 256] inb_S4x256x256_S1x256x256_3_0_0)

/-- The gate, the embedding, the norm's factor and the normed rows of a block. -/
abbrev gateV := k0_pay17 (F := Ideal) x wg
abbrev embV := k0_pay18 (F := Ideal) p (w0 W) (w1 W) (w2 W) (w3 W)
abbrev h3V := k0_pay19 (F := Ideal) x p wg (w0 W) (w1 W) (w2 W) (w3 W)
abbrev rsqV := k0_pay20 (F := Ideal) x p wg (w0 W) (w1 W) (w2 W) (w3 W)
abbrev xhatV := k0_pay21 (F := Ideal) x p wg (w0 W) (w1 W) (w2 W) (w3 W)

local notation "A" => blockArgs x tg p wg W gf

theorem gate_at (r : Fin 256) (l : Fin 1024) : gateV x wg (ix2 r l) = (A r).gate l := by
  unfold gateV
  pointwise [k0_pay17, k0_pay15]
  rfl

/-- Where a group's column sits in the weight. -/
theorem group (j : Fin 4) (inb) (k b : Fin 256) :
    (Rect.unit (s := S4x256x256) ![j.val, 0, 0] ![1, 256, 256] inb).idx (ix3 0 k b) = (ix3 j k b : S4x256x256.Idx) := by
  funext a
  refine Fin.ext ?_
  rw [Rect.idx_unit_val]
  match a with
  | 0 => exact Nat.add_zero _
  | 1 => exact Nat.zero_add _
  | 2 => exact Nat.zero_add _

theorem emb_at (r : Fin 256) (l : Fin 1024) : embV p W (ix2 r l) = (A r).emb l := by
  have e : ∀ (j : Fin 4) (b : Fin 256), l.val = 256 * j.val + b.val →
      (∑ k, p (ix2 r k) * W (ix3 j k b)) = (A r).emb l := fun j b h =>
    Finset.sum_congr rfl fun k _ => by
      have e1 : (⟨l.val / 256, by omega⟩ : Fin 4) = j := Fin.ext (by dsimp only; omega)
      have e2 : (⟨l.val % 256, by omega⟩ : Fin 256) = b := Fin.ext (by dsimp only; omega)
      dsimp only [blockArgs]
      rw [e1, e2]
  have r0 : ∀ (k b : Fin 256), w0 W (ix3 0 k b) = W (ix3 0 k b) := fun k b => congrArg W (group 0 _ k b)
  have r1 : ∀ (k b : Fin 256), w1 W (ix3 0 k b) = W (ix3 1 k b) := fun k b => congrArg W (group 1 _ k b)
  have r2 : ∀ (k b : Fin 256), w2 W (ix3 0 k b) = W (ix3 2 k b) := fun k b => congrArg W (group 2 _ k b)
  have r3 : ∀ (k b : Fin 256), w3 W (ix3 0 k b) = W (ix3 3 k b) := fun k b => congrArg W (group 3 _ k b)
  unfold embV
  pointwise [k0_pay18, k0_pay16]
  simp only [r0, r1, r2, r3]
  by_cases h0 : l.val < 256
  · rw [dif_pos h0]; exact e 0 ⟨l.val, h0⟩ (by simp)
  rw [dif_neg h0]
  by_cases h1 : l.val - 256 < 256
  · rw [dif_pos h1]; exact e 1 ⟨l.val - 256, h1⟩ (by simp; omega)
  rw [dif_neg h1]
  by_cases h2 : l.val - 256 - 256 < 256
  · rw [dif_pos h2]; exact e 2 ⟨l.val - 256 - 256, h2⟩ (by simp; omega)
  rw [dif_neg h2]
  exact e 3 ⟨l.val - 256 - 256 - 256, by omega⟩ (by simp; omega)

theorem h3_at (r : Fin 256) (l : Fin 1024) : h3V x p wg W (ix2 r l) = (A r).h3 l := by
  unfold h3V
  pointwise [k0_pay19]
  rw [show k0_pay17 (F := Ideal) x wg (ix2 r l) = _ from gate_at x tg p wg W gf r l,
    show k0_pay18 (F := Ideal) p _ _ _ _ (ix2 r l) = _ from emb_at x tg p wg W gf r l]
  rfl

theorem rsq_at (r : Fin 256) : rsqV x p wg W (ix2 r 0) = Ideal.rsqrt (meanSq (A r).h3) := by
  have e := fun l => h3_at x tg p wg W gf r l
  unfold h3V at e
  unfold rsqV
  pointwise [k0_pay20]
  simp only [e, meanSq]

theorem xhat_at (r : Fin 256) (l : Fin 1024) : xhatV x p wg W (ix2 r l) = (A r).xhat l := by
  have e := h3_at x tg p wg W gf r l
  have e' := rsq_at x tg p wg W gf r
  unfold h3V at e
  unfold rsqV at e'
  unfold xhatV
  pointwise [k0_pay21]
  rw [e, e']
  rfl

theorem err_at (r : Fin 256) (l : Fin 1024) : k0_pay23 (F := Ideal) (xhatV x p wg W) gf tg (ix2 r l) = (A r).err l := by
  pointwise [k0_pay23, k0_pay22]
  rw [xhat_at x tg p wg W gf r l]
  rfl

theorem dy_at (r : Fin 256) (l : Fin 1024) : k0_pay24 (F := Ideal) (xhatV x p wg W) gf tg (ix2 r l) = (A r).dy l := by
  pointwise [k0_pay24]
  rw [err_at]
  rfl

theorem dh3_at (r : Fin 256) (l : Fin 1024) :
    k0_pay25 (F := Ideal) (rsqV x p wg W) (xhatV x p wg W) gf tg (ix2 r l) = (A r).dh3 l := by
  pointwise [k0_pay25, k0_pay22]
  simp only [dy_at, xhat_at x tg p wg W gf, rsq_at x tg p wg W gf]
  rfl

theorem dgate_at (r : Fin 256) (l : Fin 1024) :
    k0_pay26 (F := Ideal) (gateV x wg) (embV p W) (rsqV x p wg W) (xhatV x p wg W) gf tg (ix2 r l) = (A r).dgate l := by
  pointwise [k0_pay26]
  rw [dh3_at, gate_at x tg p wg W gf, emb_at x tg p wg W gf, Args.dgate]

theorem dh_at (r : Fin 256) (l : Fin 1024) :
    k0_pay27 (F := Ideal) (gateV x wg) (embV p W) (rsqV x p wg W) (xhatV x p wg W) gf tg wg (ix2 r l) = (A r).dh l := by
  pointwise [k0_pay27]
  simp only [dh3_at, dgate_at]
  rfl

theorem dwg_at (k l : Fin 1024) :
    k0_pay30 (F := Ideal) (k0_pay15 x) (gateV x wg) (embV p W) (rsqV x p wg W) (xhatV x p wg W) gf tg (ix2 k l)
      = ∑ r, (A r).h k * (A r).dgate l := by
  pointwise [k0_pay30, k0_pay15]
  simp only [dgate_at]
  rfl

theorem dwp_at (k : Fin 256) (l : Fin 1024) :
    k0_pay31 (F := Ideal) (k0_pay16 p) (gateV x wg) (rsqV x p wg W) (xhatV x p wg W) gf tg (ix2 k l)
      = ∑ r, (A r).q k * (A r).demb l := by
  pointwise [k0_pay31, k0_pay16]
  simp only [dh3_at, gate_at x tg p wg W gf]
  rfl

theorem dgf_at (l : Fin 1024) :
    k0_pay1 (F := Ideal) (xhatV x p wg W) (k0_pay24 (F := Ideal) (xhatV x p wg W) gf tg) (ix2 0 l)
      = ∑ r, (A r).dy l * (A r).xhat l := by
  pointwise [k0_pay1]
  simp only [dy_at, xhat_at x tg p wg W gf]

theorem loss_at :
    k0_pay2 (F := Ideal) (k0_pay23 (F := Ideal) (xhatV x p wg W) gf tg) (ix2 0 0)
      = ∑ r, ∑ l, (A r).err l * (A r).err l := by
  pointwise [k0_pay2]
  simp only [err_at]

end Payloads

end Cert.TailIdeal.Block
end
-- ==== Proof.TailArrays.lean ====
module

public import proofs.«01_k».proof.Proof.TailBlock
public import Idealize.ShloMosaic.Lib.Pipeline.ReadBack

/-!
# The last kernel's result arrays

Each array of the last kernel, of the argument arrays: a block's rows are rows of the arguments, and the sums over the
eight blocks are sums over the 2048 rows.
-/

@[expose] public section

set_option maxRecDepth 16384

noncomputable section

namespace Cert.TailIdeal.Block

open Idealize.ShloMosaic Idealize.ShloMosaic.TcCoe Idealize.SL.Sem
open Idealize.ShloMosaic.Pipeline (Dat)
open Cert.TailIdeal Cert.TailIdeal.Gen Cert.Reals Cert.InBwdEq Cert.TailEq

variable (m : (ℓ : Loc nD τ sig) → Buf (Elt Ideal) ℓ)

/-- Row `r` of the argument arrays. -/
def rowArgs (x : FVec Ideal S2048x1024 .f32) (p : FVec Ideal S2048x256 .f32) (tg : FVec Ideal S2048x1024 .f32)
    (wg : FVec Ideal S1024x1024 .f32) (wp : FVec Ideal S256x1024 .f32) (g : FVec Ideal S1024 .f32) (r : Fin 2048) : Args where
  h k := x (ix2 r k)
  q k := p (ix2 r k)
  t k := tg (ix2 r k)
  wg k l := wg (ix2 k l)
  wp k l := wp (ix2 k l)
  g l := g (ix1 l)

/-- The rows of a run's arguments. -/
def args (c : Dev nD) : Fin 2048 → Args :=
  rowArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The windows' block indices at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0] ∧ win0_6.index t = ![t.val, 0]
    ∧ win0_11.index t = ![t.val, 0] ∧ t.val < 8 :=
  (by decide +kernel : ∀ t : Fin grid0.N, _)

theorem lt8 (t : Fin cfg0.N) : t.val < 8 := (idx t).2.2.2.2.2.2.2.2

/-- Row `r` of point `t`'s block, as a row of the arrays. -/
def row (t : Fin cfg0.N) (r : Fin 256) : Fin 2048 := ⟨t.val * 256 + r.val, by have := lt8 t; omega⟩

/-- The blocks of point `t`, read in the argument arrays: rows of the stream, -/
theorem read0 (c : Dev nD) (t : Fin cfg0.N) (r : Fin 256) (k : Fin 1024) :
    (show FVec Ideal S256x1024 .f32 from iblk m c 0 t) (ix2 r k)
      = (show FVec Ideal S2048x1024 .f32 from m ((c : Thread nD τ).loc main_arg0)) (ix2 (row t r) k) := by
  blk_point [iblk, V, idx t, row]
/-- of the embedding's input, -/
theorem read1 (c : Dev nD) (t : Fin cfg0.N) (r : Fin 256) (k : Fin 256) :
    (show FVec Ideal S256x256 .f32 from iblk m c 1 t) (ix2 r k)
      = (show FVec Ideal S2048x256 .f32 from m ((c : Thread nD τ).loc main_arg1)) (ix2 (row t r) k) := by
  blk_point [iblk, V, idx t, row]
/-- of the target, -/
theorem read2 (c : Dev nD) (t : Fin cfg0.N) (r : Fin 256) (k : Fin 1024) :
    (show FVec Ideal S256x1024 .f32 from iblk m c 2 t) (ix2 r k)
      = (show FVec Ideal S2048x1024 .f32 from m ((c : Thread nD τ).loc main_arg2)) (ix2 (row t r) k) := by
  blk_point [iblk, V, idx t, row]
/-- the gate's weight, -/
theorem read3 (c : Dev nD) (t : Fin cfg0.N) (k l : Fin 1024) :
    (show FVec Ideal S1024x1024 .bf16 from iblk m c 3 t) (ix2 k l)
      = (show FVec Ideal S1024x1024 .f32 from m ((c : Thread nD τ).loc main_arg3)) (ix2 k l) := by
  blk_point [iblk, V, idx t]
/-- the embedding's weight in its four groups of columns, -/
theorem read4 (c : Dev nD) (t : Fin cfg0.N) (j : Fin 4) (k l : Fin 256) :
    (show FVec Ideal S4x256x256 .bf16 from iblk m c 4 t) (ix3 j k l)
      = (show FVec Ideal S256x1024 .f32 from m ((c : Thread nD τ).loc main_arg4)) (ix2 k ⟨j.val * 256 + l.val, by omega⟩) := by
  blk_point [iblk, V, idx t]
/-- and the gain. -/
theorem read5 (c : Dev nD) (t : Fin cfg0.N) (k : Fin 1024) :
    (show FVec Ideal S1x1024 .f32 from iblk m c 5 t) (ix2 0 k)
      = (show FVec Ideal S1024 .f32 from m ((c : Thread nD τ).loc main_arg5)) (ix1 k) := by
  blk_point [iblk, V, idx t]

/-- The arrays of a block's row are the arguments' of that row. -/
theorem blockArgs_eq (c : Dev nD) (t : Fin cfg0.N) (r : Fin 256) :
    blockArgs (iblk m c 0 t) (iblk m c 2 t) (iblk m c 1 t) (iblk m c 3 t) (iblk m c 4 t) (iblk m c 5 t) r
      = args m c (row t r) := by
  have e0 := fun k => read0 m c t r k
  have e1 := fun k => read1 m c t r k
  have e2 := fun k => read2 m c t r k
  have e3 := fun k l => read3 m c t k l
  have e4 := fun j k l => read4 m c t j k l
  have e5 := fun k => read5 m c t k
  dsimp only at e0 e1 e2 e3 e4 e5
  unfold blockArgs args rowArgs
  set_option backward.isDefEq.respectTransparency false in simp only [e0, e1, e2, e3, e4, e5]
  refine congrArg (fun w => Args.mk _ _ _ _ w _) (funext fun k => funext fun l => ?_)
  exact congrArg _ (congrArg (ix2 k) (Fin.ext (by dsimp only; omega)))

/-- At block index `y` of point `t` the kernel stores the stream's cotangent at the array index `y` sits at. -/
theorem dh_point (c : Dev nD) (t : Fin cfg0.N) (y : S256x1024.Idx) :
    k0_pay27 (F := Ideal) (gateV (iblk m c 0 t) (iblk m c 3 t)) (embV (iblk m c 1 t) (iblk m c 4 t))
        (rsqV (iblk m c 0 t) (iblk m c 1 t) (iblk m c 3 t) (iblk m c 4 t))
        (xhatV (iblk m c 0 t) (iblk m c 1 t) (iblk m c 3 t) (iblk m c 4 t)) (iblk m c 5 t) (iblk m c 2 t) (iblk m c 3 t) y
      = (args m c (row t (y 0))).dh (y 1) := by
  exact (congrArg _ (eq_ix2 y)).trans ((dh_at _ _ _ _ _ _ (y 0) (y 1)).trans
    (congrArg (fun a : Args => a.dh (y 1)) (blockArgs_eq m c t (y 0))))

theorem pay28_at (a b d e f g h) (y : S256x1024.Idx) :
    k0_pay28 (F := Ideal) a b d e f g h y = k0_pay27 (F := Ideal) a b d e f g h y := by
  idx_vars y
  pointwise [k0_pay28]
theorem pay29_at (a b d e f g h) (y : S256x1024.Idx) :
    k0_pay29 (F := Ideal) a b d e f g h y = k0_pay27 (F := Ideal) a b d e f g h y := by
  idx_vars y
  pointwise [k0_pay29]

/-- The stream's cotangent after the run, -/
theorem dh_array (c : Dev nD) : (dats m 0 c).arrAt 6 cfg0.N
    = (fun i => (args m c (i 0)).dh (i 1) : FVec Ideal S2048x1024 .f32) := by
  refine (dats m 0 c).arrAt_eq_of_covers 6 _ (by decide +kernel) fun t _ y => ?_
  have he : ((cfg0.win 6).blk t).view.emb y = (ix2 (row t (y 0)) (y 1) : S2048x1024.Idx) := by
    blk_ext [idx t, row]
  have hp := (pay28_at _ _ _ _ _ _ _ y).trans (dh_point m c t y)
  have ht := lt8 t
  blk_simp
  rw [after0_6, he]
  rcases Nat.eq_zero_or_pos t.val with h | h
  · rw [outsAt0_A m c t (by omega) (by omega) (by omega)]; frame_out
    exact hp
  · by_cases h7 : t.val % 8 = 7
    · rw [outsAt0_C m c t (by omega) (by omega) h7]; frame_out
      exact hp
    · rw [outsAt0_B m c t (by omega) (by omega) h7]; frame_out
      exact hp

/-- and its second copy. -/
theorem dhb_array (c : Dev nD) : (dats m 0 c).arrAt 11 cfg0.N
    = (fun i => (args m c (i 0)).dh (i 1) : FVec Ideal S2048x1024 .bf16) := by
  refine (dats m 0 c).arrAt_eq_of_covers 11 _ (by decide +kernel) fun t _ y => ?_
  have he : ((cfg0.win 11).blk t).view.emb y = (ix2 (row t (y 0)) (y 1) : S2048x1024.Idx) := by
    blk_ext [idx t, row]
  have hp := (pay29_at _ _ _ _ _ _ _ y).trans (dh_point m c t y)
  have ht := lt8 t
  blk_simp
  rw [after0_11, he]
  rcases Nat.eq_zero_or_pos t.val with h | h
  · rw [outsAt0_A m c t (by omega) (by omega) (by omega)]; frame_out
    exact hp
  · by_cases h7 : t.val % 8 = 7
    · rw [outsAt0_C m c t (by omega) (by omega) h7]; frame_out
      exact hp
    · rw [outsAt0_B m c t (by omega) (by omega) h7]; frame_out
      exact hp

theorem pay3_at (v : FVec Ideal S1024x1024 .f32) (j) : k0_pay3 (F := Ideal) v j = v j := by idx_vars j; pointwise [k0_pay3]
theorem pay7_at (v a : FVec Ideal S1024x1024 .f32) (j) : k0_pay7 (F := Ideal) v a j = a j + v j := by idx_vars j; pointwise [k0_pay7]
theorem pay4_at (v : FVec Ideal S256x1024 .f32) (j) : k0_pay4 (F := Ideal) v j = v j := by idx_vars j; pointwise [k0_pay4]
theorem pay8_at (v a : FVec Ideal S256x1024 .f32) (j) : k0_pay8 (F := Ideal) v a j = a j + v j := by idx_vars j; pointwise [k0_pay8]
theorem pay5_at (x y : FVec Ideal S256x1024 .f32) (j) : k0_pay5 (F := Ideal) x y j = k0_pay1 (F := Ideal) x y j := by
  idx_vars j; pointwise [k0_pay5]
theorem pay9_at (x y : FVec Ideal S256x1024 .f32) (a : FVec Ideal S1x1024 .f32) (j) :
    k0_pay9 (F := Ideal) x y a j = a j + k0_pay1 (F := Ideal) x y j := by idx_vars j; pointwise [k0_pay9]
theorem pay6_at (x : FVec Ideal S256x1024 .f32) (j) : k0_pay6 (F := Ideal) x j = k0_pay2 (F := Ideal) x (ix2 0 0) := by
  idx_vars j; pointwise [k0_pay6]
theorem pay10_at (x : FVec Ideal S256x1024 .f32) (a : FVec Ideal S8x128 .f32) (j) :
    k0_pay10 (F := Ideal) x a j = a j + k0_pay2 (F := Ideal) x (ix2 0 0) := by idx_vars j; pointwise [k0_pay10]

/-- The gradient of the gate's weight after the run. -/
theorem dwg_array (c : Dev nD) : (dats m 0 c).arrAt 7 cfg0.N
    = (fun i => ∑ r, (args m c r).h (i 0) * (args m c r).dgate (i 1) : FVec Ideal S1024x1024 .f32) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => (0 : EReal))
    (fun t j => k0_pay30 (F := Ideal) (k0_pay15 (iblk m c 0 t)) (gateV (iblk m c 0 t) (iblk m c 3 t)) (embV (iblk m c 1 t) (iblk m c 4 t))
        (rsqV (iblk m c 0 t) (iblk m c 1 t) (iblk m c 3 t) (iblk m c 4 t))
        (xhatV (iblk m c 0 t) (iblk m c 1 t) (iblk m c 3 t) (iblk m c 4 t)) (iblk m c 5 t) (iblk m c 2 t) j)
    (fun t h j => by
      have := lt8 t
      rw [outsAt0_A m c t h (by omega) (by omega)]; frame_out; rw [pay3_at, zero_add])
    (fun t h j => by
      have := lt8 t
      by_cases h7 : t.val % 8 = 7
      · rw [outsAt0_C m c t h (by omega) h7]; frame_out; rw [pay7_at]
      · rw [outsAt0_B m c t h (by omega) h7]; frame_out; rw [pay7_at])
    (le_of_eq N_0) t0_7 rfl j, zero_add]
  refine Eq.trans (b := ∑ p : Fin cfg0.N, ∑ r : Fin 256, (args m c (row p r)).h (j 0) * (args m c (row p r)).dgate (j 1))
    (Fin.sum_fin_congr fun p => ?_) ?_
  · refine (congrArg _ (eq_ix2 j)).trans ((dwg_at _ _ _ _ _ _ (j 0) (j 1)).trans ?_)
    simp only [blockArgs_eq]
  · refine Fin.sum_mul_add_congr fun s k hl => ?_
    rfl

/-- The gradient of the last gain after the run. -/
theorem dgf_array (c : Dev nD) : (dats m 0 c).arrAt 9 cfg0.N
    = (fun i => ∑ r, (args m c r).dy (i 1) * (args m c r).xhat (i 1) : FVec Ideal S1x1024 .f32) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => (0 : EReal))
    (fun t j => k0_pay1 (F := Ideal) (xhatV (iblk m c 0 t) (iblk m c 1 t) (iblk m c 3 t) (iblk m c 4 t))
      (k0_pay24 (F := Ideal) (xhatV (iblk m c 0 t) (iblk m c 1 t) (iblk m c 3 t) (iblk m c 4 t)) (iblk m c 5 t) (iblk m c 2 t)) j)
    (fun t h j => by
      have := lt8 t
      rw [outsAt0_A m c t h (by omega) (by omega)]; frame_out; rw [pay5_at, zero_add])
    (fun t h j => by
      have := lt8 t
      by_cases h7 : t.val % 8 = 7
      · rw [outsAt0_C m c t h (by omega) h7]; frame_out; rw [pay9_at]
      · rw [outsAt0_B m c t h (by omega) h7]; frame_out; rw [pay9_at])
    (le_of_eq N_0) t0_7 rfl j, zero_add]
  refine Eq.trans (b := ∑ p : Fin cfg0.N, ∑ r : Fin 256, (args m c (row p r)).dy (j 1) * (args m c (row p r)).xhat (j 1))
    (Fin.sum_fin_congr fun p => ?_) ?_
  · have hj : j = (ix2 0 (j 1) : S1x1024.Idx) := by blk_ext
    refine (congrArg _ hj).trans ((dgf_at _ _ _ _ _ _ (j 1)).trans ?_)
    simp only [blockArgs_eq]
  · refine Fin.sum_mul_add_congr fun s k hl => ?_
    rfl

/-- The loss, in every cell of its block, after the run. -/
theorem loss_array (c : Dev nD) : (dats m 0 c).arrAt 10 cfg0.N
    = (fun _ => ∑ r, ∑ l, (args m c r).err l * (args m c r).err l : FVec Ideal S8x128 .f32) := by
  refine (dats m 0 c).arrAt_eq_of_after_last 10 t0_7 (by decide +kernel) _ fun j => ?_
  blk_simp
  rw [after0_10, Pipeline.eq_sum_fin_of_reset_step_apply_last (fun n h => (outsAt0 m c n h).2.2.2.2.1) 8 (fun _ => (0 : EReal))
    (fun t _ => k0_pay2 (F := Ideal)
      (k0_pay23 (F := Ideal) (xhatV (iblk m c 0 t) (iblk m c 1 t) (iblk m c 3 t) (iblk m c 4 t)) (iblk m c 5 t) (iblk m c 2 t)) (ix2 0 0))
    (fun t h j => by
      have := lt8 t
      rw [outsAt0_A m c t h (by omega) (by omega)]; frame_out; rw [pay6_at, zero_add])
    (fun t h j => by
      have := lt8 t
      by_cases h7 : t.val % 8 = 7
      · rw [outsAt0_C m c t h (by omega) h7]; frame_out; rw [pay10_at]
      · rw [outsAt0_B m c t h (by omega) h7]; frame_out; rw [pay10_at])
    (le_of_eq N_0) t0_7 rfl j, zero_add]
  refine Eq.trans (b := ∑ p : Fin cfg0.N, ∑ r : Fin 256, ∑ l, (args m c (row p r)).err l * (args m c (row p r)).err l)
    (Fin.sum_fin_congr fun p => ?_) ?_
  · refine (loss_at _ _ _ _ _ _).trans ?_
    simp only [blockArgs_eq]
  · refine Fin.sum_mul_add_congr fun s k hl => ?_
    rfl

/-- The running sum of the embedding's gradient at the last point, at an index. -/
theorem run_sum (c : Dev nD) (j : S256x1024.Idx) :
    (show FVec Ideal S256x1024 .f32 from (outsAt0 m c t0_7.val t0_7.isLt).2.2.2.2.2.2) j
      = ∑ r, (args m c r).q (j 0) * (args m c r).demb (j 1) := by
  refine (Pipeline.eq_sum_fin_of_reset_step_apply_last (fun n h => (outsAt0 m c n h).2.2.2.2.2.2) 8 (fun _ => (0 : EReal))
    (fun t j => k0_pay31 (F := Ideal) (k0_pay16 (iblk m c 1 t)) (gateV (iblk m c 0 t) (iblk m c 3 t))
        (rsqV (iblk m c 0 t) (iblk m c 1 t) (iblk m c 3 t) (iblk m c 4 t))
        (xhatV (iblk m c 0 t) (iblk m c 1 t) (iblk m c 3 t) (iblk m c 4 t)) (iblk m c 5 t) (iblk m c 2 t) j)
    (fun t h j => by
      have := lt8 t
      rw [outsAt0_A m c t h (by omega) (by omega)]; frame_out; rw [pay4_at, zero_add])
    (fun t h j => by
      have := lt8 t
      by_cases h7 : t.val % 8 = 7
      · rw [outsAt0_C m c t h (by omega) h7]; frame_out; rw [pay8_at, read_unread_whole]
      · rw [outsAt0_B m c t h (by omega) h7]; frame_out; rw [pay8_at, read_unread_whole])
    (le_of_eq N_0) t0_7 rfl j).trans ?_
  rw [zero_add]
  refine Eq.trans (b := ∑ p : Fin cfg0.N, ∑ r : Fin 256, (args m c (row p r)).q (j 0) * (args m c (row p r)).demb (j 1))
    (Fin.sum_fin_congr fun p => ?_) ?_
  · refine (congrArg _ (eq_ix2 j)).trans ((dwp_at _ _ _ _ _ _ (j 0) (j 1)).trans ?_)
    simp only [blockArgs_eq]
  · refine Fin.sum_mul_add_congr fun s k hl => ?_
    rfl

/-- A group of columns read back out of the stored sum. -/
theorem col_at {sp : Space} (v : View sig .tc sp S256x1024 .f32) (P : Vec Ideal S256x1024 .f32) (j : Fin 4) (o : ℕ) (ho : o = j.val * 256) (inb₀) (inb)
    (x : S256x256.Idx) :
    v.readCov (Val := Elt Ideal) [⟨Rect.unit ![0, 0] ![256, 1024] inb₀, P⟩] (Rect.unit (s := S256x1024) ![0, o] ![256, 256] inb).toLoadRect x
      = P (ix2 (x 0) ⟨j.val * 256 + (x 1).val, by have h : (x 1).val < 256 := (x 1).isLt; omega⟩) := by
  have h1 : (x 1).val < 256 := (x 1).isLt
  refine Eq.trans ?_ (congrFun (View.readCov_unit_lit v inb₀ P (by decide)) (ix2 (x 0) ⟨j.val * 256 + (x 1).val, by omega⟩))
  refine congrArg (v.read (Elt Ideal) (v.writes (Elt Ideal) v.junk [⟨Rect.unit ![0, 0] ![256, 1024] inb₀, P⟩])) (funext fun a => Fin.ext ?_)
  refine (Rect.idx_unit_val _ _ _ x a).trans (Eq.trans ?_ (Rect.idx_unit_val _ _ _ (ix2 (x 0) (⟨j.val * 256 + (x 1).val, by omega⟩ : Fin 1024)) a).symm)
  match a with
  | 0 => rfl
  | 1 => exact (congrArg (· + (x 1).val) ho).trans (Nat.zero_add _).symm

/-- A stored group of columns, at the indices it holds. -/
theorem group_at {sp : Space} (v : View sig .tc sp S256x1024 .f32) (P : Vec Ideal S256x1024 .f32) (j : Fin 4) (o : ℕ) (ho : o = j.val * 256) (inb₀) (inb)
    (pay : Vec Ideal S256x256 .f32 → FVec Ideal S1x256x256 .f32) (hpay : ∀ w k b, pay w (ix3 0 k b) = w (ix2 k b))
    (y : S4x256x256.Idx) (n : ℕ) (hn : n = j.val) :
    View.TileAt (Val := Elt Ideal) (e := .f32) y ![n, 0, 0] ![1, 256, 256]
      (pay (v.readCov (Val := Elt Ideal) [⟨Rect.unit ![0, 0] ![256, 1024] inb₀, P⟩] (Rect.unit (s := S256x1024) ![0, o] ![256, 256] inb).toLoadRect))
      (P (ix2 (y 1) ⟨(y 0).val * 256 + (y 2).val, by
        have h0 : (y 0).val < 4 := (y 0).isLt
        have h2 : (y 2).val < 256 := (y 2).isLt
        omega⟩)) := by
  subst ho hn
  intro x hx
  have e0 : (y 0).val = j.val + (x 0).val := hx 0
  have e1 : (y 1).val = 0 + (x 1).val := hx 1
  have e2 : (y 2).val = 0 + (x 2).val := hx 2
  have l0 : (x 0).val < 1 := (x 0).isLt
  have hxx : x = (ix3 0 (x 1) (x 2) : S1x256x256.Idx) := by
    refine (eq_ix3 x).trans (congrArg (fun z => ix3 z (x 1) (x 2)) (Fin.ext ?_))
    show (x 0).val = 0
    omega
  refine (congrArg _ hxx).trans ((hpay _ (x 1) (x 2)).trans ((col_at v P j _ rfl inb₀ inb (ix2 (x 1) (x 2))).trans ?_))
  refine congrArg P (congrArg₂ ix2 (Fin.ext ?_) (Fin.ext ?_))
  · show (x 1).val = (y 1).val
    omega
  · show j.val * 256 + (x 2).val = (y 0).val * 256 + (y 2).val
    omega

theorem pay11_at (v : Vec Ideal S256x256 .f32) (k b) : k0_pay11 (F := Ideal) v (ix3 0 k b) = v (ix2 k b) := by pointwise [k0_pay11]
theorem pay12_at (v : Vec Ideal S256x256 .f32) (k b) : k0_pay12 (F := Ideal) v (ix3 0 k b) = v (ix2 k b) := by pointwise [k0_pay12]
theorem pay13_at (v : Vec Ideal S256x256 .f32) (k b) : k0_pay13 (F := Ideal) v (ix3 0 k b) = v (ix2 k b) := by pointwise [k0_pay13]
theorem pay14_at (v : Vec Ideal S256x256 .f32) (k b) : k0_pay14 (F := Ideal) v (ix3 0 k b) = v (ix2 k b) := by pointwise [k0_pay14]

/-- The gradient of the embedding's weight, in its four groups of columns, after the run. -/
theorem dwp_array (c : Dev nD) : (dats m 0 c).arrAt 8 cfg0.N
    = (fun i => ∑ r, (args m c r).q (i 1) * (args m c r).demb ⟨(i 0).val * 256 + (i 2).val, by
        have h0 : (i 0).val < 4 := (i 0).isLt
        have h2 : (i 2).val < 256 := (i 2).isLt
        omega⟩ : FVec Ideal S4x256x256 .f32) := by
  refine (dats m 0 c).arrAt_eq_of_after_last 8 t0_7 (by decide +kernel) _ fun j => ?_
  blk_simp
  have hs := run_sum m c
  rw [outsAt0_C m c t0_7 (by decide) (by decide) (by decide)] at hs
  rw [after0_8, outsAt0_C m c t0_7 (by decide) (by decide) (by decide)]; frame_out
  frame_out at hs
  refine Eq.trans ?_ (hs (ix2 (j 1) ⟨(j 0).val * 256 + (j 2).val, by
    have h0 : (j 0).val < 4 := (j 0).isLt
    have h2 : (j 2).val < 256 := (j 2).isLt
    omega⟩))
  generalize k0_pay8 (F := Ideal) _ _ = P
  refine View.canon_eq_of_allAt _ j _ (View.cover_of_tiled_head _ _ _ rfl j) ?_
  refine View.allAt_cons_unit _ _ _ _ _ (group_at _ P 3 _ rfl _ _ _ pay14_at j _ rfl) ?_
  refine View.allAt_cons_unit _ _ _ _ _ (group_at _ P 2 _ rfl _ _ _ pay13_at j _ rfl) ?_
  refine View.allAt_cons_unit _ _ _ _ _ (group_at _ P 1 _ rfl _ _ _ pay12_at j _ rfl) ?_
  exact View.allAt_cons_unit _ _ _ _ _ (group_at _ P 0 _ rfl _ _ _ pay11_at j _ rfl) (View.allAt_nil _ _)

end Cert.TailIdeal.Block
end
-- ==== Proof.TailRef.lean ====
module

public import proofs.«01_k».proof.Proof.TailEq
public import proofs.«01_k».proof.Proof.Gen.TailRefIdeal.Run
public import proofs.«01_k».proof.Proof.Gen.Pre_tail_finite

/-!
# What the reference of the last kernel computes, and what its precondition says
-/

@[expose] public section

set_option maxRecDepth 16384

noncomputable section

namespace Cert.TailRefIdeal.Ref

open Idealize.ShloMosaic Idealize.ShloMosaic.TcCoe Idealize.SL.Sem
open Cert.TailRefIdeal Cert.TailRefIdeal.Gen Cert.Reals Cert.InBwdEq Cert.TailEq

variable (m : (ℓ : Loc nD τ sig) → Buf (Elt Ideal) ℓ) (c : Dev nD)

/-- The rows of the reference's arguments. -/
def args (r : Fin 2048) : Args where
  h k := (show FVec Ideal S2048x1024 .f32 from m ((c.tc : Thread nD τ).loc main_arg0)) (ix2 r k)
  q k := (show FVec Ideal S2048x256 .f32 from m ((c.tc : Thread nD τ).loc main_arg1)) (ix2 r k)
  t k := (show FVec Ideal S2048x1024 .f32 from m ((c.tc : Thread nD τ).loc main_arg2)) (ix2 r k)
  wg k l := (show FVec Ideal S1024x1024 .f32 from m ((c.tc : Thread nD τ).loc main_arg3)) (ix2 k l)
  wp k l := (show FVec Ideal S256x1024 .f32 from m ((c.tc : Thread nD τ).loc main_arg4)) (ix2 k l)
  g l := (show FVec Ideal S1024 .f32 from m ((c.tc : Thread nD τ).loc main_arg5)) (ix1 l)

/-- The reference's results: the stream's cotangent, -/
theorem dh_result : Value.res_main_v72 m c = (fun i => (args m c (i 0)).dhRef (i 1) : FVec Ideal S2048x1024 .f32) := by
  funext i
  idx_vars i
  pointwise [Value.res_main_v72]
  simp only [Fin.sum_univ_one, Fin.isValue]
  rfl

/-- again, -/
theorem dhb_result : Value.res_main_v78 m c = (fun i => (args m c (i 0)).dhRef (i 1) : FVec Ideal S2048x1024 .bf16) := by
  funext i
  idx_vars i
  pointwise [Value.res_main_v78]
  simp only [Fin.sum_univ_one, Fin.isValue]
  rfl

/-- the gradients of the gate's weight, -/
theorem dwg_result : Value.res_main_v70 m c = (fun i => ∑ r, (args m c r).dgateRef (i 1) * (args m c r).h (i 0) : FVec Ideal S1024x1024 .f32) := by
  funext i
  idx_vars i
  pointwise [Value.res_main_v70]
  simp only [Fin.sum_univ_one, Fin.isValue]
  rfl

/-- of the embedding's weight, its columns in four groups, -/
theorem dwp_result : Value.res_main_v74 m c = (fun i => ∑ r, (args m c r).dembRef ⟨(i 0).val * 256 + (i 2).val, by
        have h0 : (i 0).val < 4 := (i 0).isLt
        have h2 : (i 2).val < 256 := (i 2).isLt
        omega⟩ * (args m c r).q (i 1) : FVec Ideal S4x256x256 .f32) := by
  funext i
  idx_vars i
  pointwise [Value.res_main_v74]
  simp only [Fin.sum_univ_one, Fin.isValue]
  rfl

/-- of the last gain, -/
theorem dgf_result : Value.res_main_v75 m c = (fun i => ∑ r, (args m c r).xhat (i 1) * (args m c r).dyRef (i 1) : FVec Ideal S1x1024 .f32) := by
  funext i
  idx_vars i
  pointwise [Value.res_main_v75]
  simp only [Fin.sum_univ_one, Fin.isValue]
  rfl

/-- and the loss. -/
theorem loss_result : Value.res_main_v77 m c = (fun _ => Ideal.ofBits .f32 0x45000000#32 * (Ideal.ofBits .f32 0x3F000000#32 *
        ∑ r, Ideal.div (∑ l, (args m c r).err l * (args m c r).err l) (Ideal.ofBits .f32 0x44800000#32)) : FVec Ideal S8x128 .f32) := by
  funext i
  idx_vars i
  pointwise [Value.res_main_v77]
  rfl

end Cert.TailRefIdeal.Ref

namespace Cert.Pre_tail_finite

open Idealize.ShloMosaic Cert.Reals

/-- The precondition: every argument is an array of real numbers. -/
theorem reals (x : FVec Ideal S2048x1024 .f32) (p : FVec Ideal S2048x256 .f32) (t : FVec Ideal S2048x1024 .f32)
    (wg : FVec Ideal S1024x1024 .f32) (wp : FVec Ideal S256x1024 .f32) (g : FVec Ideal S1024 .f32)
    (h : fn (F := Ideal) x p t wg wp g = fun _ => 1#1) :
    (∀ i, IsReal (x i)) ∧ (∀ i, IsReal (p i)) ∧ (∀ i, IsReal (t i)) ∧ (∀ i, IsReal (wg i)) ∧ (∀ i, IsReal (wp i)) ∧ ∀ i, IsReal (g i) := by
  have h0 := congrFun h ix0
  unfold fn fn_part1 at h0
  simp only [andi, IntOp.andi_eq_one] at h0
  obtain ⟨⟨⟨⟨⟨ha, hb⟩, hc⟩, hd⟩, he⟩, hf⟩ := h0
  haveI : Subsingleton S_.Idx := ⟨fun a b => funext fun i => i.elim0⟩
  exact ⟨isReal_of_all _ _ _ _ _ _ ha, isReal_of_all _ _ _ _ _ _ hb, isReal_of_all _ _ _ _ _ _ hc, isReal_of_all _ _ _ _ _ _ hd,
    isReal_of_all _ _ _ _ _ _ he, isReal_of_all _ _ _ _ _ _ hf⟩

end Cert.Pre_tail_finite
end
-- ==== Proof.TailClaims.lean ====
module

public import proofs.«01_k».proof.Defs
public import proofs.«01_k».proof.Proof.Gen.Tail.Frame
public import proofs.«01_k».proof.Proof.TailArrays
public import proofs.«01_k».proof.Proof.TailRef
public import Idealize.ShloMosaic.Lib.Claim
public import Idealize.ShloMosaic.Lib.Quiescent

/-!
# The claims about the last kernel: gate, embedding, norm, loss
-/

@[expose] public section

set_option maxRecDepth 16384

noncomputable section

namespace Cert.Proof.Tail

open Idealize.ShloMosaic Idealize.ShloMosaic.TcCoe Idealize.SL.Sem
open Cert.TailEq

/-- The kernel's program runs and ends quiescent, its arguments unchanged. -/
theorem frame : Cert.quiescent_Tail := fun m ρ _ => Cert.Tail.Gen.frame m ρ
/-- So does its idealization, -/
theorem frameIdeal : Cert.quiescent_TailIdeal := fun m ρ _ => Cert.TailIdeal.Gen.frame m ρ
/-- and the reference. -/
theorem frameRef : Cert.quiescent_TailRefIdeal := fun m ρ _ =>
  (θ_run Cert.TailRefIdeal.defs _ _).mono (fun r h => ⟨fun c => (h c).2.2.2.2.2.2,
      Idealize.ShloMosaic.sem_eq_zero_of_no_sems (by decide) r.2⟩)
    (Cert.TailRefIdeal.Value.run (F := Ideal) m ρ)

/-- Where every argument is real, the kernel's six results are the reference's. -/
theorem algebraic : Cert.algebraic_TailIdeal_TailRefIdeal_pre_tail_finite := by
  intro m g m' g' hpre hagree
  have hA : ∀ c, Cert.TailRefIdeal.Ref.args m' c = Cert.TailIdeal.Block.args m c := fun c => by
    obtain ⟨e0, e1, e2, e3, e4, e5⟩ := hagree c
    funext r
    unfold Cert.TailRefIdeal.Ref.args
    rw [e0, e1, e2, e3, e4, e5]
    rfl
  have hR : ∀ c r, (Cert.TailIdeal.Block.args m c r).Real := fun c r => by
    obtain ⟨h0, h1, h2, h3, h4, h5⟩ := Cert.Pre_tail_finite.reals _ _ _ _ _ _ (hpre c)
    exact ⟨fun k => h0 _, fun k => h1 _, fun k => h2 _, fun k l => h3 _, fun k l => h4 _, fun l => h5 _⟩
  refine ⟨_, _, _, _, _, _, Cert.TailIdeal.Value.run_blocks m g,
    (θ_run Cert.TailRefIdeal.defs _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.TailRefIdeal.Value.run m' g')⟩
  · rw [Cert.TailRefIdeal.Ref.dh_result, hA, Cert.TailIdeal.Block.dh_array m c]
    exact funext fun i => Args.dh_eq (hR c _) _
  · rw [Cert.TailRefIdeal.Ref.dwg_result, hA, Cert.TailIdeal.Block.dwg_array m c]
    exact funext fun i => gate_eq _ (hR c) _ _
  · rw [Cert.TailRefIdeal.Ref.dwp_result, hA, Cert.TailIdeal.Block.dwp_array m c]
    exact funext fun i => embed_eq _ (hR c) _ _
  · rw [Cert.TailRefIdeal.Ref.dgf_result, hA, Cert.TailIdeal.Block.dgf_array m c]
    exact funext fun i => gain_eq _ _
  · rw [Cert.TailRefIdeal.Ref.loss_result, hA, Cert.TailIdeal.Block.loss_array m c]
    exact funext fun i => loss_eq _ (hR c)
  · rw [Cert.TailRefIdeal.Ref.dhb_result, hA, Cert.TailIdeal.Block.dhb_array m c]
    exact funext fun i => Args.dh_eq (hR c _) _

end Cert.Proof.Tail
end
-- ==== Proof.DownBlock.lean ====
module

public import proofs.«01_k».proof.Proof.Gen.FfnDownIdeal.Value
public import Idealize.ShloMosaic.Lib.Pipeline.ValueKit

/-!
# What the squared activation's backward kernel leaves in its result arrays

The kernel walks the 4096 columns in four groups of 1024 and, in each, the 2048 rows in two blocks of 1024. `df_array` states the
activation's cotangent, `dw_array` the gradient of the second weight.
-/

@[expose] public section

set_option maxRecDepth 16384

noncomputable section

namespace Cert.FfnDownIdeal.Block

open Idealize.ShloMosaic Idealize.ShloMosaic.TcCoe Idealize.SL.Sem
open Idealize.ShloMosaic.Pipeline (Dat)
open Cert.FfnDownIdeal Cert.FfnDownIdeal.Gen

variable (m : (ℓ : Loc nD τ sig) → Buf (Elt Ideal) ℓ)

/-- The cotangent's block at a row and a column. -/
theorem pay2_at (dh : FVec Ideal S1024x1024 .bf16) (w : FVec Ideal S1x1024x1024 .bf16) (r : FVec Ideal S1024x1024 .bf16) (i l : Fin 1024) :
    k0_pay2 (F := Ideal) dh w r (ix2 i l)
      = (∑ k, dh (ix2 i k) * w (ix3 0 l k)) * (Ideal.ofBits .f32 0x40000000#32 * r (ix2 i l)) := by
  pointwise [k0_pay2, k0_pay1]

/-- The weight's part of one block: what the first block stores, -/
theorem pay4_at (dh a : FVec Ideal S1024x1024 .bf16) (i l : Fin 1024) :
    k0_pay4 (F := Ideal) dh a (ix3 0 i l) = ∑ k, a (ix2 i k) * dh (ix2 k l) := by
  pointwise [k0_pay4, k0_pay3, k0_pay1]

/-- and what the second adds. -/
theorem pay5_at (dh a : FVec Ideal S1024x1024 .bf16) (b : FVec Ideal S1x1024x1024 .f32) (i l : Fin 1024) :
    k0_pay5 (F := Ideal) dh a b (ix3 0 i l) = b (ix3 0 i l) + ∑ k, a (ix2 i k) * dh (ix2 k l) := by
  pointwise [k0_pay5, k0_pay3, k0_pay1]

/-- The activation's argument. -/
def up (hn : FVec Ideal S2048x1024 .f32) (w1 : FVec Ideal S1024x4096 .f32) (r : Fin 2048) (l : Fin 4096) : EReal :=
  ∑ k, hn (ix2 r k) * w1 (ix2 k l)

/-- The kernel's cotangent of the activation's argument, of the whole arrays, -/
def dfOf (hn : FVec Ideal S2048x1024 .f32) (w1 : FVec Ideal S1024x4096 .f32) (dh : FVec Ideal S2048x1024 .f32)
    (w2 : FVec Ideal S4096x1024 .f32) (r : Fin 2048) (l : Fin 4096) : EReal :=
  (∑ k, dh (ix2 r k) * w2 (ix2 l k)) * (Ideal.ofBits .f32 0x40000000#32 * max (up hn w1 r l) 0)

/-- and the gradient of the second weight. -/
def dwOf (hn : FVec Ideal S2048x1024 .f32) (w1 : FVec Ideal S1024x4096 .f32) (dh : FVec Ideal S2048x1024 .f32)
    (i : Fin 4096) (l : Fin 1024) : EReal :=
  ∑ r : Fin 2048, max (up hn w1 r i) 0 * max (up hn w1 r i) 0 * dh (ix2 r l)

/-- The windows' block indices at a point. -/
theorem idx : ∀ t : Fin cfg0.N, win0_0.index t = ![t.val % 2, 0] ∧ win0_1.index t = ![t.val % 2, t.val / 2]
    ∧ win0_2.index t = ![t.val / 2, t.val % 2] ∧ win0_3.index t = ![t.val / 2, 0, 0]
    ∧ win0_4.index t = ![t.val % 2, t.val / 2] ∧ win0_5.index t = ![t.val / 2, 0, 0] ∧ t.val < 8 :=
  (by decide +kernel : ∀ t : Fin grid0.N, _)

theorem lt8 (t : Fin cfg0.N) : t.val < 8 := (idx t).2.2.2.2.2.2

/-- Row `r` and column `l` of point `t`'s block, as a row and a column of the arrays. -/
def row (t : Fin cfg0.N) (r : Fin 1024) : Fin 2048 := ⟨t.val % 2 * 1024 + r.val, by omega⟩
def col (t : Fin cfg0.N) (l : Fin 1024) : Fin 4096 := ⟨t.val / 2 * 1024 + l.val, by have := lt8 t; omega⟩

/-- The host's activation. -/
def act (c : Dev nD) : FVec Ideal S2048x4096 .f32 :=
  maximumf (Host.dotGeneral dot_S2048x1024_S1024x4096_S2048x4096_1_0_0_1_n_n none
      (show FVec Ideal S2048x1024 .f32 from m ((c : Thread nD τ).loc main_arg0)) (show FVec Ideal S1024x4096 .f32 from m ((c : Thread nD τ).loc main_arg1)))
    (broadcastInDim S2048x4096 ![] bcast_S_S2048x4096 (constant S_ .f32 0x00000000#32))

/-- The arrays the host prepares: the activation, -/
theorem host6 (c : Dev nD) : V m c main_v6 = truncf .bf16 (act m c) bitsLt_bf16_f32 := by
  simp only [V, hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results_simp <;> rfl
/-- its square, transposed, -/
theorem host4 (c : Dev nD) : V m c main_v4
    = truncf .bf16 (transpose S4096x2048 [1, 0] (mulf (act m c) (act m c)) transposes_S2048x4096_S4096x2048_1_0) bitsLt_bf16_f32 := by
  simp only [V, hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results_simp <;> rfl
/-- and the second weight in four groups of rows. -/
theorem host8 (c : Dev nD) : V m c main_v8 = truncf .bf16 (shapeCast S4x1024x1024
    (show FVec Ideal S4096x1024 .f32 from m ((c : Thread nD τ).loc main_arg3)) shapeCasts_S4096x1024_S4x1024x1024) bitsLt_bf16_f32 := by
  simp only [V, hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results_simp <;> rfl

theorem act_at (c : Dev nD) (r : Fin 2048) (l : Fin 4096) :
    act m c (ix2 r l) = max (up (m ((c : Thread nD τ).loc main_arg0)) (m ((c : Thread nD τ).loc main_arg1)) r l) 0 := by
  unfold up
  pointwise [act]

/-- The blocks of point `t`, read in the argument arrays: the output's cotangent, -/
theorem read0 (c : Dev nD) (t : Fin cfg0.N) (r : Fin 1024) (k : Fin 1024) :
    (show FVec Ideal S1024x1024 .bf16 from iblk m c 0 t) (ix2 r k)
      = (show FVec Ideal S2048x1024 .f32 from m ((c : Thread nD τ).loc main_arg2)) (ix2 (row t r) k) := by
  blk_point [iblk, V, idx t, row]
/-- the activation, -/
theorem read1 (c : Dev nD) (t : Fin cfg0.N) (r : Fin 1024) (l : Fin 1024) :
    (show FVec Ideal S1024x1024 .bf16 from iblk m c 1 t) (ix2 r l)
      = max (up (m ((c : Thread nD τ).loc main_arg0)) (m ((c : Thread nD τ).loc main_arg1)) (row t r) (col t l)) 0 := by
  have he : ((cfg0.win 1).blk t).view.emb (ix2 r l : S1024x1024.Idx) = (ix2 (row t r) (col t l) : S2048x4096.Idx) := by
    blk_ext [idx t, row, col]
  refine (congrArg (V m c main_v6) he).trans ?_
  rw [host6]
  exact act_at m c (row t r) (col t l)
/-- its square, transposed, -/
theorem read2 (c : Dev nD) (t : Fin cfg0.N) (l : Fin 1024) (r : Fin 1024) :
    (show FVec Ideal S1024x1024 .bf16 from iblk m c 2 t) (ix2 l r)
      = max (up (m ((c : Thread nD τ).loc main_arg0)) (m ((c : Thread nD τ).loc main_arg1)) (row t r) (col t l)) 0
        * max (up (m ((c : Thread nD τ).loc main_arg0)) (m ((c : Thread nD τ).loc main_arg1)) (row t r) (col t l)) 0 := by
  have he : ((cfg0.win 2).blk t).view.emb (ix2 l r : S1024x1024.Idx) = (ix2 (col t l) (row t r) : S4096x2048.Idx) := by
    blk_ext [idx t, row, col]
  refine (congrArg (V m c main_v4) he).trans ?_
  rw [host4, ← act_at]
  pointwise
/-- and the second weight. -/
theorem read3 (c : Dev nD) (t : Fin cfg0.N) (l : Fin 1024) (k : Fin 1024) :
    (show FVec Ideal S1x1024x1024 .bf16 from iblk m c 3 t) (ix3 0 l k)
      = (show FVec Ideal S4096x1024 .f32 from m ((c : Thread nD τ).loc main_arg3)) (ix2 (col t l) k) := by
  have l8 := lt8 t
  have he : ((cfg0.win 3).blk t).view.emb (ix3 0 l k : S1x1024x1024.Idx) = (ix3 ⟨t.val / 2, by omega⟩ l k : S4x1024x1024.Idx) := by
    blk_ext [idx t]
  refine (congrArg (V m c main_v8) he).trans ?_
  rw [host8]
  pointwise [col]

/-- The activation's cotangent after the run. -/
theorem df_array (c : Dev nD) : (dats m 0 c).arrAt 4 cfg0.N
    = (fun i => dfOf (m ((c : Thread nD τ).loc main_arg0)) (m ((c : Thread nD τ).loc main_arg1)) (m ((c : Thread nD τ).loc main_arg2))
        (m ((c : Thread nD τ).loc main_arg3)) (i 0) (i 1) : FVec Ideal S2048x4096 .bf16) := by
  refine (dats m 0 c).arrAt_eq_of_covers 4 _ (by decide +kernel) fun t _ y => ?_
  have he : ((cfg0.win 4).blk t).view.emb y = (ix2 (row t (y 0)) (col t (y 1)) : S2048x4096.Idx) := by
    blk_ext [idx t, row, col]
  have hp : k0_pay2 (F := Ideal) (iblk m c 0 t) (iblk m c 3 t) (iblk m c 1 t) y
      = dfOf (m ((c : Thread nD τ).loc main_arg0)) (m ((c : Thread nD τ).loc main_arg1)) (m ((c : Thread nD τ).loc main_arg2))
        (m ((c : Thread nD τ).loc main_arg3)) (row t (y 0)) (col t (y 1)) := by
    refine (congrArg _ (eq_ix2 y)).trans ((pay2_at _ _ _ (y 0) (y 1)).trans ?_)
    have e0 := read0 m c t
    have e1 := read1 m c t
    have e3 := read3 m c t
    dsimp only at e0 e1 e3
    set_option backward.isDefEq.respectTransparency false in simp only [e0, e1, e3]
    rfl
  blk_simp
  rw [after0_4, he]
  rcases Nat.mod_two_eq_zero_or_one t.val with h | h
  · rw [outsAt0_A m c t h (by omega)]; frame_out
    exact hp
  · rw [outsAt0_B m c t (by omega) h]; frame_out
    exact hp

/-- A block's part of the weight's gradient. -/
theorem part_eq (c : Dev nD) (t : Fin cfg0.N) (i l : Fin 1024) :
    ∑ k, (show FVec Ideal S1024x1024 .bf16 from iblk m c 2 t) (ix2 i k) * (show FVec Ideal S1024x1024 .bf16 from iblk m c 0 t) (ix2 k l)
      = ∑ r, max (up (m ((c : Thread nD τ).loc main_arg0)) (m ((c : Thread nD τ).loc main_arg1)) (row t r) (col t i)) 0
        * max (up (m ((c : Thread nD τ).loc main_arg0)) (m ((c : Thread nD τ).loc main_arg1)) (row t r) (col t i)) 0
        * (show FVec Ideal S2048x1024 .f32 from m ((c : Thread nD τ).loc main_arg2)) (ix2 (row t r) l) :=
  Finset.sum_congr rfl fun k _ => congrArg₂ (· * ·) (read2 m c t i k) (read0 m c t k l)

theorem flush5 : ∀ t : Fin cfg0.N, (cfg0.win 5).flush t = true → t.val % 2 = 1 := (by decide +kernel : ∀ t : Fin grid0.N, _)

/-- The gradient of the second weight in four groups of rows, as an array. -/
def dwArr (hn : FVec Ideal S2048x1024 .f32) (w1 : FVec Ideal S1024x4096 .f32) (dh : FVec Ideal S2048x1024 .f32) :
    FVec Ideal S4x1024x1024 .f32 := fun i =>
  dwOf hn w1 dh ⟨(i 0).val * 1024 + (i 1).val, by
    have h0 : (i 0).val < 4 := (i 0).isLt
    have h1 : (i 1).val < 1024 := (i 1).isLt
    omega⟩ (i 2)

/-- The gradient of the second weight after the run. -/
theorem dw_array (c : Dev nD) : (dats m 0 c).arrAt 5 cfg0.N
    = dwArr (m ((c : Thread nD τ).loc main_arg0)) (m ((c : Thread nD τ).loc main_arg1)) (m ((c : Thread nD τ).loc main_arg2)) := by
  refine (dats m 0 c).arrAt_eq_of_covers 5 _ (by decide +kernel) fun t ht y => ?_
  have h : t.val % 2 = 1 := flush5 t ht
  have l8 := lt8 t
  have hs : t.val - 1 < cfg0.N := lt_of_le_of_lt (Nat.sub_le _ _) t.isLt
  have he : ((cfg0.win 5).blk t).view.emb y = (ix3 ⟨t.val / 2, by omega⟩ (y 1) (y 2) : S4x1024x1024.Idx) := by
    blk_ext [idx t]
  have hy : y = (ix3 0 (y 1) (y 2) : S1x1024x1024.Idx) := by blk_ext
  have hp := part_eq m c ⟨t.val - 1, hs⟩ (y 1) (y 2)
  have hq := part_eq m c t (y 1) (y 2)
  blk_simp
  rw [after0_5, he, outsAt0_B m c t (by omega) h]; frame_out
  rw [outsAt0_A m c ⟨t.val - 1, hs⟩ (by dsimp only; omega) (by dsimp only; omega)]; frame_out
  refine (congrArg _ hy).trans ((pay5_at _ _ _ (y 1) (y 2)).trans ?_)
  refine (congrArg₂ (· + ·) ((pay4_at _ _ (y 1) (y 2)).trans hp) hq).trans ?_
  unfold dwArr dwOf
  refine (Eq.trans ?_ (Fin.sum_univ_two (f := fun p : Fin 2 => ∑ r : Fin 1024,
    (fun r : Fin 2048 => max (up (m ((c : Thread nD τ).loc main_arg0)) (m ((c : Thread nD τ).loc main_arg1)) r (col t (y 1))) 0
        * max (up (m ((c : Thread nD τ).loc main_arg0)) (m ((c : Thread nD τ).loc main_arg1)) r (col t (y 1))) 0
        * (show FVec Ideal S2048x1024 .f32 from m ((c : Thread nD τ).loc main_arg2)) (ix2 r (y 2)))
      ⟨p.val * 1024 + r.val, by omega⟩)).symm).trans (Fin.sum_mul_add_congr fun s k hl => rfl)
  have c0 : ∀ l, col ⟨t.val - 1, hs⟩ l = col t l := fun l => Fin.ext (by unfold col; dsimp only; omega)
  have r0 : ∀ r, row ⟨t.val - 1, hs⟩ r = ⟨(0 : Fin 2).val * 1024 + r.val, by have := r.isLt; simp; omega⟩ :=
    fun r => Fin.ext (by unfold row; dsimp only; simp; omega)
  have r1 : ∀ r, row t r = ⟨(1 : Fin 2).val * 1024 + r.val, by have := r.isLt; simp; omega⟩ :=
    fun r => Fin.ext (by unfold row; dsimp only; simp; omega)
  set_option backward.isDefEq.respectTransparency false in simp only [c0, r0, r1]

end Cert.FfnDownIdeal.Block
end
-- ==== Proof.DownClaims.lean ====
module

public import proofs.«01_k».proof.Defs
public import proofs.«01_k».proof.Proof.Gen.FfnDown.Frame
public import proofs.«01_k».proof.Proof.DownBlock
public import proofs.«01_k».proof.Proof.Gen.FfnDownRefIdeal.Run
public import Idealize.ShloMosaic.Lib.Claim
public import Idealize.ShloMosaic.Lib.Quiescent

/-!
# The claims about the kernel behind the second linear map of the feed-forward
-/

@[expose] public section

set_option maxRecDepth 16384

noncomputable section

namespace Cert.Proof.FfnDown

open Idealize.ShloMosaic Idealize.ShloMosaic.TcCoe Idealize.SL.Sem
open Cert.FfnDownIdeal.Block

/-- The kernel's program runs and ends quiescent, its arguments unchanged. -/
theorem frame : Cert.quiescent_FfnDown := fun m ρ _ => Cert.FfnDown.Gen.frame m ρ
/-- So does its idealization, -/
theorem frameIdeal : Cert.quiescent_FfnDownIdeal := fun m ρ _ => Cert.FfnDownIdeal.Gen.frame m ρ
/-- and the reference. -/
theorem frameRef : Cert.quiescent_FfnDownRefIdeal := fun m ρ _ =>
  (θ_run Cert.FfnDownRefIdeal.defs _ _).mono (fun r h => ⟨fun c => (h c).2.2,
      Idealize.ShloMosaic.sem_eq_zero_of_no_sems (by decide) r.2⟩)
    (Cert.FfnDownRefIdeal.Value.run (F := Ideal) m ρ)

/-- The derivative of the squared positive part: the branch the reference takes at zero and below gives zero, and so
does the kernel's product with the positive part. -/
theorem relu_eq (a x : EReal) : (if 0 < x then a * (Ideal.ofBits .f32 0x40000000#32 * max x 0) else 0)
    = a * (Ideal.ofBits .f32 0x40000000#32 * max x 0) := by
  split
  · rfl
  · next h => rw [max_eq_right (not_lt.mp h), mul_zero, mul_zero]

section
open Cert.FfnDownRefIdeal Cert.FfnDownRefIdeal.Gen
variable (hn : FVec Ideal S2048x1024 .f32) (w1 : FVec Ideal S1024x4096 .f32) (dh : FVec Ideal S2048x1024 .f32) (w2 : FVec Ideal S4096x1024 .f32)

/-- The reference's first result, the cotangent before the activation. -/
theorem df_result :
    truncf .bf16 (select (cmpf .ogt (Host.dotGeneral dot_S2048x1024_S1024x4096_S2048x4096_1_0_0_1_n_n none hn w1)
        (broadcastInDim S2048x4096 ![] bcast_S_S2048x4096 (constant S_ .f32 0x00000000#32)))
      (mulf (Host.dotGeneral dot_S2048x1024_S4096x1024_S2048x4096_1_1_0_0_n_n none dh w2)
        (mulf (broadcastInDim S2048x4096 ![] bcast_S_S2048x4096 (constant S_ .f32 0x40000000#32))
          (maximumf (Host.dotGeneral dot_S2048x1024_S1024x4096_S2048x4096_1_0_0_1_n_n none hn w1)
            (broadcastInDim S2048x4096 ![] bcast_S_S2048x4096 (constant S_ .f32 0x00000000#32)))))
      (broadcastInDim S2048x4096 ![] bcast_S_S2048x4096 (constant S_ .f32 0x00000000#32))) bitsLt_bf16_f32
      = (fun i => dfOf hn w1 dh w2 (i 0) (i 1) : FVec Ideal S2048x4096 .bf16) := by
  funext i
  idx_vars i
  pointwise [dfOf, up]
  exact relu_eq _ _

/-- Its second, the gradient of the weight, in four groups of rows. -/
theorem dw_result :
    shapeCast S4x1024x1024 (transpose S4096x1024 [1, 0] (Host.dotGeneral dot_S2048x1024_S2048x4096_S1024x4096_0_0_1_1_n_n none dh
      (mulf (maximumf (Host.dotGeneral dot_S2048x1024_S1024x4096_S2048x4096_1_0_0_1_n_n none hn w1)
          (broadcastInDim S2048x4096 ![] bcast_S_S2048x4096 (constant S_ .f32 0x00000000#32)))
        (maximumf (Host.dotGeneral dot_S2048x1024_S1024x4096_S2048x4096_1_0_0_1_n_n none hn w1)
          (broadcastInDim S2048x4096 ![] bcast_S_S2048x4096 (constant S_ .f32 0x00000000#32)))))
      transposes_S1024x4096_S4096x1024_1_0) shapeCasts_S4096x1024_S4x1024x1024
      = dwArr hn w1 dh := by
  funext i
  idx_vars i
  pointwise [dwArr, dwOf, up]
  exact Finset.sum_congr rfl fun x _ => mul_comm _ _
end

/-- The kernel's two results are the reference's, for all arguments. -/
theorem algebraic : Cert.algebraic_FfnDownIdeal_FfnDownRefIdeal := by
  intro m g m' g' _ hagree
  refine ⟨_, _, Cert.FfnDownIdeal.Value.run_blocks m g,
    (θ_run Cert.FfnDownRefIdeal.defs _ _).mono (fun r h c => ⟨(h c).1.trans ?_, (h c).2.1.trans ?_, (h c).2.2⟩)
      (Cert.FfnDownRefIdeal.Value.run m' g')⟩
  · obtain ⟨e0, e1, e2, e3⟩ := hagree c
    rw [e0, e1, e2, e3, df_array m c]
    exact df_result _ _ _ _
  · obtain ⟨e0, e1, e2, e3⟩ := hagree c
    rw [e0, e1, e2, dw_array m c]
    exact dw_result _ _ _

end Cert.Proof.FfnDown
end
-- ==== Proof.FfnInBlock.lean ====
module

public import proofs.«01_k».proof.Proof.InBwdEq
public import proofs.«01_k».proof.Proof.Gen.FfnInIdeal.Value
public import Idealize.ShloMosaic.Lib.Pipeline.ValueKit
public import Idealize.ShloMosaic.Lib.Pipeline.ReadBack
public import Idealize.ShloMosaic.Lib.Pointwise

/-!
# The kernel of the second norm and the output projection: one point's work
-/

@[expose] public section

set_option maxRecDepth 16384

noncomputable section

namespace Cert.FfnInIdeal.Block

open Idealize.ShloMosaic Idealize.ShloMosaic.TcCoe Idealize.SL.Sem
open Idealize.ShloMosaic.Pipeline (Dat)
open Cert.FfnInIdeal Cert.FfnInIdeal.Gen Cert.InBwdEq

variable (m : (ℓ : Loc nD τ sig) → Buf (Elt Ideal) ℓ)

/-- The first part of a block's product, -/
theorem pay2_at (df : FVec Ideal S512x1024 .bf16) (w : FVec Ideal S1x1024x1024 .bf16) (r : Fin 512) (l : Fin 1024) :
    k0_pay2 (F := Ideal) df w (ix2 r l) = ∑ k, df (ix2 r k) * w (ix3 0 l k) := by
  pointwise [k0_pay2, k0_pay1]
/-- and the parts after it. -/
theorem pay3_at (df : FVec Ideal S512x1024 .bf16) (w : FVec Ideal S1x1024x1024 .bf16) (a : FVec Ideal S512x1024 .f32) (r : Fin 512) (l : Fin 1024) :
    k0_pay3 (F := Ideal) df w a (ix2 r l) = a (ix2 r l) + ∑ k, df (ix2 r k) * w (ix3 0 l k) := by
  pointwise [k0_pay3, k0_pay1]

section
variable (d h : FVec Ideal S512x1024 .f32) (u : FVec Ideal S512x1024 .f32) (g : FVec Ideal S1x1024 .f32)

/-- A block of the stream's cotangent, -/
theorem pay14_at (r : Fin 512) (l : Fin 1024) : k0_pay14 (F := Ideal) d h u g (ix2 r l)
    = kernelRow (fun k => h (ix2 r k)) (fun k => d (ix2 r k)) (fun k => u (ix2 r k)) (fun k => g (ix2 0 k)) l := by
  pointwise [k0_pay14, k0_pay13, k0_pay12, k0_pay11, k0_pay10]
  rfl
/-- once more, -/
theorem pay15_at (r : Fin 512) (l : Fin 1024) : k0_pay15 (F := Ideal) d h u g (ix2 r l)
    = kernelRow (fun k => h (ix2 r k)) (fun k => d (ix2 r k)) (fun k => u (ix2 r k)) (fun k => g (ix2 0 k)) l := by
  pointwise [k0_pay15, k0_pay13, k0_pay12, k0_pay11, k0_pay10]
  rfl
/-- its product with the projection, -/
theorem pay16_at (w : FVec Ideal S1024x1024 .bf16) (r : Fin 512) (l : Fin 1024) : k0_pay16 (F := Ideal) d h u g w (ix2 r l)
    = ∑ a, k0_pay15 (F := Ideal) d h u g (ix2 r a) * w (ix2 l a) := by
  pointwise [k0_pay16]
/-- the projection's part, -/
theorem pay6_at (b mix : FVec Ideal S512x1024 .bf16) (a k : Fin 1024) : k0_pay6 (F := Ideal) b mix (ix2 a k)
    = ∑ r : Fin 512, mix (ix2 r a) * b (ix2 r k) := by
  pointwise [k0_pay6, k0_pay4]
theorem pay8_at (b mix : FVec Ideal S512x1024 .bf16) (s : FVec Ideal S1024x1024 .f32) (a k : Fin 1024) : k0_pay8 (F := Ideal) b mix s (ix2 a k)
    = s (ix2 a k) + ∑ r : Fin 512, mix (ix2 r a) * b (ix2 r k) := by
  pointwise [k0_pay8, k0_pay4]
/-- and the gain's. -/
theorem pay7_at (l : Fin 1024) : k0_pay7 (F := Ideal) d (k0_pay12 (F := Ideal) h) (ix2 0 l)
    = ∑ r : Fin 512, d (ix2 r l) * (h (ix2 r l) * Ideal.rsqrt (meanSq fun k => h (ix2 r k))) := by
  pointwise [k0_pay7, k0_pay5, k0_pay12, k0_pay11, k0_pay10]
theorem pay9_at (s : FVec Ideal S1x1024 .f32) (l : Fin 1024) : k0_pay9 (F := Ideal) d (k0_pay12 (F := Ideal) h) s (ix2 0 l)
    = s (ix2 0 l) + ∑ r : Fin 512, d (ix2 r l) * (h (ix2 r l) * Ideal.rsqrt (meanSq fun k => h (ix2 r k))) := by
  pointwise [k0_pay9, k0_pay5, k0_pay12, k0_pay11, k0_pay10]
end

/-- The windows' block indices at a point. -/
theorem idx : ∀ t : Fin cfg0.N, win0_0.index t = ![t.val / 4, t.val % 4] ∧ win0_1.index t = ![0, 0, 0] ∧ win0_2.index t = ![t.val / 4, 0]
    ∧ win0_3.index t = ![t.val / 4, 0] ∧ win0_4.index t = ![0, 0] ∧ win0_5.index t = ![t.val / 4, 0] ∧ win0_6.index t = ![0, 0]
    ∧ win0_7.index t = ![t.val / 4, 0] ∧ win0_8.index t = ![t.val / 4, 0] ∧ win0_9.index t = ![0, 0] ∧ win0_10.index t = ![0, 0]
    ∧ t.val < 16 :=
  (by decide +kernel : ∀ t : Fin grid0.N, _)

theorem lt16 (t : Fin cfg0.N) : t.val < 16 := (idx t).2.2.2.2.2.2.2.2.2.2.2

/-- The kernel reads group `t % 4` of the first weight. -/
theorem group (t : Fin cfg0.N) : k0_off1 (grid0.coords t) = ![t.val % 4, 0, 0] :=
  (by decide +kernel : ∀ t : Fin grid0.N, k0_off1 (grid0.coords t) = ![t.val % 4, 0, 0]) t

/-- Row `r` of point `t`'s block as a row of the arrays, and lane `k` of its group as a lane. -/
def row (t : Fin cfg0.N) (r : Fin 512) : Fin 2048 := ⟨t.val / 4 * 512 + r.val, by have := lt16 t; omega⟩
def lane (t : Fin cfg0.N) (k : Fin 1024) : Fin 4096 := ⟨t.val % 4 * 1024 + k.val, by omega⟩

/-- The rows of the second norm's argument, -/
def stream (x mix : FVec Ideal S2048x1024 .f32) (wo : FVec Ideal S1024x1024 .f32) (r : Fin 2048) (k : Fin 1024) : EReal :=
  x (ix2 r k) + ∑ a, mix (ix2 r a) * wo (ix2 a k)
/-- and the cotangent of the normed row. -/
def cot (df : FVec Ideal S2048x4096 .f32) (w : FVec Ideal S1024x4096 .f32) (r : Fin 2048) (l : Fin 1024) : EReal :=
  ∑ k, df (ix2 r k) * w (ix2 l k)

/-- The host's stream. -/
def hostStream (c : Dev nD) : FVec Ideal S2048x1024 .f32 :=
  addf (show FVec Ideal S2048x1024 .f32 from m ((c : Thread nD τ).loc main_arg2))
    (Host.dotGeneral dot_S2048x1024_S1024x1024_S2048x1024_1_0_0_1_n_n none
      (show FVec Ideal S2048x1024 .f32 from m ((c : Thread nD τ).loc main_arg3)) (show FVec Ideal S1024x1024 .f32 from m ((c : Thread nD τ).loc main_arg4)))

theorem host1 (c : Dev nD) : V m c main_v1 = hostStream m c := by
  simp only [V, hostOps0]
  after_results_simp <;> rfl

/-- The blocks of point `t`, read in the argument arrays: the cotangent, -/
theorem read0 (c : Dev nD) (t : Fin cfg0.N) (r : Fin 512) (k : Fin 1024) :
    (show FVec Ideal S512x1024 .bf16 from iblk m c 0 t) (ix2 r k)
      = (show FVec Ideal S2048x4096 .f32 from m ((c : Thread nD τ).loc main_arg0)) (ix2 (row t r) (lane t k)) := by
  blk_point [iblk, V, idx t, row, lane]
/-- the first weight, in groups of lanes, -/
theorem read1 (c : Dev nD) (t : Fin cfg0.N) (j : Fin 4) (l k : Fin 1024) :
    (show FVec Ideal S4x1024x1024 .bf16 from iblk m c 1 t) (ix3 j l k)
      = (show FVec Ideal S1024x4096 .f32 from m ((c : Thread nD τ).loc main_arg6)) (ix2 l ⟨j.val * 1024 + k.val, by omega⟩) := by
  blk_point [iblk, V, idx t]
/-- the residual's cotangent, -/
theorem read2 (c : Dev nD) (t : Fin cfg0.N) (r : Fin 512) (k : Fin 1024) :
    (show FVec Ideal S512x1024 .f32 from iblk m c 2 t) (ix2 r k)
      = (show FVec Ideal S2048x1024 .f32 from m ((c : Thread nD τ).loc main_arg1)) (ix2 (row t r) k) := by
  blk_point [iblk, V, idx t, row]
/-- the stream, -/
theorem read3 (c : Dev nD) (t : Fin cfg0.N) (r : Fin 512) (k : Fin 1024) :
    (show FVec Ideal S512x1024 .f32 from iblk m c 3 t) (ix2 r k)
      = stream (m ((c : Thread nD τ).loc main_arg2)) (m ((c : Thread nD τ).loc main_arg3)) (m ((c : Thread nD τ).loc main_arg4)) (row t r) k := by
  have he : ((cfg0.win 3).blk t).view.emb (ix2 r k : S512x1024.Idx) = (ix2 (row t r) k : S2048x1024.Idx) := by
    blk_ext [idx t, row]
  refine (congrArg (V m c main_v1) he).trans ?_
  rw [host1]
  unfold stream
  pointwise [hostStream]
/-- the gain, -/
theorem read4 (c : Dev nD) (t : Fin cfg0.N) (k : Fin 1024) :
    (show FVec Ideal S1x1024 .f32 from iblk m c 4 t) (ix2 0 k)
      = (show FVec Ideal S1x1024 .f32 from m ((c : Thread nD τ).loc main_arg5)) (ix2 0 k) := by
  blk_point [iblk, V, idx t]
/-- the mixed rows, -/
theorem read5 (c : Dev nD) (t : Fin cfg0.N) (r : Fin 512) (k : Fin 1024) :
    (show FVec Ideal S512x1024 .bf16 from iblk m c 5 t) (ix2 r k)
      = (show FVec Ideal S2048x1024 .f32 from m ((c : Thread nD τ).loc main_arg3)) (ix2 (row t r) k) := by
  blk_point [iblk, V, idx t, row]
/-- and the projection. -/
theorem read6 (c : Dev nD) (t : Fin cfg0.N) (l k : Fin 1024) :
    (show FVec Ideal S1024x1024 .bf16 from iblk m c 6 t) (ix2 l k)
      = (show FVec Ideal S1024x1024 .f32 from m ((c : Thread nD τ).loc main_arg4)) (ix2 l k) := by
  blk_point [iblk, V, idx t]

/-- The weight's group that a point loads. -/
def wgrp (c : Dev nD) (t : Fin cfg0.N) : FVec Ideal S1x1024x1024 .bf16 :=
  View.ld (Val := Elt Ideal) (e' := .bf16) (S := S4x1024x1024) (iblk m c 1 t) (Rect.unit (s := S4x1024x1024) (k0_off1 (grid0.coords t)) ![1, 1024, 1024] (k0_off1_inb (grid0.coords t)))

theorem wgrp_at (c : Dev nD) (t : Fin cfg0.N) (l k : Fin 1024) : wgrp m c t (ix3 0 l k)
    = (show FVec Ideal S1024x4096 .f32 from m ((c : Thread nD τ).loc main_arg6)) (ix2 l (lane t k)) := by
  refine Eq.trans (congrArg (iblk m c 1 t) (?_ : _ = (ix3 ⟨t.val % 4, by omega⟩ l k : S4x1024x1024.Idx))) (read1 m c t ⟨t.val % 4, by omega⟩ l k)
  funext a
  apply Fin.ext
  refine (Rect.idx_unit_val _ _ _ _ _).trans ((congrArg (· + _) (congrFun (group t) a)).trans ?_)
  match a with
  | ⟨0, _⟩ => simp
  | ⟨1, _⟩ => simp
  | ⟨2, _⟩ => simp

/-- A point's part of the cotangent. -/
def part (c : Dev nD) (t : Fin cfg0.N) (r : Fin 512) (l : Fin 1024) : EReal :=
  ∑ k, (show FVec Ideal S2048x4096 .f32 from m ((c : Thread nD τ).loc main_arg0)) (ix2 (row t r) (lane t k))
    * (show FVec Ideal S1024x4096 .f32 from m ((c : Thread nD τ).loc main_arg6)) (ix2 l (lane t k))

theorem part_eq (c : Dev nD) (t : Fin cfg0.N) (r : Fin 512) (l : Fin 1024) :
    ∑ k, (show FVec Ideal S512x1024 .bf16 from iblk m c 0 t) (ix2 r k) * wgrp m c t (ix3 0 l k) = part m c t r l :=
  Finset.sum_congr rfl fun k _ => congrArg₂ (· * ·) (read0 m c t r k) (wgrp_at m c t l k)

/-- The sum so far, at the first point of a row block -/
theorem scr_first (c : Dev nD) (t : Fin cfg0.N) (h : t.val % 4 = 0) (r : Fin 512) (l : Fin 1024) :
    (outsAt0 m c t.val t.isLt).2.2.2.2 (ix2 r l) = part m c t r l := by
  rw [outsAt0_A m c t h (by omega) (by omega)]; frame_out
  exact (pay2_at _ _ r l).trans (part_eq m c t r l)
/-- and at a later one. -/
theorem scr_next (c : Dev nD) (t : Fin cfg0.N) (h : ¬ t.val % 4 = 0) (h' : ¬ t.val % 4 = 3) (r : Fin 512) (l : Fin 1024) :
    (outsAt0 m c t.val t.isLt).2.2.2.2 (ix2 r l)
      = (outsAt0 m c (t.val - 1) (Nat.lt_of_le_of_lt (Nat.sub_le _ _) t.isLt)).2.2.2.2 (ix2 r l) + part m c t r l := by
  rw [outsAt0_B m c t h (by omega) h']; frame_out
  rw [read_unread_whole]
  exact (pay3_at _ _ _ r l).trans (congrArg₂ (· + ·) rfl (part_eq m c t r l))

/-- What the last point of a row block works with: the whole sum, -/
def whole (c : Dev nD) (t : Fin cfg0.N) : FVec Ideal S512x1024 .f32 :=
  k0_pay3 (F := Ideal) (iblk m c 0 t) (wgrp m c t) (outsAt0 m c (t.val - 1) (Nat.lt_of_le_of_lt (Nat.sub_le _ _) t.isLt)).2.2.2.2

/-- which is the cotangent. -/
theorem whole_at (c : Dev nD) (t : Fin cfg0.N) (h : t.val % 4 = 3) (r : Fin 512) (l : Fin 1024) : whole m c t (ix2 r l)
    = cot (m ((c : Thread nD τ).loc main_arg0)) (m ((c : Thread nD τ).loc main_arg6)) (row t r) l := by
  have l16 := lt16 t
  have e (i : ℕ) : t.val - i < cfg0.N := lt_of_le_of_lt (Nat.sub_le _ _) t.isLt
  have s2 := scr_next m c ⟨t.val - 1, e 1⟩ (by dsimp only; omega) (by dsimp only; omega) r l
  have s1 := scr_next m c ⟨t.val - 2, e 2⟩ (by dsimp only; omega) (by dsimp only; omega) r l
  have s0 := scr_first m c ⟨t.val - 3, e 3⟩ (by dsimp only; omega) r l
  refine (pay3_at _ _ _ r l).trans ((congrArg₂ (· + ·) (s2.trans (congrArg (· + _) (s1.trans (congrArg (· + _) s0)))) (part_eq m c t r l)).trans ?_)
  have q (p : Fin 4) (hp : t.val - (3 - p.val) < cfg0.N) : part m c ⟨t.val - (3 - p.val), hp⟩ r l = ∑ k : Fin 1024,
      (fun k : Fin 4096 => (show FVec Ideal S2048x4096 .f32 from m ((c : Thread nD τ).loc main_arg0)) (ix2 (row t r) k)
        * (show FVec Ideal S1024x4096 .f32 from m ((c : Thread nD τ).loc main_arg6)) (ix2 l k)) ⟨p.val * 1024 + k.val, by omega⟩ := by
    have e1 : row ⟨t.val - (3 - p.val), hp⟩ r = row t r := Fin.ext (by unfold row; dsimp only; omega)
    have e2 (k : Fin 1024) : lane ⟨t.val - (3 - p.val), hp⟩ k = ⟨p.val * 1024 + k.val, by omega⟩ := Fin.ext (by unfold lane; dsimp only; omega)
    unfold part
    simp only [e1, e2]
  refine (congrArg₂ (· + ·) (congrArg₂ (· + ·) (congrArg₂ (· + ·) (q 0 (e 3)) (q 1 (e 2))) (q 2 (e 1))) (q 3 (e 0))).trans ?_
  unfold cot
  refine (Fin.sum_univ_four (f := fun p : Fin 4 => ∑ k : Fin 1024,
      (fun k : Fin 4096 => (show FVec Ideal S2048x4096 .f32 from m ((c : Thread nD τ).loc main_arg0)) (ix2 (row t r) k)
        * (show FVec Ideal S1024x4096 .f32 from m ((c : Thread nD τ).loc main_arg6)) (ix2 l k)) ⟨p.val * 1024 + k.val, by omega⟩)).symm.trans ?_
  exact Fin.sum_mul_add_congr fun s k hl => rfl

end Cert.FfnInIdeal.Block
end
-- ==== Proof.FfnInArrays.lean ====
module

public import proofs.«01_k».proof.Proof.FfnInBlock

/-!
# The result arrays of the second norm's and the output projection's gradients

A row block's last point stores the two rows' results; the gain's and the projection's sums are carried over the row
blocks.
-/

@[expose] public section

set_option maxRecDepth 16384

noncomputable section

namespace Cert.FfnInIdeal.Block

open Idealize.ShloMosaic Idealize.ShloMosaic.TcCoe Idealize.SL.Sem
open Idealize.ShloMosaic.Pipeline (Dat)
open Cert.FfnInIdeal Cert.FfnInIdeal.Gen Cert.InBwdEq

variable (m : (ℓ : Loc nD τ sig) → Buf (Elt Ideal) ℓ)

/-- The arguments of a run. -/
structure Args where
  df : FVec Ideal S2048x4096 .f32
  dh : FVec Ideal S2048x1024 .f32
  x : FVec Ideal S2048x1024 .f32
  mix : FVec Ideal S2048x1024 .f32
  wo : FVec Ideal S1024x1024 .f32
  g : FVec Ideal S1x1024 .f32
  w : FVec Ideal S1024x4096 .f32

/-- A row of the stream, of its norm's cotangent, -/
def Args.h (a : Args) (r : Fin 2048) : Fin 1024 → EReal := stream a.x a.mix a.wo r
def Args.d (a : Args) (r : Fin 2048) : Fin 1024 → EReal := cot a.df a.w r
/-- of the stream's cotangent, as the kernel computes it, -/
def Args.dh1 (a : Args) (r : Fin 2048) (l : Fin 1024) : EReal :=
  kernelRow (a.h r) (a.d r) (fun k => a.dh (ix2 r k)) (fun k => a.g (ix2 0 k)) l
/-- of the mixer's, -/
def Args.dmix (a : Args) (r : Fin 2048) (l : Fin 1024) : EReal := ∑ k, a.dh1 r k * a.wo (ix2 l k)
/-- the projection's gradient and the gain's. -/
def Args.dwo (a : Args) (l k : Fin 1024) : EReal := ∑ r, a.mix (ix2 r l) * a.dh1 r k
def Args.dg (a : Args) (l : Fin 1024) : EReal := ∑ r, a.d r l * (a.h r l * Ideal.rsqrt (meanSq (a.h r)))

/-- The arguments in memory. -/
def args (c : Dev nD) : Args where
  df := m ((c : Thread nD τ).loc main_arg0)
  dh := m ((c : Thread nD τ).loc main_arg1)
  x := m ((c : Thread nD τ).loc main_arg2)
  mix := m ((c : Thread nD τ).loc main_arg3)
  wo := m ((c : Thread nD τ).loc main_arg4)
  g := m ((c : Thread nD τ).loc main_arg5)
  w := m ((c : Thread nD τ).loc main_arg6)

section
variable (c : Dev nD) (t : Fin cfg0.N) (h : t.val % 4 = 3)
include h

/-- A row of the last point's sum is the cotangent's row, -/
theorem d_row (r : Fin 512) : (fun k => whole m c t (ix2 r k)) = (args m c).d (row t r) :=
  funext fun k => whole_at m c t h r k
omit h in
theorem h_row (r : Fin 512) : (fun k => (show FVec Ideal S512x1024 .f32 from iblk m c 3 t) (ix2 r k)) = (args m c).h (row t r) :=
  funext fun k => read3 m c t r k

/-- so that its stream's cotangent is the array's, -/
theorem pay15_point (r : Fin 512) (l : Fin 1024) :
    k0_pay15 (F := Ideal) (whole m c t) (iblk m c 3 t) (iblk m c 2 t) (iblk m c 4 t) (ix2 r l) = (args m c).dh1 (row t r) l := by
  refine (pay15_at _ _ _ _ r l).trans ?_
  have e2 : (fun k => (show FVec Ideal S512x1024 .f32 from iblk m c 2 t) (ix2 r k)) = fun k => (args m c).dh (ix2 (row t r) k) :=
    funext fun k => read2 m c t r k
  have e4 : (fun k => (show FVec Ideal S1x1024 .f32 from iblk m c 4 t) (ix2 0 k)) = fun k => (args m c).g (ix2 0 k) :=
    funext fun k => read4 m c t k
  unfold Args.dh1
  rw [← d_row m c t h r, ← h_row m c t r, ← e2, ← e4]
theorem pay14_point (y : S512x1024.Idx) :
    k0_pay14 (F := Ideal) (whole m c t) (iblk m c 3 t) (iblk m c 2 t) (iblk m c 4 t) y = (args m c).dh1 (row t (y 0)) (y 1) :=
  (congrArg _ (eq_ix2 y)).trans ((pay14_at _ _ _ _ (y 0) (y 1)).trans
    ((pay15_at _ _ _ _ (y 0) (y 1)).symm.trans (pay15_point m c t h (y 0) (y 1))))
/-- the mixer's, -/
theorem pay16_point (y : S512x1024.Idx) :
    k0_pay16 (F := Ideal) (whole m c t) (iblk m c 3 t) (iblk m c 2 t) (iblk m c 4 t) (iblk m c 6 t) y
      = (args m c).dmix (row t (y 0)) (y 1) :=
  (congrArg _ (eq_ix2 y)).trans ((pay16_at _ _ _ _ _ (y 0) (y 1)).trans
    (Finset.sum_congr rfl fun k _ => congrArg₂ (· * ·) (pay15_point m c t h (y 0) k) (read6 m c t (y 1) k)))

/-- and the block's parts of the two sums. -/
theorem dwo_part (a k : Fin 1024) :
    (∑ r : Fin 512, (show FVec Ideal S512x1024 .bf16 from iblk m c 5 t) (ix2 r a)
      * k0_pay15 (F := Ideal) (whole m c t) (iblk m c 3 t) (iblk m c 2 t) (iblk m c 4 t) (ix2 r k))
      = ∑ r : Fin 512, (args m c).mix (ix2 (row t r) a) * (args m c).dh1 (row t r) k :=
  Finset.sum_congr rfl fun r _ => congrArg₂ (· * ·) (read5 m c t r a) (pay15_point m c t h r k)
theorem dg_part (l : Fin 1024) :
    (∑ r : Fin 512, whole m c t (ix2 r l) * ((show FVec Ideal S512x1024 .f32 from iblk m c 3 t) (ix2 r l)
        * Ideal.rsqrt (meanSq fun k => (show FVec Ideal S512x1024 .f32 from iblk m c 3 t) (ix2 r k))))
      = ∑ r : Fin 512, (args m c).d (row t r) l * ((args m c).h (row t r) l * Ideal.rsqrt (meanSq ((args m c).h (row t r)))) :=
  Finset.sum_congr rfl fun r _ => congrArg₂ (· * ·) (congrFun (d_row m c t h r) l)
    (congrArg₂ (· * ·) (congrFun (h_row m c t r) l) (congrArg (fun f => Ideal.rsqrt (meanSq f)) (h_row m c t r)))
end

/-- The stream's cotangent after the run, -/
theorem dh1_array (c : Dev nD) : (dats m 0 c).arrAt 7 cfg0.N
    = (fun i => (args m c).dh1 (i 0) (i 1) : FVec Ideal S2048x1024 .f32) := by
  refine (dats m 0 c).arrAt_eq_of_covers 7 _ (by decide +kernel) fun t ht y => ?_
  have he : ((cfg0.win 7).blk t).view.emb y = (ix2 (row t (y 0)) (y 1) : S2048x1024.Idx) := by
    blk_ext [idx t, row]
  have h3 : t.val % 4 = 3 := (by decide +kernel : ∀ t : Fin cfg0.N, (cfg0.win 7).flush t = true → t.val % 4 = 3) t ht
  have hp := pay14_point m c t h3 y
  blk_simp
  rw [after0_7, he]
  by_cases h : t.val < 4
  · rw [outsAt0_C m c t (by omega) (by omega) h3 h (by omega)]; frame_out
    rw [read_unread_whole]
    exact hp
  · rw [outsAt0_D m c t (by omega) (by omega) h3 h (by omega)]; frame_out
    rw [read_unread_whole]
    exact hp

/-- and the mixer's. -/
theorem dmix_array (c : Dev nD) : (dats m 0 c).arrAt 8 cfg0.N
    = (fun i => (args m c).dmix (i 0) (i 1) : FVec Ideal S2048x1024 .f32) := by
  refine (dats m 0 c).arrAt_eq_of_covers 8 _ (by decide +kernel) fun t ht y => ?_
  have he : ((cfg0.win 8).blk t).view.emb y = (ix2 (row t (y 0)) (y 1) : S2048x1024.Idx) := by
    blk_ext [idx t, row]
  have h3 : t.val % 4 = 3 := (by decide +kernel : ∀ t : Fin cfg0.N, (cfg0.win 8).flush t = true → t.val % 4 = 3) t ht
  have hp := pay16_point m c t h3 y
  blk_simp
  rw [after0_8, he]
  by_cases h : t.val < 4
  · rw [outsAt0_C m c t (by omega) (by omega) h3 h (by omega)]; frame_out
    rw [read_unread_whole]
    exact hp
  · rw [outsAt0_D m c t (by omega) (by omega) h3 h (by omega)]; frame_out
    rw [read_unread_whole]
    exact hp

/-- The two sums at a point that is not a row block's last are the ones before it. -/
theorem keep (c : Dev nD) (t : Fin cfg0.N) (h : ¬ t.val % 4 = 3) (h' : 1 ≤ t.val) :
    (outsAt0 m c t.val t.isLt).2.2.1 = (outsAt0 m c (t.val - 1) (Nat.lt_of_le_of_lt (Nat.sub_le _ _) t.isLt)).2.2.1
      ∧ (outsAt0 m c t.val t.isLt).2.2.2.1 = (outsAt0 m c (t.val - 1) (Nat.lt_of_le_of_lt (Nat.sub_le _ _) t.isLt)).2.2.2.1 := by
  by_cases h0 : t.val % 4 = 0
  · rw [outsAt0_A m c t h0 (by omega) (by omega)]
    exact ⟨rfl, rfl⟩
  · rw [outsAt0_B m c t h0 (by omega) h]
    exact ⟨rfl, rfl⟩

/-- At the first row block's last point they are its parts, -/
theorem first (c : Dev nD) (t : Fin cfg0.N) (h : t.val % 4 = 3) (h' : t.val < 4) (a k : Fin 1024) :
    (outsAt0 m c t.val t.isLt).2.2.1 (ix2 a k) = (∑ r : Fin 512, (args m c).mix (ix2 (row t r) a) * (args m c).dh1 (row t r) k)
      ∧ (outsAt0 m c t.val t.isLt).2.2.2.1 (ix2 0 k)
        = ∑ r : Fin 512, (args m c).d (row t r) k * ((args m c).h (row t r) k * Ideal.rsqrt (meanSq ((args m c).h (row t r)))) := by
  have p1 := dwo_part m c t h a k
  have p2 := dg_part m c t h k
  rw [outsAt0_C m c t (by omega) (by omega) h h' (by omega)]
  constructor
  · frame_out
    rw [read_unread_whole]
    exact (pay6_at _ _ a k).trans p1
  · frame_out
    rw [read_unread_whole]
    exact (pay7_at _ _ k).trans p2
/-- and at a later one's they are added. -/
theorem next (c : Dev nD) (t : Fin cfg0.N) (h : t.val % 4 = 3) (h' : ¬ t.val < 4) (a k : Fin 1024) :
    (outsAt0 m c t.val t.isLt).2.2.1 (ix2 a k) = (outsAt0 m c (t.val - 1) (Nat.lt_of_le_of_lt (Nat.sub_le _ _) t.isLt)).2.2.1 (ix2 a k)
        + (∑ r : Fin 512, (args m c).mix (ix2 (row t r) a) * (args m c).dh1 (row t r) k)
      ∧ (outsAt0 m c t.val t.isLt).2.2.2.1 (ix2 0 k)
        = (outsAt0 m c (t.val - 1) (Nat.lt_of_le_of_lt (Nat.sub_le _ _) t.isLt)).2.2.2.1 (ix2 0 k)
          + ∑ r : Fin 512, (args m c).d (row t r) k * ((args m c).h (row t r) k * Ideal.rsqrt (meanSq ((args m c).h (row t r)))) := by
  have p1 := dwo_part m c t h a k
  have p2 := dg_part m c t h k
  rw [outsAt0_D m c t (by omega) (by omega) h h' (by omega)]
  constructor
  · frame_out
    rw [read_unread_whole]
    exact (pay8_at _ _ _ a k).trans (congrArg₂ (· + ·) rfl p1)
  · frame_out
    rw [read_unread_whole]
    exact (pay9_at _ _ _ k).trans (congrArg₂ (· + ·) rfl p2)

/-- From one row block's last point to the next one's. -/
theorem step (c : Dev nD) (t s : Fin cfg0.N) (h : t.val % 4 = 3) (hs : t.val = s.val + 4) (a k : Fin 1024) :
    (outsAt0 m c t.val t.isLt).2.2.1 (ix2 a k) = (outsAt0 m c s.val s.isLt).2.2.1 (ix2 a k)
        + (∑ r : Fin 512, (args m c).mix (ix2 (row t r) a) * (args m c).dh1 (row t r) k)
      ∧ (outsAt0 m c t.val t.isLt).2.2.2.1 (ix2 0 k) = (outsAt0 m c s.val s.isLt).2.2.2.1 (ix2 0 k)
          + ∑ r : Fin 512, (args m c).d (row t r) k * ((args m c).h (row t r) k * Ideal.rsqrt (meanSq ((args m c).h (row t r)))) := by
  have e (i : ℕ) : t.val - i < cfg0.N := lt_of_le_of_lt (Nat.sub_le _ _) t.isLt
  have k3 := keep m c ⟨t.val - 1, e 1⟩ (by dsimp only; omega) (by dsimp only; omega)
  have k2 := keep m c ⟨t.val - 2, e 2⟩ (by dsimp only; omega) (by dsimp only; omega)
  have k1 := keep m c ⟨t.val - 3, e 3⟩ (by dsimp only; omega) (by dsimp only; omega)
  have n := next m c t h (by omega) a k
  obtain rfl : s = ⟨t.val - 4, e 4⟩ := Fin.ext (by dsimp only; omega)
  exact ⟨n.1.trans (congrArg (· + _) (congrFun (k3.1.trans (k2.1.trans k1.1)) _)),
    n.2.trans (congrArg (· + _) (congrFun (k3.2.trans (k2.2.trans k1.2)) _))⟩

/-- A sum over the rows, as the kernel adds it up. -/
theorem sum_rows (f : Fin 2048 → EReal) : (∑ r : Fin 512, f (row t0_3 r)) + (∑ r : Fin 512, f (row t0_7 r))
    + (∑ r : Fin 512, f (row t0_11 r)) + (∑ r : Fin 512, f (row t0_15 r)) = ∑ r, f r := by
  refine (Fin.sum_univ_four (f := fun p : Fin 4 => ∑ r : Fin 512, f ⟨p.val * 512 + r.val, by omega⟩)).symm.trans ?_
  exact Fin.sum_mul_add_congr fun s k hl => rfl

theorem at_end (c : Dev nD) (a k : Fin 1024) :
    (outsAt0 m c t0_15.val t0_15.isLt).2.2.1 (ix2 a k) = (args m c).dwo a k
      ∧ (outsAt0 m c t0_15.val t0_15.isLt).2.2.2.1 (ix2 0 k) = (args m c).dg k := by
  have s3 := first m c t0_3 (by decide +kernel) (by decide +kernel) a k
  have s7 := step m c t0_7 t0_3 (by decide +kernel) (by decide +kernel) a k
  have s11 := step m c t0_11 t0_7 (by decide +kernel) (by decide +kernel) a k
  have s15 := step m c t0_15 t0_11 (by decide +kernel) (by decide +kernel) a k
  rw [s3.1, s3.2] at s7
  rw [s7.1, s7.2] at s11
  rw [s11.1, s11.2] at s15
  exact ⟨s15.1.trans (sum_rows fun r => (args m c).mix (ix2 r a) * (args m c).dh1 r k),
    s15.2.trans (sum_rows fun r => (args m c).d r k * ((args m c).h r k * Ideal.rsqrt (meanSq ((args m c).h r))))⟩

/-- The projection's gradient after the run, -/
theorem dwo_array (c : Dev nD) : (dats m 0 c).arrAt 9 cfg0.N
    = (fun i => (args m c).dwo (i 0) (i 1) : FVec Ideal S1024x1024 .f32) := by
  refine (dats m 0 c).arrAt_eq_of_after_last 9 t0_15 (by decide +kernel) _ fun j => ?_
  blk_simp
  rw [after0_9]
  idx_vars j
  exact (at_end m c _ _).1

/-- and the gain's. -/
theorem dg_array (c : Dev nD) : (dats m 0 c).arrAt 10 cfg0.N
    = (fun i => (args m c).dg (i 1) : FVec Ideal S1x1024 .f32) := by
  refine (dats m 0 c).arrAt_eq_of_after_last 10 t0_15 (by decide +kernel) _ fun j => ?_
  blk_simp
  rw [after0_10]
  have hj : j = (ix2 0 (j 1) : S1x1024.Idx) := by blk_ext
  exact (congrArg _ hj).trans (at_end m c 0 (j 1)).2

end Cert.FfnInIdeal.Block
end
-- ==== Proof.FfnInRef.lean ====
module

public import proofs.«01_k».proof.Proof.FfnInArrays
public import proofs.«01_k».proof.Proof.Gen.FfnInRefIdeal.Run
public import proofs.«01_k».proof.Proof.Gen.Pre_ffn_in_finite

/-!
# The reference of the second norm's and the output projection's gradients

Its four results as functions of the arguments, and that they are the kernel's where the arguments are real.
-/

@[expose] public section

set_option maxRecDepth 16384

noncomputable section

namespace Cert.FfnInIdeal.Block

open Idealize.ShloMosaic Cert.InBwdEq Cert.Reals

/-- The reference's row of the stream's cotangent. -/
def Args.refDh1 (a : Args) (r : Fin 2048) (l : Fin 1024) : EReal :=
  refRow (a.h r) (a.d r) (fun k => a.dh (ix2 r k)) (fun k => a.g (ix2 0 k)) l

/-- Every argument that is multiplied is real. -/
structure Args.Real (a : Args) : Prop where
  df : ∀ i, IsReal (a.df i)
  x : ∀ i, IsReal (a.x i)
  mix : ∀ i, IsReal (a.mix i)
  wo : ∀ i, IsReal (a.wo i)
  g : ∀ i, IsReal (a.g i)
  w : ∀ i, IsReal (a.w i)

/-- Then the kernel's row is the reference's. -/
theorem Args.Real.dh1_eq {a : Args} (h : a.Real) (r : Fin 2048) (l : Fin 1024) : a.dh1 r l = a.refDh1 r l := by
  have hh (k : Fin 1024) : IsReal (a.h r k) := by
    unfold Args.h stream
    exact (h.x _).add (.sum fun j => (h.mix _).mul (h.wo _))
  have hd (k : Fin 1024) : IsReal (a.d r k) := by
    unfold Args.d cot
    exact .sum fun j => (h.df _).mul (h.w _)
  choose X hX using hh
  choose D hD using hd
  choose G hG using fun k : Fin 1024 => h.g (ix2 0 k)
  unfold Args.dh1 Args.refDh1
  rw [show a.h r = fun k => (X k : EReal) from funext hX, show a.d r = fun k => (D k : EReal) from funext hD,
    show (fun k => a.g (ix2 0 k)) = fun k => (G k : EReal) from funext hG]
  exact row_eq X D G _ l

end Cert.FfnInIdeal.Block

namespace Cert.FfnInRefIdeal.Ref

open Idealize.ShloMosaic Idealize.ShloMosaic.TcCoe Idealize.SL.Sem
open Cert.FfnInRefIdeal Cert.FfnInRefIdeal.Gen Cert.InBwdEq
open Cert.FfnInIdeal.Block (Args stream cot)

variable (m : (ℓ : Loc nD τ sig) → Buf (Elt Ideal) ℓ)

/-- The arguments in the reference's memory. -/
def args (c : Dev nD) : Args where
  df := m ((c : Thread nD τ).loc main_arg0)
  dh := m ((c : Thread nD τ).loc main_arg1)
  x := m ((c : Thread nD τ).loc main_arg2)
  mix := m ((c : Thread nD τ).loc main_arg3)
  wo := m ((c : Thread nD τ).loc main_arg4)
  g := m ((c : Thread nD τ).loc main_arg5)
  w := m ((c : Thread nD τ).loc main_arg6)

/-- The stream's cotangent, -/
theorem dh1_at (c : Dev nD) (r : Fin 2048) (l : Fin 1024) :
    (show FVec Ideal S2048x1024 .f32 from Value.res_main_v38 m c) (ix2 r l) = (args m c).refDh1 r l := by
  unfold Args.refDh1 refRow refMean Args.h Args.d args stream cot
  pointwise [Value.res_main_v38]
  simp only [Fin.sum_univ_one, Fin.isValue]

/-- the mixer's, -/
theorem dmix_at (c : Dev nD) (r : Fin 2048) (l : Fin 1024) :
    (show FVec Ideal S2048x1024 .f32 from Value.res_main_v42 m c) (ix2 r l)
      = ∑ k, (args m c).refDh1 r k * (args m c).wo (ix2 l k) := by
  simp only [← dh1_at]
  pointwise [Value.res_main_v42, Value.res_main_v38]
  rfl

/-- the projection's gradient, -/
theorem dwo_at (c : Dev nD) (l k : Fin 1024) :
    (show FVec Ideal S1024x1024 .f32 from Value.res_main_v41 m c) (ix2 l k)
      = ∑ r, (args m c).refDh1 r k * (args m c).mix (ix2 r l) := by
  simp only [← dh1_at]
  pointwise [Value.res_main_v41, Value.res_main_v38]
  rfl

end Cert.FfnInRefIdeal.Ref

namespace Cert.Pre_ffn_in_finite

open Idealize.ShloMosaic Cert.Reals

/-- The precondition: all arguments but the residual's cotangent are arrays of real numbers. -/
theorem reals (df : FVec Ideal S2048x4096 .f32) (dh x mix : FVec Ideal S2048x1024 .f32) (wo : FVec Ideal S1024x1024 .f32)
    (g : FVec Ideal S1x1024 .f32) (w : FVec Ideal S1024x4096 .f32)
    (h : fn (F := Ideal) df dh x mix wo g w = fun _ => 1#1) :
    Cert.FfnInIdeal.Block.Args.Real ⟨df, dh, x, mix, wo, g, w⟩ := by
  have h0 := congrFun h ix0
  unfold fn fn_part1 at h0
  simp only [andi, IntOp.andi_eq_one] at h0
  obtain ⟨⟨⟨⟨⟨ha, hb⟩, hc⟩, hd⟩, he⟩, hf⟩ := h0
  haveI : Subsingleton S_.Idx := ⟨fun a b => funext fun i => i.elim0⟩
  exact ⟨isReal_of_all _ _ _ _ _ _ ha, isReal_of_all _ _ _ _ _ _ hb, isReal_of_all _ _ _ _ _ _ hc, isReal_of_all _ _ _ _ _ _ hd,
    isReal_of_all _ _ _ _ _ _ he, isReal_of_all _ _ _ _ _ _ hf⟩

end Cert.Pre_ffn_in_finite
end
-- ==== Proof.FfnInClaims.lean ====
module

public import proofs.«01_k».proof.Defs
public import proofs.«01_k».proof.Proof.Gen.FfnIn.Frame
public import proofs.«01_k».proof.Proof.FfnInRef
public import Idealize.ShloMosaic.Lib.Claim
public import Idealize.ShloMosaic.Lib.Quiescent

/-!
# The claims about the kernel of the second norm and the output projection
-/

@[expose] public section

set_option maxRecDepth 16384

noncomputable section

namespace Cert.Proof.FfnIn

open Idealize.ShloMosaic Idealize.ShloMosaic.TcCoe Idealize.SL.Sem
open Cert.FfnInIdeal.Block

/-- The kernel's program runs and ends quiescent, its arguments unchanged. -/
theorem frame : Cert.quiescent_FfnIn := fun m ρ _ => Cert.FfnIn.Gen.frame m ρ
/-- So does its idealization. -/
theorem frameIdeal : Cert.quiescent_FfnInIdeal := fun m ρ _ => Cert.FfnInIdeal.Gen.frame m ρ

/-- and the reference. -/
theorem frameRef : Cert.quiescent_FfnInRefIdeal := fun m ρ _ =>
  (θ_run Cert.FfnInRefIdeal.defs _ _).mono (fun r h => ⟨fun c => (h c).2.2.2.2,
      Idealize.ShloMosaic.sem_eq_zero_of_no_sems (by decide) r.2⟩)
    (Cert.FfnInRefIdeal.Value.run (F := Ideal) m ρ)

/-- Where all arguments but the residual's cotangent are real, the kernel's four results are the reference's. -/
theorem algebraic : Cert.algebraic_FfnInIdeal_FfnInRefIdeal_pre_ffn_in_finite := by
  intro m g m' g' hpre hagree
  refine ⟨_, _, _, _, Cert.FfnInIdeal.Value.run_blocks m g,
    (θ_run Cert.FfnInRefIdeal.defs _ _).mono (fun r h c => ⟨(h c).1.trans ?_, (h c).2.1.trans ?_, (h c).2.2.1.trans ?_, (h c).2.2.2.1.trans ?_, (h c).2.2.2.2⟩)
      (Cert.FfnInRefIdeal.Value.run m' g')⟩
  all_goals
    obtain ⟨e0, e1, e2, e3, e4, e5, e6⟩ := hagree c
    have ea : Cert.FfnInRefIdeal.Ref.args m' c = args m c := by
      unfold Cert.FfnInRefIdeal.Ref.args args
      rw [e0, e1, e2, e3, e4, e5, e6]
    have hr : (args m c).Real := Cert.Pre_ffn_in_finite.reals _ _ _ _ _ _ _ (hpre c)
  · rw [dh1_array m c]
    funext i
    refine (congrArg _ (eq_ix2 i)).trans ((Cert.FfnInRefIdeal.Ref.dh1_at m' c (i 0) (i 1)).trans ?_)
    rw [ea]
    exact (hr.dh1_eq _ _).symm
  · rw [dmix_array m c]
    funext i
    refine (congrArg _ (eq_ix2 i)).trans ((Cert.FfnInRefIdeal.Ref.dmix_at m' c (i 0) (i 1)).trans ?_)
    rw [ea]
    exact Finset.sum_congr rfl fun k _ => congrArg (· * _) (hr.dh1_eq _ _).symm
  · rw [dwo_array m c]
    funext i
    refine (congrArg _ (eq_ix2 i)).trans ((Cert.FfnInRefIdeal.Ref.dwo_at m' c (i 0) (i 1)).trans ?_)
    rw [ea]
    exact Finset.sum_congr rfl fun k _ => (congrArg (· * _) (hr.dh1_eq _ _).symm).trans (mul_comm _ _)
  · rw [e0, e2, e3, e4, e6, dg_array m c]
    funext i
    idx_vars i
    unfold Args.dg Args.h Args.d args stream cot
    pointwise
    exact Finset.sum_congr rfl fun r _ => mul_comm _ _

end Cert.Proof.FfnIn
end
-- ==== Proof.MixCut.lean ====
module

public import proofs.«01_k».proof.Proof.Gen.MixerBwdIdeal.Skeleton
public import Idealize.ShloMosaic.Lib.Tactic.Stretches
public import Idealize.ShloMosaic.Lib.Tactic.OpenCalls

/-!
# The mixer's backward kernel in three stretches

One grid point of the kernel is: at the first point the accumulators are cleared (`st1`); the point's own rows (`st2`);
what is kept for the point before and, at certain points, finished sums (`st3`).
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic

open_calls body := cc0_mixer_bwd [k0_part46, k0_part68]

cut_chain st := body at 2, 31, 32, 34, 35

end Cert.MixerBwdIdeal.Run
end
-- ==== Proof.MixRunEnds.lean ====
module

public import proofs.«01_k».proof.Proof.MixCut
public import proofs.«01_k».proof.Proof.Gen.MixerBwdIdeal.Frame

/-!
# The short stretches

What the stretches around the point's own work leave in the arrays they store into.
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg1 : Memref sig .tc .vmem S128x1792 .f32) (harg1 : arg1.IsWhole) (arg2 : Memref sig .tc .vmem S128x256 .f32) (harg2 : arg2.IsWhole) (arg3 : Memref sig .tc .vmem S128x1024 .f32) (harg3 : arg3.IsWhole) (arg4 : Memref sig .tc .vmem S1x512 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S1x8x128x256 .bf16) (harg7 : arg7.IsWhole) (arg8 : Memref sig .tc .vmem S1x8x256x128 .bf16) (harg8 : arg8.IsWhole) (arg9 : Memref sig .tc .vmem S128x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x256 .i32) (harg12 : arg12.IsWhole) (arg13 : Memref sig .tc .vmem S1024x1024 .bf16) (harg13 : arg13.IsWhole) (arg14 : Memref sig .tc .vmem S2048x1792 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S8x128 .f32) (harg18 : arg18.IsWhole) (arg19 : Memref sig .tc .vmem S8x32x1 .f32) (harg19 : arg19.IsWhole) (arg20 : Memref sig .tc .vmem S1792x1024 .f32) (harg20 : arg20.IsWhole) (arg21 : Memref sig .tc .vmem S4x128x128 .bf16) (harg21 : arg21.IsWhole) (arg22 : Memref sig .tc .vmem S4x128x128 .bf16) (harg22 : arg22.IsWhole) (arg23 : Memref sig .tc .vmem S8x128x256 .f32) (harg23 : arg23.IsWhole) (arg24 : Memref sig .tc .vmem S4x128x128 .f32) (harg24 : arg24.IsWhole) (arg25 : Memref sig .tc .vmem S128x256 .f32) (harg25 : arg25.IsWhole)

set_option maxHeartbeats 4000000 in
set_option sl_exec.resultNames true in
/-- The first point clears its sums and keeps the masked weights. -/
noncomputable def run1 (hc : k0_cond1 i = 1#1)
    (x5 : Vec F S4x128x128 .f32) (x15 : Vec F S4x128x128 .f32) (x17 : Vec F S1x512 .f32) (x18 : Vec F S8x128 .f32) (x20 : Vec F S1792x1024 .f32) (x21 : Vec F S4x128x128 .bf16) (x22 : Vec F S4x128x128 .bf16) (x23 : Vec F S8x128x256 .f32) (x24 : Vec F S4x128x128 .f32) :
    Σ' (L15 : List (View.Piece (Elt F) S4x128x128 .f32)) (L17 : List (View.Piece (Elt F) S1x512 .f32)) (L18 : List (View.Piece (Elt F) S8x128 .f32)) (L20 : List (View.Piece (Elt F) S1792x1024 .f32)) (L21 : List (View.Piece (Elt F) S4x128x128 .bf16)) (L22 : List (View.Piece (Elt F) S4x128x128 .bf16)) (L23 : List (View.Piece (Elt F) S8x128x256 .f32)), { L24 : List (View.Piece (Elt F) S4x128x128 .f32) //
      ∀ (R : Type) (κ : Prog (TpuEff nD τ sig (Elt F) Λ₀ .tc) R) (E : Set ℕ) (Q : R → sProp 𝕄),
      iprop((arg5.view.loc (c : Thread nD τ) ↦[arg5.view.set]{fullShare} harg5.unread x5) ∗ (arg15.view.loc (c : Thread nD τ) ↦[arg15.view.set]{fullShare} harg15.unread x15) ∗ (arg17.view.loc (c : Thread nD τ) ↦[arg17.view.set]{fullShare} harg17.unread x17) ∗ (arg18.view.loc (c : Thread nD τ) ↦[arg18.view.set]{fullShare} harg18.unread x18) ∗ (arg20.view.loc (c : Thread nD τ) ↦[arg20.view.set]{fullShare} harg20.unread x20) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24)
        ∗ (iprop((arg5.view.loc (c : Thread nD τ) ↦[arg5.view.set]{fullShare} harg5.unread x5) ∗ (arg15.view.loc (c : Thread nD τ) ↦[arg15.view.set]{fullShare} arg15.view.writes (Elt F) (harg15.unread x15) L15) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24))
          -∗ wp frame (wpE (defs₀ (F := F)) Variants.none c none) E κ Q))
      ⊢ wp frame (wpE (defs₀ (F := F)) Variants.none c none) E (st1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 κ) Q } := by
  refine ⟨?_, ?_, ?_, ?_, ?_, ?_, ?_, ?_, fun R κ E Q => ?run⟩
  case run =>
    iintro ⟨H5, H15, H17, H18, H20, H21, H22, H23, H24, Hk⟩
    unfold st1
    sl_exec_parts
    iapply Hk
    isplitl [H5]; · iexact H5
    isplitl [H15]; · iexact H15
    isplitl [H17]; · iexact H17
    isplitl [H18]; · iexact H18
    isplitl [H20]; · iexact H20
    isplitl [H21]; · iexact H21
    isplitl [H22]; · iexact H22
    isplitl [H23]; · iexact H23
    iexact H24

set_option maxHeartbeats 4000000 in
set_option sl_exec.resultNames true in
/-- A later point adds its part to the rows kept by the point before. -/
noncomputable def run3 (hc : k0_cond2 i = 1#1) (v770 v771 v825 v826 : FVec F S256x128 .f32)
    (x14 : Vec F S2048x1792 .bf16) (x25 : Vec F S128x256 .f32) :
    { L14 : List (View.Piece (Elt F) S2048x1792 .bf16) //
      ∀ (R : Type) (κ : Prog (TpuEff nD τ sig (Elt F) Λ₀ .tc) R) (E : Set ℕ) (Q : R → sProp 𝕄),
      iprop((arg14.view.loc (c : Thread nD τ) ↦[arg14.view.set]{fullShare} harg14.unread x14) ∗ (arg25.view.loc (c : Thread nD τ) ↦[arg25.view.set]{fullShare} harg25.unread x25)
        ∗ (iprop((arg14.view.loc (c : Thread nD τ) ↦[arg14.view.set]{fullShare} arg14.view.writes (Elt F) (harg14.unread x14) L14) ∗ (arg25.view.loc (c : Thread nD τ) ↦[arg25.view.set]{fullShare} harg25.unread x25))
          -∗ wp frame (wpE (defs₀ (F := F)) Variants.none c none) E κ Q))
      ⊢ wp frame (wpE (defs₀ (F := F)) Variants.none c none) E (st3 i arg14 harg14 arg25 v770 v771 v825 v826 κ) Q } := by
  refine ⟨?_, fun R κ E Q => ?run⟩
  case run =>
    iintro ⟨H14, H25, Hk⟩
    unfold st3
    sl_exec_parts
    iapply Hk
    isplitl [H14]; · iexact H14
    iexact H25

set_option maxHeartbeats 4000000 in
set_option sl_exec.resultNames true in
/-- Every point keeps its own part. -/
noncomputable def run4  (v770 v771 v825 v826 : FVec F S256x128 .f32)
    (x25 : Vec F S128x256 .f32) :
    { L25 : List (View.Piece (Elt F) S128x256 .f32) //
      ∀ (R : Type) (κ : Prog (TpuEff nD τ sig (Elt F) Λ₀ .tc) R) (E : Set ℕ) (Q : R → sProp 𝕄),
      iprop((arg25.view.loc (c : Thread nD τ) ↦[arg25.view.set]{fullShare} harg25.unread x25)
        ∗ (iprop((arg25.view.loc (c : Thread nD τ) ↦[arg25.view.set]{fullShare} arg25.view.writes (Elt F) (harg25.unread x25) L25))
          -∗ wp frame (wpE (defs₀ (F := F)) Variants.none c none) E κ Q))
      ⊢ wp frame (wpE (defs₀ (F := F)) Variants.none c none) E (st4 arg25 v770 v771 v825 v826 κ) Q } := by
  refine ⟨?_, fun R κ E Q => ?run⟩
  case run =>
    iintro ⟨H25, Hk⟩
    unfold st4
    sl_exec_parts
    iapply Hk
    iexact H25

set_option maxHeartbeats 4000000 in
set_option sl_exec.resultNames true in
/-- Where half the rows are done, their product is added. -/
noncomputable def run5 (hc : k0_cond3 i = 1#1)
    (x13 : Vec F S1024x1024 .bf16) (x14 : Vec F S2048x1792 .bf16) (x20 : Vec F S1792x1024 .f32) :
    { L20 : List (View.Piece (Elt F) S1792x1024 .f32) //
      ∀ (R : Type) (κ : Prog (TpuEff nD τ sig (Elt F) Λ₀ .tc) R) (E : Set ℕ) (Q : R → sProp 𝕄),
      iprop((arg13.view.loc (c : Thread nD τ) ↦[arg13.view.set]{fullShare} harg13.unread x13) ∗ (arg14.view.loc (c : Thread nD τ) ↦[arg14.view.set]{fullShare} harg14.unread x14) ∗ (arg20.view.loc (c : Thread nD τ) ↦[arg20.view.set]{fullShare} harg20.unread x20)
        ∗ (iprop((arg13.view.loc (c : Thread nD τ) ↦[arg13.view.set]{fullShare} harg13.unread x13) ∗ (arg14.view.loc (c : Thread nD τ) ↦[arg14.view.set]{fullShare} harg14.unread x14) ∗ (arg20.view.loc (c : Thread nD τ) ↦[arg20.view.set]{fullShare} arg20.view.writes (Elt F) (harg20.unread x20) L20))
          -∗ wp frame (wpE (defs₀ (F := F)) Variants.none c none) E κ Q))
      ⊢ wp frame (wpE (defs₀ (F := F)) Variants.none c none) E (st5 i arg13 arg14 arg20 κ) Q } := by
  refine ⟨?_, fun R κ E Q => ?run⟩
  case run =>
    iintro ⟨H13, H14, H20, Hk⟩
    unfold st5
    sl_exec_parts
    iapply Hk
    isplitl [H13]; · iexact H13
    isplitl [H14]; · iexact H14
    iexact H20

end Cert.MixerBwdIdeal.Run
end
-- ==== Proof.MixRunPoint.lean ====
module

public import proofs.«01_k».proof.Proof.MixCut
public import proofs.«01_k».proof.Proof.Gen.MixerBwdIdeal.Frame

/-!
# The point's own work
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg1 : Memref sig .tc .vmem S128x1792 .f32) (harg1 : arg1.IsWhole) (arg2 : Memref sig .tc .vmem S128x256 .f32) (harg2 : arg2.IsWhole) (arg3 : Memref sig .tc .vmem S128x1024 .f32) (harg3 : arg3.IsWhole) (arg4 : Memref sig .tc .vmem S1x512 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S1x8x128x256 .bf16) (harg7 : arg7.IsWhole) (arg8 : Memref sig .tc .vmem S1x8x256x128 .bf16) (harg8 : arg8.IsWhole) (arg9 : Memref sig .tc .vmem S128x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x256 .i32) (harg12 : arg12.IsWhole) (arg13 : Memref sig .tc .vmem S1024x1024 .bf16) (harg13 : arg13.IsWhole) (arg14 : Memref sig .tc .vmem S2048x1792 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S8x128 .f32) (harg18 : arg18.IsWhole) (arg19 : Memref sig .tc .vmem S8x32x1 .f32) (harg19 : arg19.IsWhole) (arg20 : Memref sig .tc .vmem S1792x1024 .f32) (harg20 : arg20.IsWhole) (arg21 : Memref sig .tc .vmem S4x128x128 .bf16) (harg21 : arg21.IsWhole) (arg22 : Memref sig .tc .vmem S4x128x128 .bf16) (harg22 : arg22.IsWhole) (arg23 : Memref sig .tc .vmem S8x128x256 .f32) (harg23 : arg23.IsWhole) (arg24 : Memref sig .tc .vmem S4x128x128 .f32) (harg24 : arg24.IsWhole) (arg25 : Memref sig .tc .vmem S128x256 .f32) (harg25 : arg25.IsWhole)

set_option maxHeartbeats 4000000 in
set_option sl_exec.resultNames true in
/-- The point's own work, for whatever the arrays hold: the pieces it stores, and the four parts of the band's gradient. -/
noncomputable def run2
    (x1 : Vec F S128x1792 .f32) (x2 : Vec F S128x256 .f32) (x3 : Vec F S128x1024 .f32) (x4 : Vec F S1x512 .f32) (x6 : Vec F S128x4 .f32) (x7 : Vec F S1x8x128x256 .bf16) (x8 : Vec F S1x8x256x128 .bf16) (x9 : Vec F S128x128 .f32) (x10 : Vec F S128x1024 .f32) (x11 : Vec F S128x1024 .f32) (x14 : Vec F S2048x1792 .bf16) (x15 : Vec F S4x128x128 .f32) (x17 : Vec F S1x512 .f32) (x18 : Vec F S8x128 .f32) (x21 : Vec F S4x128x128 .bf16) (x22 : Vec F S4x128x128 .bf16) (x23 : Vec F S8x128x256 .f32) (x24 : Vec F S4x128x128 .f32) :
    Σ' (L14 : List (View.Piece (Elt F) S2048x1792 .bf16)) (L15 : List (View.Piece (Elt F) S4x128x128 .f32)) (L17 : List (View.Piece (Elt F) S1x512 .f32)) (L18 : List (View.Piece (Elt F) S8x128 .f32)) (L23 : List (View.Piece (Elt F) S8x128x256 .f32)) (L24 : List (View.Piece (Elt F) S4x128x128 .f32)) (v770 : FVec F S256x128 .f32) (v771 : FVec F S256x128 .f32) (v825 : FVec F S256x128 .f32), { v826 : FVec F S256x128 .f32 //
      ∀ (R : Type) (κ : FVec F S256x128 .f32 → FVec F S256x128 .f32 → FVec F S256x128 .f32 → FVec F S256x128 .f32 → Prog (TpuEff nD τ sig (Elt F) Λ₀ .tc) R) (E : Set ℕ) (Q : R → sProp 𝕄),
      iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg14.view.loc (c : Thread nD τ) ↦[arg14.view.set]{fullShare} harg14.unread x14) ∗ (arg15.view.loc (c : Thread nD τ) ↦[arg15.view.set]{fullShare} harg15.unread x15) ∗ (arg17.view.loc (c : Thread nD τ) ↦[arg17.view.set]{fullShare} harg17.unread x17) ∗ (arg18.view.loc (c : Thread nD τ) ↦[arg18.view.set]{fullShare} harg18.unread x18) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24)
        ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24))
          -∗ wp frame (wpE (defs₀ (F := F)) Variants.none c none) E (κ v770 v771 v825 v826) Q))
      ⊢ wp frame (wpE (defs₀ (F := F)) Variants.none c none) E (st2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 κ) Q } := by
  refine ⟨?_, ?_, ?_, ?_, ?_, ?_, ?_, ?_, ?_, ?_, fun R κ E Q => ?run⟩
  case run =>
    iintro ⟨H1, H2, H3, H4, H6, H7, H8, H9, H10, H11, H14, H15, H17, H18, H21, H22, H23, H24, Hk⟩
    unfold st2
    sl_exec_parts
    iapply Hk
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H17]; · iexact H17
    isplitl [H18]; · iexact H18
    isplitl [H21]; · iexact H21
    isplitl [H22]; · iexact H22
    isplitl [H23]; · iexact H23
    iexact H24

end Cert.MixerBwdIdeal.Run
end
-- ==== Proof.MixRunLast.lean ====
module

public import proofs.«01_k».proof.Proof.MixCut
public import proofs.«01_k».proof.Proof.Gen.MixerBwdIdeal.Frame

/-!
# The last point's sums
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg1 : Memref sig .tc .vmem S128x1792 .f32) (harg1 : arg1.IsWhole) (arg2 : Memref sig .tc .vmem S128x256 .f32) (harg2 : arg2.IsWhole) (arg3 : Memref sig .tc .vmem S128x1024 .f32) (harg3 : arg3.IsWhole) (arg4 : Memref sig .tc .vmem S1x512 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S1x8x128x256 .bf16) (harg7 : arg7.IsWhole) (arg8 : Memref sig .tc .vmem S1x8x256x128 .bf16) (harg8 : arg8.IsWhole) (arg9 : Memref sig .tc .vmem S128x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x256 .i32) (harg12 : arg12.IsWhole) (arg13 : Memref sig .tc .vmem S1024x1024 .bf16) (harg13 : arg13.IsWhole) (arg14 : Memref sig .tc .vmem S2048x1792 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S8x128 .f32) (harg18 : arg18.IsWhole) (arg19 : Memref sig .tc .vmem S8x32x1 .f32) (harg19 : arg19.IsWhole) (arg20 : Memref sig .tc .vmem S1792x1024 .f32) (harg20 : arg20.IsWhole) (arg21 : Memref sig .tc .vmem S4x128x128 .bf16) (harg21 : arg21.IsWhole) (arg22 : Memref sig .tc .vmem S4x128x128 .bf16) (harg22 : arg22.IsWhole) (arg23 : Memref sig .tc .vmem S8x128x256 .f32) (harg23 : arg23.IsWhole) (arg24 : Memref sig .tc .vmem S4x128x128 .f32) (harg24 : arg24.IsWhole) (arg25 : Memref sig .tc .vmem S128x256 .f32) (harg25 : arg25.IsWhole)

set_option maxHeartbeats 4000000 in
set_option sl_exec.resultNames true in
/-- The last point finishes the sums. -/
noncomputable def run6 (hc : k0_cond4 i = 1#1) (v770 v771 v825 v826 : FVec F S256x128 .f32)
    (x12 : Vec F S128x256 .i32) (x13 : Vec F S1024x1024 .bf16) (x14 : Vec F S2048x1792 .bf16) (x15 : Vec F S4x128x128 .f32) (x16 : Vec F S4x128x1 .f32) (x19 : Vec F S8x32x1 .f32) (x20 : Vec F S1792x1024 .f32) (x23 : Vec F S8x128x256 .f32) (x24 : Vec F S4x128x128 .f32) :
    Σ' (L14 : List (View.Piece (Elt F) S2048x1792 .bf16)) (L15 : List (View.Piece (Elt F) S4x128x128 .f32)) (L16 : List (View.Piece (Elt F) S4x128x1 .f32)) (L19 : List (View.Piece (Elt F) S8x32x1 .f32)), { L20 : List (View.Piece (Elt F) S1792x1024 .f32) //
      ∀ (R : Type) (κ : Prog (TpuEff nD τ sig (Elt F) Λ₀ .tc) R) (E : Set ℕ) (Q : R → sProp 𝕄),
      iprop((arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg19.view.loc (c : Thread nD τ) ↦[arg19.view.set]{fullShare} harg19.unread x19) ∗ (arg20.view.loc (c : Thread nD τ) ↦[arg20.view.set]{fullShare} harg20.unread x20) ∗ (arg23.view.loc (c : Thread nD τ) ↦[arg23.view.set]{fullShare} harg23.unread x23) ∗ (arg24.view.loc (c : Thread nD τ) ↦[arg24.view.set]{fullShare} harg24.unread x24)
        ∗ (iprop((arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg23.view.loc (c : Thread nD τ) ↦[arg23.view.set]{fullShare} harg23.unread x23) ∗ (arg24.view.loc (c : Thread nD τ) ↦[arg24.view.set]{fullShare} harg24.unread x24))
          -∗ wp frame (wpE (defs₀ (F := F)) Variants.none c none) E κ Q))
      ⊢ wp frame (wpE (defs₀ (F := F)) Variants.none c none) E (st6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v770 v771 v825 v826 κ) Q } := by
  refine ⟨?_, ?_, ?_, ?_, ?_, fun R κ E Q => ?run⟩
  case run =>
    iintro ⟨H12, H13, H14, H15, H16, H19, H20, H23, H24, Hk⟩
    unfold st6
    sl_exec_parts
    iapply Hk
    isplitl [H12]; · iexact H12
    isplitl [H13]; · iexact H13
    isplitl [H14]; · iexact H14
    isplitl [H15]; · iexact H15
    isplitl [H16]; · iexact H16
    isplitl [H19]; · iexact H19
    isplitl [H20]; · iexact H20
    isplitl [H23]; · iexact H23
    iexact H24

end Cert.MixerBwdIdeal.Run
end
-- ==== Proof.MixStep.lean ====
module

public import proofs.«01_k».proof.Proof.MixRunEnds
public import proofs.«01_k».proof.Proof.MixRunPoint
public import proofs.«01_k».proof.Proof.MixRunLast
public import proofs.«01_k».proof.Proof.Gen.MixerBwdIdeal.Frame

/-!
# One grid point of the mixer's backward kernel

`step` is what one point makes of the arrays it writes, from what it finds in them and in its inputs; `wp_body` says that the
kernel's body does that, whatever it finds.
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)

/-- What a point reads: its blocks of the thirteen inputs. -/
structure Ins (F : FTy → Type) where
  x1 : Vec F S128x1792 .f32
  x2 : Vec F S128x256 .f32
  x3 : Vec F S128x1024 .f32
  x4 : Vec F S1x512 .f32
  x5 : Vec F S4x128x128 .f32
  x6 : Vec F S128x4 .f32
  x7 : Vec F S1x8x128x256 .bf16
  x8 : Vec F S1x8x256x128 .bf16
  x9 : Vec F S128x128 .f32
  x10 : Vec F S128x1024 .f32
  x11 : Vec F S128x1024 .f32
  x12 : Vec F S128x256 .i32
  x13 : Vec F S1024x1024 .bf16

/-- What a point finds and leaves: the seven results' buffers and the five that are kept from point to point. -/
structure Cells (F : FTy → Type) where
  x14 : Vec F S2048x1792 .bf16
  x15 : Vec F S4x128x128 .f32
  x16 : Vec F S4x128x1 .f32
  x17 : Vec F S1x512 .f32
  x18 : Vec F S8x128 .f32
  x19 : Vec F S8x32x1 .f32
  x20 : Vec F S1792x1024 .f32
  x21 : Vec F S4x128x128 .bf16
  x22 : Vec F S4x128x128 .bf16
  x23 : Vec F S8x128x256 .f32
  x24 : Vec F S4x128x128 .f32
  x25 : Vec F S128x256 .f32

/-- Rewriting a buffer's contents as those of the array that it holds. -/
theorem unread_read {s : Shape} {e : EltTy} (a : Memref sig .tc .vmem s e) (h : a.IsWhole) (f : a.view.ref.ty.shape.Idx → Elt F a.view.ref.ty.elt) :
    h.unread (a.view.read (Elt F) f) = f := (h.eq_unread rfl).symm

variable (arg1 : Memref sig .tc .vmem S128x1792 .f32) (harg1 : arg1.IsWhole) (arg2 : Memref sig .tc .vmem S128x256 .f32) (harg2 : arg2.IsWhole) (arg3 : Memref sig .tc .vmem S128x1024 .f32) (harg3 : arg3.IsWhole) (arg4 : Memref sig .tc .vmem S1x512 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S1x8x128x256 .bf16) (harg7 : arg7.IsWhole) (arg8 : Memref sig .tc .vmem S1x8x256x128 .bf16) (harg8 : arg8.IsWhole) (arg9 : Memref sig .tc .vmem S128x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x256 .i32) (harg12 : arg12.IsWhole) (arg13 : Memref sig .tc .vmem S1024x1024 .bf16) (harg13 : arg13.IsWhole) (arg14 : Memref sig .tc .vmem S2048x1792 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S8x128 .f32) (harg18 : arg18.IsWhole) (arg19 : Memref sig .tc .vmem S8x32x1 .f32) (harg19 : arg19.IsWhole) (arg20 : Memref sig .tc .vmem S1792x1024 .f32) (harg20 : arg20.IsWhole) (arg21 : Memref sig .tc .vmem S4x128x128 .bf16) (harg21 : arg21.IsWhole) (arg22 : Memref sig .tc .vmem S4x128x128 .bf16) (harg22 : arg22.IsWhole) (arg23 : Memref sig .tc .vmem S8x128x256 .f32) (harg23 : arg23.IsWhole) (arg24 : Memref sig .tc .vmem S4x128x128 .f32) (harg24 : arg24.IsWhole) (arg25 : Memref sig .tc .vmem S128x256 .f32) (harg25 : arg25.IsWhole)

/-- The inputs' buffers hold `x`. -/
def insAt (x : Ins F) : sProp 𝕄 :=
  iprop((arg1.view.loc (c : Thread nD τ) ↦[arg1.view.set]{fullShare} harg1.unread x.x1) ∗ (arg2.view.loc (c : Thread nD τ) ↦[arg2.view.set]{fullShare} harg2.unread x.x2) ∗ (arg3.view.loc (c : Thread nD τ) ↦[arg3.view.set]{fullShare} harg3.unread x.x3) ∗ (arg4.view.loc (c : Thread nD τ) ↦[arg4.view.set]{fullShare} harg4.unread x.x4) ∗ (arg5.view.loc (c : Thread nD τ) ↦[arg5.view.set]{fullShare} harg5.unread x.x5) ∗ (arg6.view.loc (c : Thread nD τ) ↦[arg6.view.set]{fullShare} harg6.unread x.x6) ∗ (arg7.view.loc (c : Thread nD τ) ↦[arg7.view.set]{fullShare} harg7.unread x.x7) ∗ (arg8.view.loc (c : Thread nD τ) ↦[arg8.view.set]{fullShare} harg8.unread x.x8) ∗ (arg9.view.loc (c : Thread nD τ) ↦[arg9.view.set]{fullShare} harg9.unread x.x9) ∗ (arg10.view.loc (c : Thread nD τ) ↦[arg10.view.set]{fullShare} harg10.unread x.x10) ∗ (arg11.view.loc (c : Thread nD τ) ↦[arg11.view.set]{fullShare} harg11.unread x.x11) ∗ (arg12.view.loc (c : Thread nD τ) ↦[arg12.view.set]{fullShare} harg12.unread x.x12) ∗ (arg13.view.loc (c : Thread nD τ) ↦[arg13.view.set]{fullShare} harg13.unread x.x13))

/-- The other buffers hold `x`. -/
def cellsAt (x : Cells F) : sProp 𝕄 :=
  iprop((arg14.view.loc (c : Thread nD τ) ↦[arg14.view.set]{fullShare} harg14.unread x.x14) ∗ (arg15.view.loc (c : Thread nD τ) ↦[arg15.view.set]{fullShare} harg15.unread x.x15) ∗ (arg16.view.loc (c : Thread nD τ) ↦[arg16.view.set]{fullShare} harg16.unread x.x16) ∗ (arg17.view.loc (c : Thread nD τ) ↦[arg17.view.set]{fullShare} harg17.unread x.x17) ∗ (arg18.view.loc (c : Thread nD τ) ↦[arg18.view.set]{fullShare} harg18.unread x.x18) ∗ (arg19.view.loc (c : Thread nD τ) ↦[arg19.view.set]{fullShare} harg19.unread x.x19) ∗ (arg20.view.loc (c : Thread nD τ) ↦[arg20.view.set]{fullShare} harg20.unread x.x20) ∗ (arg21.view.loc (c : Thread nD τ) ↦[arg21.view.set]{fullShare} harg21.unread x.x21) ∗ (arg22.view.loc (c : Thread nD τ) ↦[arg22.view.set]{fullShare} harg22.unread x.x22) ∗ (arg23.view.loc (c : Thread nD τ) ↦[arg23.view.set]{fullShare} harg23.unread x.x23) ∗ (arg24.view.loc (c : Thread nD τ) ↦[arg24.view.set]{fullShare} harg24.unread x.x24) ∗ (arg25.view.loc (c : Thread nD τ) ↦[arg25.view.set]{fullShare} harg25.unread x.x25))

variable (y : Ins F) (x : Cells F)

/-- The arrays after the first point's clearing. -/
def cells1  : Cells F :=
  if hc : k0_cond1 i = 1#1 then { x with x15 := arg15.view.read (Elt F) (arg15.view.writes (Elt F) (harg15.unread x.x15) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).1), x17 := arg17.view.read (Elt F) (arg17.view.writes (Elt F) (harg17.unread x.x17) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.1), x18 := arg18.view.read (Elt F) (arg18.view.writes (Elt F) (harg18.unread x.x18) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.1), x20 := arg20.view.read (Elt F) (arg20.view.writes (Elt F) (harg20.unread x.x20) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.1), x21 := arg21.view.read (Elt F) (arg21.view.writes (Elt F) (harg21.unread x.x21) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.2.1), x22 := arg22.view.read (Elt F) (arg22.view.writes (Elt F) (harg22.unread x.x22) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.2.2.1), x23 := arg23.view.read (Elt F) (arg23.view.writes (Elt F) (harg23.unread x.x23) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.2.2.2.1), x24 := arg24.view.read (Elt F) (arg24.view.writes (Elt F) (harg24.unread x.x24) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.2.2.2.2.1) } else x

/-- The arrays after the point's own work. -/
def cells2  : Cells F :=
  { x with x14 := arg14.view.read (Elt F) (arg14.view.writes (Elt F) (harg14.unread x.x14) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).1), x15 := arg15.view.read (Elt F) (arg15.view.writes (Elt F) (harg15.unread x.x15) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.1), x17 := arg17.view.read (Elt F) (arg17.view.writes (Elt F) (harg17.unread x.x17) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.1), x18 := arg18.view.read (Elt F) (arg18.view.writes (Elt F) (harg18.unread x.x18) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.1), x23 := arg23.view.read (Elt F) (arg23.view.writes (Elt F) (harg23.unread x.x23) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.1), x24 := arg24.view.read (Elt F) (arg24.view.writes (Elt F) (harg24.unread x.x24) (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.1) }

/-- Part 1 of the band's gradient at this point. -/
def v770 : FVec F S256x128 .f32 := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.2.1
/-- Part 2 of the band's gradient at this point. -/
def v771 : FVec F S256x128 .f32 := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.2.2.1
/-- Part 3 of the band's gradient at this point. -/
def v825 : FVec F S256x128 .f32 := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.2.2.2.1
/-- Part 4 of the band's gradient at this point. -/
def v826 : FVec F S256x128 .f32 := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.2.2.2.2.1

/-- The arrays after the part added to the rows of the point before. -/
def cells3 (v770 v771 v825 v826 : FVec F S256x128 .f32) : Cells F :=
  if hc : k0_cond2 i = 1#1 then { x with x14 := arg14.view.read (Elt F) (arg14.view.writes (Elt F) (harg14.unread x.x14) (run3 c i arg14 harg14 arg25 harg25 hc v770 v771 v825 v826 x.x14 x.x25).1) } else x

/-- The arrays after keeping the point's own part. -/
def cells4 (v770 v771 v825 v826 : FVec F S256x128 .f32) : Cells F :=
  { x with x25 := arg25.view.read (Elt F) (arg25.view.writes (Elt F) (harg25.unread x.x25) (run4 c arg25 harg25 v770 v771 v825 v826 x.x25).1) }

/-- The arrays after the product of half the rows. -/
def cells5  : Cells F :=
  if hc : k0_cond3 i = 1#1 then { x with x20 := arg20.view.read (Elt F) (arg20.view.writes (Elt F) (harg20.unread x.x20) (run5 c i arg13 harg13 arg14 harg14 arg20 harg20 hc  y.x13 x.x14 x.x20).1) } else x

/-- The arrays after the last point's sums. -/
def cells6 (v770 v771 v825 v826 : FVec F S256x128 .f32) : Cells F :=
  if hc : k0_cond4 i = 1#1 then { x with x14 := arg14.view.read (Elt F) (arg14.view.writes (Elt F) (harg14.unread x.x14) (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).1), x15 := arg15.view.read (Elt F) (arg15.view.writes (Elt F) (harg15.unread x.x15) (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).2.1), x16 := arg16.view.read (Elt F) (arg16.view.writes (Elt F) (harg16.unread x.x16) (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).2.2.1), x19 := arg19.view.read (Elt F) (arg19.view.writes (Elt F) (harg19.unread x.x19) (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).2.2.2.1), x20 := arg20.view.read (Elt F) (arg20.view.writes (Elt F) (harg20.unread x.x20) (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).2.2.2.2.1) } else x

theorem wp1  (R : Type) (κ : Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x))
          -∗ wp frame (wpE (defs₀ (F := F)) Variants.none c none) E κ Q))
      ⊢ wp frame (wpE (defs₀ (F := F)) Variants.none c none) E (st1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 κ) Q := by
  by_cases hc : k0_cond1 i = 1#1
  · rw [show (cells1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x) = _ from dif_pos hc]
    unfold insAt cellsAt
    simp only [unread_read]
    iintro ⟨⟨H1, H2, H3, H4, H5, H6, H7, H8, H9, H10, H11, H12, H13⟩, ⟨H14, H15, H16, H17, H18, H19, H20, H21, H22, H23, H24, H25⟩, Hk⟩
    iapply (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc  y.x5 x.x15 x.x17 x.x18 x.x20 x.x21 x.x22 x.x23 x.x24).2.2.2.2.2.2.2.2
    isplitl [H5]; · iexact H5
    isplitl [H15]; · iexact H15
    isplitl [H17]; · iexact H17
    isplitl [H18]; · iexact H18
    isplitl [H20]; · iexact H20
    isplitl [H21]; · iexact H21
    isplitl [H22]; · iexact H22
    isplitl [H23]; · iexact H23
    isplitl [H24]; · iexact H24
    iintro ⟨H5, H15, H17, H18, H20, H21, H22, H23, H24⟩
    iapply Hk
    isplitl [H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [show (cells1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x) = x from dif_neg hc]
    unfold st1
    simp only [dif_neg hc]
    iintro ⟨HI, HX, Hk⟩
    iapply Hk
    isplitl [HI]; · iexact HI
    iexact HX

theorem wp2  (R : Type) (κ : FVec F S256x128 .f32 → FVec F S256x128 .f32 → FVec F S256x128 .f32 → FVec F S256x128 .f32 → Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x))
          -∗ wp frame (wpE (defs₀ (F := F)) Variants.none c none) E (κ (v770 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x) (v771 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x) (v825 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x) (v826 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x)) Q))
      ⊢ wp frame (wpE (defs₀ (F := F)) Variants.none c none) E (st2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 κ) Q := by
  unfold cells2
  unfold insAt cellsAt
  simp only [unread_read]
  iintro ⟨⟨H1, H2, H3, H4, H5, H6, H7, H8, H9, H10, H11, H12, H13⟩, ⟨H14, H15, H16, H17, H18, H19, H20, H21, H22, H23, H24, H25⟩, Hk⟩
  iapply (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  y.x1 y.x2 y.x3 y.x4 y.x6 y.x7 y.x8 y.x9 y.x10 y.x11 x.x14 x.x15 x.x17 x.x18 x.x21 x.x22 x.x23 x.x24).2.2.2.2.2.2.2.2.2.2
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  isplitl [H17]; · iexact H17
  isplitl [H18]; · iexact H18
  isplitl [H21]; · iexact H21
  isplitl [H22]; · iexact H22
  isplitl [H23]; · iexact H23
  isplitl [H24]; · iexact H24
  iintro ⟨H1, H2, H3, H4, H6, H7, H8, H9, H10, H11, H14, H15, H17, H18, H21, H22, H23, H24⟩
  iapply Hk
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem wp3 (v770 v771 v825 v826 : FVec F S256x128 .f32) (R : Type) (κ : Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells3 c i arg14 harg14 arg25 harg25 x v770 v771 v825 v826))
          -∗ wp frame (wpE (defs₀ (F := F)) Variants.none c none) E κ Q))
      ⊢ wp frame (wpE (defs₀ (F := F)) Variants.none c none) E (st3 i arg14 harg14 arg25 v770 v771 v825 v826 κ) Q := by
  by_cases hc : k0_cond2 i = 1#1
  · rw [show (cells3 c i arg14 harg14 arg25 harg25 x v770 v771 v825 v826) = _ from dif_pos hc]
    unfold insAt cellsAt
    simp only [unread_read]
    iintro ⟨⟨H1, H2, H3, H4, H5, H6, H7, H8, H9, H10, H11, H12, H13⟩, ⟨H14, H15, H16, H17, H18, H19, H20, H21, H22, H23, H24, H25⟩, Hk⟩
    iapply (run3 c i arg14 harg14 arg25 harg25 hc v770 v771 v825 v826 x.x14 x.x25).2
    isplitl [H14]; · iexact H14
    isplitl [H25]; · iexact H25
    iintro ⟨H14, H25⟩
    iapply Hk
    isplitl [H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [show (cells3 c i arg14 harg14 arg25 harg25 x v770 v771 v825 v826) = x from dif_neg hc]
    unfold st3
    simp only [dif_neg hc]
    iintro ⟨HI, HX, Hk⟩
    iapply Hk
    isplitl [HI]; · iexact HI
    iexact HX

theorem wp4 (v770 v771 v825 v826 : FVec F S256x128 .f32) (R : Type) (κ : Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells4 c arg25 harg25 x v770 v771 v825 v826))
          -∗ wp frame (wpE (defs₀ (F := F)) Variants.none c none) E κ Q))
      ⊢ wp frame (wpE (defs₀ (F := F)) Variants.none c none) E (st4 arg25 v770 v771 v825 v826 κ) Q := by
  unfold cells4
  unfold insAt cellsAt
  simp only [unread_read]
  iintro ⟨⟨H1, H2, H3, H4, H5, H6, H7, H8, H9, H10, H11, H12, H13⟩, ⟨H14, H15, H16, H17, H18, H19, H20, H21, H22, H23, H24, H25⟩, Hk⟩
  iapply (run4 c arg25 harg25 v770 v771 v825 v826 x.x25).2
  isplitl [H25]; · iexact H25
  iintro ⟨H25⟩
  iapply Hk
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem wp5  (R : Type) (κ : Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells5 c i arg13 harg13 arg14 harg14 arg20 harg20 y x))
          -∗ wp frame (wpE (defs₀ (F := F)) Variants.none c none) E κ Q))
      ⊢ wp frame (wpE (defs₀ (F := F)) Variants.none c none) E (st5 i arg13 arg14 arg20 κ) Q := by
  by_cases hc : k0_cond3 i = 1#1
  · rw [show (cells5 c i arg13 harg13 arg14 harg14 arg20 harg20 y x) = _ from dif_pos hc]
    unfold insAt cellsAt
    simp only [unread_read]
    iintro ⟨⟨H1, H2, H3, H4, H5, H6, H7, H8, H9, H10, H11, H12, H13⟩, ⟨H14, H15, H16, H17, H18, H19, H20, H21, H22, H23, H24, H25⟩, Hk⟩
    iapply (run5 c i arg13 harg13 arg14 harg14 arg20 harg20 hc  y.x13 x.x14 x.x20).2
    isplitl [H13]; · iexact H13
    isplitl [H14]; · iexact H14
    isplitl [H20]; · iexact H20
    iintro ⟨H13, H14, H20⟩
    iapply Hk
    isplitl [H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [show (cells5 c i arg13 harg13 arg14 harg14 arg20 harg20 y x) = x from dif_neg hc]
    unfold st5
    simp only [dif_neg hc]
    iintro ⟨HI, HX, Hk⟩
    iapply Hk
    isplitl [HI]; · iexact HI
    iexact HX

theorem wp6 (v770 v771 v825 v826 : FVec F S256x128 .f32) (R : Type) (κ : Prog (TpuEff nD τ sig (Elt F) Λ₀ .tc) R) (E : Set ℕ) (Q : R → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (cells6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x v770 v771 v825 v826))
          -∗ wp frame (wpE (defs₀ (F := F)) Variants.none c none) E κ Q))
      ⊢ wp frame (wpE (defs₀ (F := F)) Variants.none c none) E (st6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v770 v771 v825 v826 κ) Q := by
  by_cases hc : k0_cond4 i = 1#1
  · rw [show (cells6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x v770 v771 v825 v826) = _ from dif_pos hc]
    unfold insAt cellsAt
    simp only [unread_read]
    iintro ⟨⟨H1, H2, H3, H4, H5, H6, H7, H8, H9, H10, H11, H12, H13⟩, ⟨H14, H15, H16, H17, H18, H19, H20, H21, H22, H23, H24, H25⟩, Hk⟩
    iapply (run6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc v770 v771 v825 v826 y.x12 y.x13 x.x14 x.x15 x.x16 x.x19 x.x20 x.x23 x.x24).2.2.2.2.2
    isplitl [H12]; · iexact H12
    isplitl [H13]; · iexact H13
    isplitl [H14]; · iexact H14
    isplitl [H15]; · iexact H15
    isplitl [H16]; · iexact H16
    isplitl [H19]; · iexact H19
    isplitl [H20]; · iexact H20
    isplitl [H23]; · iexact H23
    isplitl [H24]; · iexact H24
    iintro ⟨H12, H13, H14, H15, H16, H19, H20, H23, H24⟩
    iapply Hk
    isplitl [H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [show (cells6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x v770 v771 v825 v826) = x from dif_neg hc]
    unfold st6
    simp only [dif_neg hc]
    iintro ⟨HI, HX, Hk⟩
    iapply Hk
    isplitl [HI]; · iexact HI
    iexact HX

/-- What one point makes of the arrays. -/
def step : Cells F :=
  let x1 := cells1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x
  let v770 := v770 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x1
  let v771 := v771 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x1
  let v825 := v825 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x1
  let v826 := v826 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x1
  let x2 := cells2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x1
  let x3 := cells3 c i arg14 harg14 arg25 harg25 x2 v770 v771 v825 v826
  let x4 := cells4 c arg25 harg25 x3 v770 v771 v825 v826
  let x5 := cells5 c i arg13 harg13 arg14 harg14 arg20 harg20 y x4
  cells6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x5 v770 v771 v825 v826

/-- The kernel's body at one point, on whatever it finds: it leaves `step` of that, its inputs unchanged. -/
theorem wp_body (E : Set ℕ) (Q : PUnit → sProp 𝕄) :
    iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 x
        ∗ (iprop(insAt c arg1 harg1 arg2 harg2 arg3 harg3 arg4 harg4 arg5 harg5 arg6 harg6 arg7 harg7 arg8 harg8 arg9 harg9 arg10 harg10 arg11 harg11 arg12 harg12 arg13 harg13 y ∗ cellsAt c arg14 harg14 arg15 harg15 arg16 harg16 arg17 harg17 arg18 harg18 arg19 harg19 arg20 harg20 arg21 harg21 arg22 harg22 arg23 harg23 arg24 harg24 arg25 harg25 (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x)) -∗ Q ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
  rw [body.eq, st1.eq]
  iintro ⟨HI, HX, Hk⟩
  iapply wp1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y x
  isplitl [HI]; · iexact HI
  isplitl [HX]; · iexact HX
  iintro ⟨HI, HX⟩
  rw [st2.eq]
  iapply wp2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y _
  isplitl [HI]; · iexact HI
  isplitl [HX]; · iexact HX
  iintro ⟨HI, HX⟩
  rw [st3.eq]
  iapply wp3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y _
  isplitl [HI]; · iexact HI
  isplitl [HX]; · iexact HX
  iintro ⟨HI, HX⟩
  rw [st4.eq]
  iapply wp4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y _
  isplitl [HI]; · iexact HI
  isplitl [HX]; · iexact HX
  iintro ⟨HI, HX⟩
  rw [st5.eq]
  iapply wp5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y _
  isplitl [HI]; · iexact HI
  isplitl [HX]; · iexact HX
  iintro ⟨HI, HX⟩
  rw [st6.eq]
  iapply wp6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 y _
  isplitl [HI]; · iexact HI
  isplitl [HX]; · iexact HX
  iintro ⟨HI, HX⟩
  unfold st6.tail
  sl_step
  iapply Hk
  isplitl [HI]; · iexact HI
  iexact HX

end Cert.MixerBwdIdeal.Run
end
-- ==== Proof.MixFrame.lean ====
module

public import proofs.«01_k».proof.Proof.MixStep
public import Idealize.ShloMosaic.Lib.Pipeline.DatRel
public import Idealize.ShloMosaic.Lib.Pipeline.ArrRel
public import proofs.«01_k».proof.Proof.Gen.MixerBwdIdeal.Frame

/-!
# The grid of the mixer's backward kernel, and its frame

The kernel writes its results bit by bit into buffers that it does not clear, so what a buffer holds between two points is described,
not named: a `Pred` says of each buffer what it holds after so many points. A `Pred` that every point carries on (`Carried`) holds
after the last point too (`run_pred`). With the `Pred` that says nothing this is the frame.
-/

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer owned at contents `X` is its points-to. -/
theorem owns_unread (c : Dev nD) {s : Shape} {e : EltTy} (a : Memref sig .tc .vmem s e) (h : a.IsWhole) (X : Vec F s e) :
    (a.view.loc (c : Thread nD τ) ↦[a.view.set]{fullShare} h.unread X : sProp 𝕄) = owns (c : Thread nD τ) a fullShare X := by
  have h₁ : (a.view.loc (c : Thread nD τ) ↦[a.view.set]{fullShare} h.unread X : sProp 𝕄) ⊢ owns (c : Thread nD τ) a fullShare X := by
    have := owns_intro (Ix := Unit) (Name := ℕ) (U := UR sig nD τ) (Lvl := ℕ) (c : Thread nD τ) a fullShare (h.unread X)
    rw [h.read_unread] at this; exact this
  have h₂ : owns (c : Thread nD τ) a fullShare X ⊢ (a.view.loc (c : Thread nD τ) ↦[a.view.set]{fullShare} h.unread X : sProp 𝕄) := by
    unfold owns; iintro ⟨%f, %hf, H⟩; rw [h.eq_unread hf]; iexact H
  exact h₁.antisymm h₂

section Generic

variable (c : Dev nD) (i : grid0.Coords)
variable (arg1 : Memref sig .tc .vmem S128x1792 .f32) (harg1 : arg1.IsWhole) (arg2 : Memref sig .tc .vmem S128x256 .f32) (harg2 : arg2.IsWhole) (arg3 : Memref sig .tc .vmem S128x1024 .f32) (harg3 : arg3.IsWhole) (arg4 : Memref sig .tc .vmem S1x512 .f32) (harg4 : arg4.IsWhole) (arg5 : Memref sig .tc .vmem S4x128x128 .f32) (harg5 : arg5.IsWhole) (arg6 : Memref sig .tc .vmem S128x4 .f32) (harg6 : arg6.IsWhole) (arg7 : Memref sig .tc .vmem S1x8x128x256 .bf16) (harg7 : arg7.IsWhole) (arg8 : Memref sig .tc .vmem S1x8x256x128 .bf16) (harg8 : arg8.IsWhole) (arg9 : Memref sig .tc .vmem S128x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x256 .i32) (harg12 : arg12.IsWhole) (arg13 : Memref sig .tc .vmem S1024x1024 .bf16) (harg13 : arg13.IsWhole) (arg14 : Memref sig .tc .vmem S2048x1792 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S8x128 .f32) (harg18 : arg18.IsWhole) (arg19 : Memref sig .tc .vmem S8x32x1 .f32) (harg19 : arg19.IsWhole) (arg20 : Memref sig .tc .vmem S1792x1024 .f32) (harg20 : arg20.IsWhole) (arg21 : Memref sig .tc .vmem S4x128x128 .bf16) (harg21 : arg21.IsWhole) (arg22 : Memref sig .tc .vmem S4x128x128 .bf16) (harg22 : arg22.IsWhole) (arg23 : Memref sig .tc .vmem S8x128x256 .f32) (harg23 : arg23.IsWhole) (arg24 : Memref sig .tc .vmem S4x128x128 .f32) (harg24 : arg24.IsWhole) (arg25 : Memref sig .tc .vmem S128x256 .f32) (harg25 : arg25.IsWhole)

/-- The body at one point, its buffers owned at what they hold. -/
theorem wp_owns (x1 : Vec F S128x1792 .f32) (x2 : Vec F S128x256 .f32) (x3 : Vec F S128x1024 .f32) (x4 : Vec F S1x512 .f32) (x5 : Vec F S4x128x128 .f32) (x6 : Vec F S128x4 .f32) (x7 : Vec F S1x8x128x256 .bf16) (x8 : Vec F S1x8x256x128 .bf16) (x9 : Vec F S128x128 .f32) (x10 : Vec F S128x1024 .f32) (x11 : Vec F S128x1024 .f32) (x12 : Vec F S128x256 .i32) (x13 : Vec F S1024x1024 .bf16) (x14 : Vec F S2048x1792 .bf16) (x15 : Vec F S4x128x128 .f32) (x16 : Vec F S4x128x1 .f32) (x17 : Vec F S1x512 .f32) (x18 : Vec F S8x128 .f32) (x19 : Vec F S8x32x1 .f32) (x20 : Vec F S1792x1024 .f32) (x21 : Vec F S4x128x128 .bf16) (x22 : Vec F S4x128x128 .bf16) (x23 : Vec F S8x128x256 .f32) (x24 : Vec F S4x128x128 .f32) (x25 : Vec F S128x256 .f32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x14 ∗ owns (c : Thread nD τ) arg15 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x15 ∗ owns (c : Thread nD τ) arg16 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x16 ∗ owns (c : Thread nD τ) arg17 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x17 ∗ owns (c : Thread nD τ) arg18 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x18 ∗ owns (c : Thread nD τ) arg19 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x19 ∗ owns (c : Thread nD τ) arg20 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x20 ∗ owns (c : Thread nD τ) arg21 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x21 ∗ owns (c : Thread nD τ) arg22 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x22 ∗ owns (c : Thread nD τ) arg23 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x23 ∗ owns (c : Thread nD τ) arg24 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x24 ∗ owns (c : Thread nD τ) arg25 fullShare (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 }).x25) -∗ Q ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
  have h := wp_body c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 { x1 := x1, x2 := x2, x3 := x3, x4 := x4, x5 := x5, x6 := x6, x7 := x7, x8 := x8, x9 := x9, x10 := x10, x11 := x11, x12 := x12, x13 := x13 } { x14 := x14, x15 := x15, x16 := x16, x17 := x17, x18 := x18, x19 := x19, x20 := x20, x21 := x21, x22 := x22, x23 := x23, x24 := x24, x25 := x25 } E Q
  unfold insAt cellsAt at h
  simp only [owns_unread] at h
  iintro ⟨H1, H2, H3, H4, H5, H6, H7, H8, H9, H10, H11, H12, H13, H14, H15, H16, H17, H18, H19, H20, H21, H22, H23, H24, H25, Hk⟩
  iapply h
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14 H15 H16 H17 H18 H19 H20 H21 H22 H23 H24 H25]
  · isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  iintro ⟨⟨H1, H2, H3, H4, H5, H6, H7, H8, H9, H10, H11, H12, H13⟩, H14, H15, H16, H17, H18, H19, H20, H21, H22, H23, H24, H25⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end Generic

/-- What each of the twelve buffers holds after so many points. -/
structure Pred (F : FTy → Type) where
  p14 : ℕ → Vec F S2048x1792 .bf16 → Prop
  p15 : ℕ → Vec F S4x128x128 .f32 → Prop
  p16 : ℕ → Vec F S4x128x1 .f32 → Prop
  p17 : ℕ → Vec F S1x512 .f32 → Prop
  p18 : ℕ → Vec F S8x128 .f32 → Prop
  p19 : ℕ → Vec F S8x32x1 .f32 → Prop
  p20 : ℕ → Vec F S1792x1024 .f32 → Prop
  p21 : ℕ → Vec F S4x128x128 .bf16 → Prop
  p22 : ℕ → Vec F S4x128x128 .bf16 → Prop
  p23 : ℕ → Vec F S8x128x256 .f32 → Prop
  p24 : ℕ → Vec F S4x128x128 .f32 → Prop
  p25 : ℕ → Vec F S128x256 .f32 → Prop

/-- The twelve buffers are as `P` says after `n` points. -/
structure Pred.Holds (P : Pred F) (n : ℕ) (x : Cells F) : Prop where
  h14 : P.p14 n x.x14
  h15 : P.p15 n x.x15
  h16 : P.p16 n x.x16
  h17 : P.p17 n x.x17
  h18 : P.p18 n x.x18
  h19 : P.p19 n x.x19
  h20 : P.p20 n x.x20
  h21 : P.p21 n x.x21
  h22 : P.p22 n x.x22
  h23 : P.p23 n x.x23
  h24 : P.p24 n x.x24
  h25 : P.p25 n x.x25

/-- What point `t` reads: the blocks that it is handed. -/
def insOf (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t

/-- What point `t` makes of the twelve buffers. -/
def stepAt (c : Dev nD) (t : Fin cfg0.N) (x : Cells F) : Cells F :=
  step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (insOf m c t) x

/-- Every point carries `P` on: whatever it finds that is as `P` says (at the first point: anything), it leaves as `P` says. -/
def Carried (P : Dev nD → Pred F) : Prop :=
  ∀ (c : Dev nD) (t : Fin cfg0.N) (x : Cells F), (t.val ≠ 0 → (P c).Holds t.val x) → (P c).Holds (t.val + 1) (stepAt m c t x)

variable (P : Dev nD → Pred F)

/-- The windows of results. -/
def marked : Fin 20 → Bool := fun w => decide (13 ≤ w.val)

/-- What the buffer of a result holds after point `t`. -/
def left (c : Dev nD) (w : Fin cfg0.W) (t : Fin cfg0.N) (X : (cfg0.win w).block.Idx → Elt F (cfg0.win w).elt) : Prop := match w with
  | ⟨0, _⟩ => True
  | ⟨1, _⟩ => True
  | ⟨2, _⟩ => True
  | ⟨3, _⟩ => True
  | ⟨4, _⟩ => True
  | ⟨5, _⟩ => True
  | ⟨6, _⟩ => True
  | ⟨7, _⟩ => True
  | ⟨8, _⟩ => True
  | ⟨9, _⟩ => True
  | ⟨10, _⟩ => True
  | ⟨11, _⟩ => True
  | ⟨12, _⟩ => True
  | ⟨13, _⟩ => (P c).p14 (t.val + 1) X
  | ⟨14, _⟩ => (P c).p15 (t.val + 1) X
  | ⟨15, _⟩ => (P c).p16 (t.val + 1) X
  | ⟨16, _⟩ => (P c).p17 (t.val + 1) X
  | ⟨17, _⟩ => (P c).p18 (t.val + 1) X
  | ⟨18, _⟩ => (P c).p19 (t.val + 1) X
  | ⟨19, _⟩ => (P c).p20 (t.val + 1) X
  | ⟨_ + 20, _⟩ => True

/-- What the buffers kept from point to point hold after `n` points. -/
def kept (c : Dev nD) (n : ℕ) : sProp 𝕄 :=
  iprop((∃ x21 x22 x23 x24 x25, ⌜n ≠ 0 → (P c).p21 n x21 ∧ (P c).p22 n x22 ∧ (P c).p23 n x23 ∧ (P c).p24 n x24 ∧ (P c).p25 n x25⌝
    ∗ owns (c : Thread nD τ) (Memref.whole cc0_scratch0) fullShare x21 ∗ owns (c : Thread nD τ) (Memref.whole cc0_scratch1) fullShare x22 ∗ owns (c : Thread nD τ) (Memref.whole cc0_scratch2) fullShare x23 ∗ owns (c : Thread nD τ) (Memref.whole cc0_scratch3) fullShare x24 ∗ owns (c : Thread nD τ) (Memref.whole cc0_scratch4) fullShare x25) ∗ (∃ r, prngReg c r))

/-- The proof data: the arrays as the region finds them, the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨w + 20, h⟩ => Pipeline.Dat.unnamed (cfg := cfg0) ⟨w + 20, h⟩ t
  Φ t := kept P c t.val
  q w := Pipeline.shareOf spec0 w
  owed _ := 0

/-- The arrays are as the region finds them. -/
theorem A_eq (c : Dev nD) (w : Fin cfg0.W) : (dats m P 0 c).A w = V m c (Pipeline.arrRef spec0 w) := by
  dsimp only [dats]

/-- The relational data: the results' buffers as `P` says. -/
abbrev rdats (c : Dev nD) := (dats m P 0 c).toRRel marked (left P c)

theorem after0_0 (c : Dev nD) (t : Fin cfg0.N) : (dats m P 0 c).after 0 t = iblk m c 0 t := by dsimp only [dats]
theorem before0_0 (c : Dev nD) (t : Fin cfg0.N) (d) : (dats m P 0 c).before 0 t d = iblk m c 0 t :=
  before0_0_of m (dats m P 0 c) (A_eq m P c 0) (after0_0 m P c) t d
theorem after0_1 (c : Dev nD) (t : Fin cfg0.N) : (dats m P 0 c).after 1 t = iblk m c 1 t := by dsimp only [dats]
theorem before0_1 (c : Dev nD) (t : Fin cfg0.N) (d) : (dats m P 0 c).before 1 t d = iblk m c 1 t :=
  before0_1_of m (dats m P 0 c) (A_eq m P c 1) (after0_1 m P c) t d
theorem after0_2 (c : Dev nD) (t : Fin cfg0.N) : (dats m P 0 c).after 2 t = iblk m c 2 t := by dsimp only [dats]
theorem before0_2 (c : Dev nD) (t : Fin cfg0.N) (d) : (dats m P 0 c).before 2 t d = iblk m c 2 t :=
  before0_2_of m (dats m P 0 c) (A_eq m P c 2) (after0_2 m P c) t d
theorem after0_3 (c : Dev nD) (t : Fin cfg0.N) : (dats m P 0 c).after 3 t = iblk m c 3 t := by dsimp only [dats]
theorem before0_3 (c : Dev nD) (t : Fin cfg0.N) (d) : (dats m P 0 c).before 3 t d = iblk m c 3 t :=
  before0_3_of m (dats m P 0 c) (A_eq m P c 3) (after0_3 m P c) t d
theorem after0_4 (c : Dev nD) (t : Fin cfg0.N) : (dats m P 0 c).after 4 t = iblk m c 4 t := by dsimp only [dats]
theorem before0_4 (c : Dev nD) (t : Fin cfg0.N) (d) : (dats m P 0 c).before 4 t d = iblk m c 4 t :=
  before0_4_of m (dats m P 0 c) (A_eq m P c 4) (after0_4 m P c) t d
theorem after0_5 (c : Dev nD) (t : Fin cfg0.N) : (dats m P 0 c).after 5 t = iblk m c 5 t := by dsimp only [dats]
theorem before0_5 (c : Dev nD) (t : Fin cfg0.N) (d) : (dats m P 0 c).before 5 t d = iblk m c 5 t :=
  before0_5_of m (dats m P 0 c) (A_eq m P c 5) (after0_5 m P c) t d
theorem after0_6 (c : Dev nD) (t : Fin cfg0.N) : (dats m P 0 c).after 6 t = iblk m c 6 t := by dsimp only [dats]
theorem before0_6 (c : Dev nD) (t : Fin cfg0.N) (d) : (dats m P 0 c).before 6 t d = iblk m c 6 t :=
  before0_6_of m (dats m P 0 c) (A_eq m P c 6) (after0_6 m P c) t d
theorem after0_7 (c : Dev nD) (t : Fin cfg0.N) : (dats m P 0 c).after 7 t = iblk m c 7 t := by dsimp only [dats]
theorem before0_7 (c : Dev nD) (t : Fin cfg0.N) (d) : (dats m P 0 c).before 7 t d = iblk m c 7 t :=
  before0_7_of m (dats m P 0 c) (A_eq m P c 7) (after0_7 m P c) t d
theorem after0_8 (c : Dev nD) (t : Fin cfg0.N) : (dats m P 0 c).after 8 t = iblk m c 8 t := by dsimp only [dats]
theorem before0_8 (c : Dev nD) (t : Fin cfg0.N) (d) : (dats m P 0 c).before 8 t d = iblk m c 8 t :=
  before0_8_of m (dats m P 0 c) (A_eq m P c 8) (after0_8 m P c) t d
theorem after0_9 (c : Dev nD) (t : Fin cfg0.N) : (dats m P 0 c).after 9 t = iblk m c 9 t := by dsimp only [dats]
theorem before0_9 (c : Dev nD) (t : Fin cfg0.N) (d) : (dats m P 0 c).before 9 t d = iblk m c 9 t :=
  before0_9_of m (dats m P 0 c) (A_eq m P c 9) (after0_9 m P c) t d
theorem after0_10 (c : Dev nD) (t : Fin cfg0.N) : (dats m P 0 c).after 10 t = iblk m c 10 t := by dsimp only [dats]
theorem before0_10 (c : Dev nD) (t : Fin cfg0.N) (d) : (dats m P 0 c).before 10 t d = iblk m c 10 t :=
  before0_10_of m (dats m P 0 c) (A_eq m P c 10) (after0_10 m P c) t d
theorem after0_11 (c : Dev nD) (t : Fin cfg0.N) : (dats m P 0 c).after 11 t = iblk m c 11 t := by dsimp only [dats]
theorem before0_11 (c : Dev nD) (t : Fin cfg0.N) (d) : (dats m P 0 c).before 11 t d = iblk m c 11 t :=
  before0_11_of m (dats m P 0 c) (A_eq m P c 11) (after0_11 m P c) t d
theorem after0_12 (c : Dev nD) (t : Fin cfg0.N) : (dats m P 0 c).after 12 t = iblk m c 12 t := by dsimp only [dats]
theorem before0_12 (c : Dev nD) (t : Fin cfg0.N) (d) : (dats m P 0 c).before 12 t d = iblk m c 12 t :=
  before0_12_of m (dats m P 0 c) (A_eq m P c 12) (after0_12 m P c) t d

/-- What a result's buffer holds when a point after the first begins: what the point before left. -/
theorem found (c : Dev nD) (w : Fin cfg0.W) (hw : marked w = true) (hf : ∀ t : Fin cfg0.N, (cfg0.win w).fetch t = false)
    (hl : ∀ t : Fin cfg0.N, (cfg0.win w).flush t = true → t.val % 16 = 15) (t : Fin cfg0.N) (ht : t.val ≠ 0)
    (X : (cfg0.win w).block.Idx → Elt F (cfg0.win w).elt) (h : (rdats m P c).Finds w t X) :
    left P c w ⟨t.val - 1, Nat.lt_of_le_of_lt (Nat.sub_le _ _) t.isLt⟩ X := by
  rcases ((rdats m P c).finds_of_pos (hf t) ht X).mp h with h | h
  · have h15 := hl _ h
    have hN : t.val < 16 := lt_of_lt_of_eq t.isLt (show cfg0.N = 16 from N_0)
    dsimp only at h15
    omega
  · exact (dats m P 0 c).toRRel_leaves hw h

theorem found13 (c : Dev nD) (t : Fin cfg0.N) (ht : t.val ≠ 0) (X : Vec F S2048x1792 .bf16) (h : (rdats m P c).Finds 13 t X) :
    (P c).p14 t.val X := by
  have := found m P c 13 rfl (fun _ => rfl) (fun t => (flush0_13 t).mp) t ht X h
  rw [show t.val = t.val - 1 + 1 by omega]; exact this
theorem found14 (c : Dev nD) (t : Fin cfg0.N) (ht : t.val ≠ 0) (X : Vec F S4x128x128 .f32) (h : (rdats m P c).Finds 14 t X) :
    (P c).p15 t.val X := by
  have := found m P c 14 rfl (fun _ => rfl) (fun t => (flush0_14 t).mp) t ht X h
  rw [show t.val = t.val - 1 + 1 by omega]; exact this
theorem found15 (c : Dev nD) (t : Fin cfg0.N) (ht : t.val ≠ 0) (X : Vec F S4x128x1 .f32) (h : (rdats m P c).Finds 15 t X) :
    (P c).p16 t.val X := by
  have := found m P c 15 rfl (fun _ => rfl) (fun t => (flush0_15 t).mp) t ht X h
  rw [show t.val = t.val - 1 + 1 by omega]; exact this
theorem found16 (c : Dev nD) (t : Fin cfg0.N) (ht : t.val ≠ 0) (X : Vec F S1x512 .f32) (h : (rdats m P c).Finds 16 t X) :
    (P c).p17 t.val X := by
  have := found m P c 16 rfl (fun _ => rfl) (fun t => (flush0_16 t).mp) t ht X h
  rw [show t.val = t.val - 1 + 1 by omega]; exact this
theorem found17 (c : Dev nD) (t : Fin cfg0.N) (ht : t.val ≠ 0) (X : Vec F S8x128 .f32) (h : (rdats m P c).Finds 17 t X) :
    (P c).p18 t.val X := by
  have := found m P c 17 rfl (fun _ => rfl) (fun t => (flush0_17 t).mp) t ht X h
  rw [show t.val = t.val - 1 + 1 by omega]; exact this
theorem found18 (c : Dev nD) (t : Fin cfg0.N) (ht : t.val ≠ 0) (X : Vec F S8x32x1 .f32) (h : (rdats m P c).Finds 18 t X) :
    (P c).p19 t.val X := by
  have := found m P c 18 rfl (fun _ => rfl) (fun t => (flush0_18 t).mp) t ht X h
  rw [show t.val = t.val - 1 + 1 by omega]; exact this
theorem found19 (c : Dev nD) (t : Fin cfg0.N) (ht : t.val ≠ 0) (X : Vec F S1792x1024 .f32) (h : (rdats m P c).Finds 19 t X) :
    (P c).p20 t.val X := by
  have := found m P c 19 rfl (fun _ => rfl) (fun t => (flush0_19 t).mp) t ht X h
  rw [show t.val = t.val - 1 + 1 by omega]; exact this

/-- What the body is called with at point `t`, buffer by buffer, -/
def bodyPre (c : Dev nD) (t : Fin cfg0.N) : sProp 𝕄 :=
  iprop((dats m P 0 c).Φ t.castSucc ∗ (dats m P 0 c).owesAt () t.castSucc
    ∗ (∃ d, owns (c : Thread nD τ) ((cfg0.win 0).stage (cfg0.slots t 0)) fullShare ((dats m P 0 c).before 0 t d))
    ∗ (∃ d, owns (c : Thread nD τ) ((cfg0.win 1).stage (cfg0.slots t 1)) fullShare ((dats m P 0 c).before 1 t d))
    ∗ (∃ d, owns (c : Thread nD τ) ((cfg0.win 2).stage (cfg0.slots t 2)) fullShare ((dats m P 0 c).before 2 t d))
    ∗ (∃ d, owns (c : Thread nD τ) ((cfg0.win 3).stage (cfg0.slots t 3)) fullShare ((dats m P 0 c).before 3 t d))
    ∗ (∃ d, owns (c : Thread nD τ) ((cfg0.win 4).stage (cfg0.slots t 4)) fullShare ((dats m P 0 c).before 4 t d))
    ∗ (∃ d, owns (c : Thread nD τ) ((cfg0.win 5).stage (cfg0.slots t 5)) fullShare ((dats m P 0 c).before 5 t d))
    ∗ (∃ d, owns (c : Thread nD τ) ((cfg0.win 6).stage (cfg0.slots t 6)) fullShare ((dats m P 0 c).before 6 t d))
    ∗ (∃ d, owns (c : Thread nD τ) ((cfg0.win 7).stage (cfg0.slots t 7)) fullShare ((dats m P 0 c).before 7 t d))
    ∗ (∃ d, owns (c : Thread nD τ) ((cfg0.win 8).stage (cfg0.slots t 8)) fullShare ((dats m P 0 c).before 8 t d))
    ∗ (∃ d, owns (c : Thread nD τ) ((cfg0.win 9).stage (cfg0.slots t 9)) fullShare ((dats m P 0 c).before 9 t d))
    ∗ (∃ d, owns (c : Thread nD τ) ((cfg0.win 10).stage (cfg0.slots t 10)) fullShare ((dats m P 0 c).before 10 t d))
    ∗ (∃ d, owns (c : Thread nD τ) ((cfg0.win 11).stage (cfg0.slots t 11)) fullShare ((dats m P 0 c).before 11 t d))
    ∗ (∃ d, owns (c : Thread nD τ) ((cfg0.win 12).stage (cfg0.slots t 12)) fullShare ((dats m P 0 c).before 12 t d))
    ∗ (∃ X, ⌜(rdats m P c).Finds 13 t X⌝ ∗ owns (c : Thread nD τ) ((cfg0.win 13).stage (cfg0.slots t 13)) fullShare X)
    ∗ (∃ X, ⌜(rdats m P c).Finds 14 t X⌝ ∗ owns (c : Thread nD τ) ((cfg0.win 14).stage (cfg0.slots t 14)) fullShare X)
    ∗ (∃ X, ⌜(rdats m P c).Finds 15 t X⌝ ∗ owns (c : Thread nD τ) ((cfg0.win 15).stage (cfg0.slots t 15)) fullShare X)
    ∗ (∃ X, ⌜(rdats m P c).Finds 16 t X⌝ ∗ owns (c : Thread nD τ) ((cfg0.win 16).stage (cfg0.slots t 16)) fullShare X)
    ∗ (∃ X, ⌜(rdats m P c).Finds 17 t X⌝ ∗ owns (c : Thread nD τ) ((cfg0.win 17).stage (cfg0.slots t 17)) fullShare X)
    ∗ (∃ X, ⌜(rdats m P c).Finds 18 t X⌝ ∗ owns (c : Thread nD τ) ((cfg0.win 18).stage (cfg0.slots t 18)) fullShare X)
    ∗ (∃ X, ⌜(rdats m P c).Finds 19 t X⌝ ∗ owns (c : Thread nD τ) ((cfg0.win 19).stage (cfg0.slots t 19)) fullShare X))

/-- and what it returns. -/
def bodyPost (c : Dev nD) (t : Fin cfg0.N) : sProp 𝕄 :=
  iprop((dats m P 0 c).Φ t.succ ∗ (dats m P 0 c).owesAt () t.succ
    ∗ owns (c : Thread nD τ) ((cfg0.win 0).stage (cfg0.slots t 0)) fullShare ((dats m P 0 c).after 0 t)
    ∗ owns (c : Thread nD τ) ((cfg0.win 1).stage (cfg0.slots t 1)) fullShare ((dats m P 0 c).after 1 t)
    ∗ owns (c : Thread nD τ) ((cfg0.win 2).stage (cfg0.slots t 2)) fullShare ((dats m P 0 c).after 2 t)
    ∗ owns (c : Thread nD τ) ((cfg0.win 3).stage (cfg0.slots t 3)) fullShare ((dats m P 0 c).after 3 t)
    ∗ owns (c : Thread nD τ) ((cfg0.win 4).stage (cfg0.slots t 4)) fullShare ((dats m P 0 c).after 4 t)
    ∗ owns (c : Thread nD τ) ((cfg0.win 5).stage (cfg0.slots t 5)) fullShare ((dats m P 0 c).after 5 t)
    ∗ owns (c : Thread nD τ) ((cfg0.win 6).stage (cfg0.slots t 6)) fullShare ((dats m P 0 c).after 6 t)
    ∗ owns (c : Thread nD τ) ((cfg0.win 7).stage (cfg0.slots t 7)) fullShare ((dats m P 0 c).after 7 t)
    ∗ owns (c : Thread nD τ) ((cfg0.win 8).stage (cfg0.slots t 8)) fullShare ((dats m P 0 c).after 8 t)
    ∗ owns (c : Thread nD τ) ((cfg0.win 9).stage (cfg0.slots t 9)) fullShare ((dats m P 0 c).after 9 t)
    ∗ owns (c : Thread nD τ) ((cfg0.win 10).stage (cfg0.slots t 10)) fullShare ((dats m P 0 c).after 10 t)
    ∗ owns (c : Thread nD τ) ((cfg0.win 11).stage (cfg0.slots t 11)) fullShare ((dats m P 0 c).after 11 t)
    ∗ owns (c : Thread nD τ) ((cfg0.win 12).stage (cfg0.slots t 12)) fullShare ((dats m P 0 c).after 12 t)
    ∗ (∃ X, ⌜left P c 13 t X⌝ ∗ owns (c : Thread nD τ) ((cfg0.win 13).stage (cfg0.slots t 13)) fullShare X)
    ∗ (∃ X, ⌜left P c 14 t X⌝ ∗ owns (c : Thread nD τ) ((cfg0.win 14).stage (cfg0.slots t 14)) fullShare X)
    ∗ (∃ X, ⌜left P c 15 t X⌝ ∗ owns (c : Thread nD τ) ((cfg0.win 15).stage (cfg0.slots t 15)) fullShare X)
    ∗ (∃ X, ⌜left P c 16 t X⌝ ∗ owns (c : Thread nD τ) ((cfg0.win 16).stage (cfg0.slots t 16)) fullShare X)
    ∗ (∃ X, ⌜left P c 17 t X⌝ ∗ owns (c : Thread nD τ) ((cfg0.win 17).stage (cfg0.slots t 17)) fullShare X)
    ∗ (∃ X, ⌜left P c 18 t X⌝ ∗ owns (c : Thread nD τ) ((cfg0.win 18).stage (cfg0.slots t 18)) fullShare X)
    ∗ (∃ X, ⌜left P c 19 t X⌝ ∗ owns (c : Thread nD τ) ((cfg0.win 19).stage (cfg0.slots t 19)) fullShare X))

theorem kept_castSucc (c : Dev nD) (t : Fin cfg0.N) : (dats m P 0 c).Φ t.castSucc = kept P c t.val := by
  dsimp only [dats]; rfl
theorem kept_succ (c : Dev nD) (t : Fin cfg0.N) : (dats m P 0 c).Φ t.succ = kept P c (t.val + 1) := by
  dsimp only [dats]; rfl

set_option maxHeartbeats 1600000 in
/-- The body at any point, for a `Pred` that is carried on. -/
theorem sound_body (hP : Carried m P) (c : Dev nD) (t : Fin cfg0.N) :
    bodyPre m P c t ⊢ wp frame (wpE (defs₀ (F := F)) Variants.none c none) Set.univ (bodyAt0 t) (fun _ => bodyPost m P c t) := by
  unfold bodyPre bodyPost bodyAt0
  simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12]
  rw [kept_castSucc, kept_succ, show (dats m P 0 c).owesAt () t.succ = (dats m P 0 c).owesAt () t.castSucc from rfl]
  unfold kept
  iintro ⟨⟨⟨%x21, %x22, %x23, %x24, %x25, %hk, H21, H22, H23, H24, H25⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%x14, %e14, H14⟩, ⟨%x15, %e15, H15⟩, ⟨%x16, %e16, H16⟩, ⟨%x17, %e17, H17⟩, ⟨%x18, %e18, H18⟩, ⟨%x19, %e19, H19⟩, ⟨%x20, %e20, H20⟩⟩
  have hx := hP c t { x14 := x14, x15 := x15, x16 := x16, x17 := x17, x18 := x18, x19 := x19, x20 := x20, x21 := x21, x22 := x22, x23 := x23, x24 := x24, x25 := x25 } fun ht => {
    h14 := found13 m P c t ht x14 e14, h15 := found14 m P c t ht x15 e15, h16 := found15 m P c t ht x16 e16, h17 := found16 m P c t ht x17 e17, h18 := found17 m P c t ht x18 e18, h19 := found18 m P c t ht x19 e19, h20 := found19 m P c t ht x20 e20,
    h21 := (hk ht).1, h22 := (hk ht).2.1, h23 := (hk ht).2.2.1, h24 := (hk ht).2.2.2.1, h25 := (hk ht).2.2.2.2 }
  iapply wp_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x14 x15 x16 x17 x18 x19 x20 x21 x22 x23 x24 x25
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H3, H4, H5, H6, H7, H8, H9, H10, H11, H12, H13, H14, H15, H16, H17, H18, H19, H20, H21, H22, H23, H24, H25⟩
  isplitl [H21 H22 H23 H24 H25 Hg]
  · isplitl [H21 H22 H23 H24 H25]
    · iexists _, _, _, _, _
      isplitr
      swap
      · isplitl [H21]; · iexact H21
        isplitl [H22]; · iexact H22
        isplitl [H23]; · iexact H23
        isplitl [H24]; · iexact H24
        iexact H25
      · ipureintro
        exact fun _ => ⟨hx.h21, hx.h22, hx.h23, hx.h24, hx.h25⟩
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap; · iexact H14
    ipureintro; exact hx.h14
  isplitl [H15]
  · iexists _; isplitr; swap; · iexact H15
    ipureintro; exact hx.h15
  isplitl [H16]
  · iexists _; isplitr; swap; · iexact H16
    ipureintro; exact hx.h16
  isplitl [H17]
  · iexists _; isplitr; swap; · iexact H17
    ipureintro; exact hx.h17
  isplitl [H18]
  · iexists _; isplitr; swap; · iexact H18
    ipureintro; exact hx.h18
  isplitl [H19]
  · iexists _; isplitr; swap; · iexact H19
    ipureintro; exact hx.h19
  iexists _; isplitr; swap; · iexact H20
  ipureintro; exact hx.h20

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (hP : Carried m P) (c : Dev nD) :
    Pipeline.BodyObligationRel (dats m P 0 c) (defs₀ (F := F)) Variants.none () Set.univ marked (left P c) := fun t => by
  rw [bigSep_W0, bigSep_W0, defs₀_row]
  exact triple_restated (sound_body m P hP c t) rfl .rfl fun _ => .rfl

theorem PhiA_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the launch hands the region is the invariant before the first point. -/
theorem hin (c : Dev nD) : Pipeline.ΦA spec0 c ⊢ (dats m P 0 c).Φ 0 := by
  rw [show (dats m P 0 c).Φ 0 = kept P c 0 from rfl, PhiA_eq]
  unfold kept
  iintro ⟨⟨⟨%x21, H21⟩, ⟨%x22, H22⟩, ⟨%x23, H23⟩, ⟨%x24, H24⟩, ⟨%x25, H25⟩⟩, Hg⟩
  isplitl [H21 H22 H23 H24 H25]
  · iexists x21, x22, x23, x24, x25
    isplitr
    · ipureintro; exact fun h => absurd rfl h
    isplitl [H21]; · iexact H21
    isplitl [H22]; · iexact H22
    isplitl [H23]; · iexact H23
    isplitl [H24]; · iexact H24
    iexact H25
  iexact Hg

/-- The invariant after the last point gives back what the launch handed. -/
theorem hout (c : Dev nD) : (dats m P 0 c).Φ (Fin.last cfg0.N) ⊢ Pipeline.ΦA spec0 c := by
  rw [show (dats m P 0 c).Φ (Fin.last cfg0.N) = kept P c cfg0.N from rfl, PhiA_eq]
  unfold kept
  iintro ⟨⟨%x21, %x22, %x23, %x24, %x25, %hk, H21, H22, H23, H24, H25⟩, Hg⟩
  isplitl [H21 H22 H23 H24 H25]
  · isplitl [H21]; · iexists _; iexact H21
    isplitl [H22]; · iexists _; iexact H22
    isplitl [H23]; · iexists _; iexact H23
    isplitl [H24]; · iexists _; iexact H24
    iexists _; iexact H25
  iexact Hg

-- the launch theorem's implicit arguments are found by unifying its conclusion with this one
set_option backward.isDefEq.respectTransparency.types false in
/-- THE RUN: from any memory every execution ends, with every array and buffer as the relational data say and all counters at zero. -/
theorem run_quiescent (hP : Carried m P) : θ_run defs (onTc (τ := τ) (main (F := F))) (s₀ m ρ)
    (fun r => (Pipeline.RDat.FramePost (cfgs 0) (fun c => rdats m P c) (V m)) r ∧ r.2.sem = fun _ => 0) :=
  Pipeline.RDat.θ_run_frame_track_shared (Q' := _) cfgs (0 : Fin 1) launch₀0 defs₀ Variants.none (fun c => rdats m P c) m ρ main
    (hbody := fun c => (body_obligation m P hP c).toRRel) (hq := fun _ _ _ => rfl)
    (howed := fun _ _ => rfl) (V := V m) (hmain := hmain m Variants.none) (hA := A_eq m P) (hin := hin m P) (hout := hout m P)

set_option maxHeartbeats 1600000 in
/-- The arguments end unchanged. -/
theorem unchanged_of (r : PUnit × MemSt nD τ sig (Elt F)) (h : Pipeline.RDat.FramePost (cfgs 0) (fun c => rdats m P c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 1 rfl).trans ((A_eq m P c 1).trans (V_main_arg0 m c)),
    (h.arr_in c 2 rfl).trans ((A_eq m P c 2).trans (V_main_arg1 m c)),
    ((h c).2 main_arg2 (Pipeline.mem_restRefs_of main_arg2 (by decide) (by decide))).trans (V_main_arg2 m c),
    (h.arr_in c 3 rfl).trans ((A_eq m P c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The `Pred` that says nothing. -/
def anything : Pred F where
  p14 _ _ := True
  p15 _ _ := True
  p16 _ _ := True
  p17 _ _ := True
  p18 _ _ := True
  p19 _ _ := True
  p20 _ _ := True
  p21 _ _ := True
  p22 _ _ := True
  p23 _ _ := True
  p24 _ _ := True
  p25 _ _ := True

/-- It is carried on. -/
theorem carried_anything : Carried m fun _ => anything := fun _ _ _ _ => ⟨trivial, trivial, trivial, trivial, trivial, trivial, trivial, trivial, trivial, trivial, trivial, trivial⟩

/-- THE FRAME: from any memory every execution ends, the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => unchanged_of m _ r h.1 c, h.2⟩) (run_quiescent m ρ _ (carried_anything m))

end Cert.MixerBwdIdeal.Run
end
-- ==== Proof.MixClaims.lean ====
module

public import proofs.«01_k».proof.Defs
public import proofs.«01_k».proof.Proof.Gen.MixerBwd
public import proofs.«01_k».proof.Proof.MixFrame
public import Idealize.ShloMosaic.Lib.Claim
public import Idealize.ShloMosaic.Lib.Quiescent

/-!
# The claims about the mixer's backward kernel
-/

@[expose] public section

set_option maxRecDepth 16384

noncomputable section

namespace Cert.Proof.Mixer

open Idealize.ShloMosaic Idealize.ShloMosaic.TcCoe Idealize.SL.Sem

/-- The kernel's idealized program runs and ends quiescent, its arguments unchanged. -/
theorem frameIdeal : Cert.quiescent_MixerBwdIdeal := fun m ρ _ => Cert.MixerBwdIdeal.Run.frame (F := Ideal) m ρ
/-- So does the printed program, whose text is the same: the run does not depend on what a float is. -/
theorem frame : Cert.quiescent_MixerBwd := fun m ρ _ =>
  Eq.mp (by sl_kernel_rfl) (Cert.MixerBwdIdeal.Run.frame (F := Bits) m ρ)

end Cert.Proof.Mixer
end
-- ==== Proof.MixFwdBlock.lean ====
module

public import proofs.«01_k».proof.Proof.Gen.MixerFwdIdeal.Skeleton
public import Idealize.ShloMosaic.Lib.Pointwise

/-!
# One block of the forward mixer kernel

The kernel writes the eight heads and the four groups out one by one. Here a head's weights, a head's values, a group's
gating and the fill of a head's bias are stated once, as functions of the blocks they read, and read at an index.
-/

@[expose] public section

set_option maxRecDepth 16384

noncomputable section

namespace Cert.MixerFwdIdeal.Block

open Idealize.ShloMosaic Idealize.ShloMosaic.TcCoe
open Cert.MixerFwdIdeal Cert.MixerFwdIdeal.Gen

/-! ## A head -/

/-- Of 128 lanes the half a head sits in. -/
def lanes (half : IVec S1x128 32) (pos : BitVec 32) : IVec S1x128 1 :=
  shapeCast S1x128 (cmpi .eq half (broadcast S1x128 pos)) shapeCasts_S1x128_S1x128

/-- A head's logits: masked queries times keys, scaled, plus the bias, with the unseen pairs at −∞. -/
def logits (k : FVec Ideal S256x128 .bf16) (valid : IVec S128x256 1) (half : IVec S1x128 32) (pos : BitVec 32)
    (q : FVec Ideal S128x128 .f32) (bias : FVec Ideal S1x128x256 .f32) : FVec Ideal S128x256 .f32 :=
  select valid
    (addf (mulf (matmul dot_S128x128_S256x128_S128x256_1_1_0_0_n_n none
        (truncf .bf16 (select (broadcastTo S128x128 (lanes half pos) broadcasts_S1x128_S128x128) q
          (broadcast S128x128 (Scalar.ofBits .f32 0x00000000#32))) bitsLt_bf16_f32) k
        (constant S128x256 .f32 0x00000000#32)) (broadcast S128x256 (Scalar.ofBits .f32 0x3E000000#32)))
      (shapeCast S128x256 bias shapeCasts_S1x128x256_S128x256))
    (broadcast S128x256 (Named.named (F := Ideal) κ "masked" 0xF149F2CA#32))

/-- The largest logit of a row, with the sink's. -/
def top (s : FVec Ideal S128x256 .f32) (sink : EReal) : FVec Ideal S128x1 .f32 :=
  maximumf (shapeCast S128x1 (multiReduction .maximumf [1] S128 s 0xFF800000#32 reduces_S128x256_S128 (.inl rfl) rfl)
    shapeCasts_S128_S128x1) (broadcast S128x1 sink)

/-- The exponentials of a row's logits below its largest, -/
def expo (s : FVec Ideal S128x256 .f32) (sink : EReal) : FVec Ideal S128x256 .f32 :=
  exp (subf s (broadcastTo S128x256 (top s sink) broadcasts_S128x1_S128x256))
/-- and the sink's. -/
def expoSink (s : FVec Ideal S128x256 .f32) (sink : EReal) : FVec Ideal S128x1 .f32 :=
  exp (subf (broadcast S128x1 sink) (top s sink))

/-- One over their sum. -/
def overSum (s : FVec Ideal S128x256 .f32) (sink : EReal) : FVec Ideal S128x1 .f32 :=
  divf (broadcast S128x1 (Scalar.ofBits .f32 0x3F800000#32))
    (addf (shapeCast S128x1 (multiReduction .add [1] S128 (expo s sink) 0x00000000#32 reduces_S128x256_S128 (.inl rfl) rfl)
      shapeCasts_S128_S128x1) (expoSink s sink))

/-- A head's weights -/
def weights (s : FVec Ideal S128x256 .f32) (sink : EReal) : FVec Ideal S128x256 .f32 :=
  mulf (expo s sink) (broadcastTo S128x256 (overSum s sink) broadcasts_S128x1_S128x256)
/-- and its sink's share. -/
def sinkShare (s : FVec Ideal S128x256 .f32) (sink : EReal) : FVec Ideal S128x1 .f32 := mulf (expoSink s sink) (overSum s sink)

/-- A head's weighted values, in its half of 128 lanes. -/
def headOut (p : FVec Ideal S128x256 .f32) (v : FVec Ideal S256x128 .bf16) (half : IVec S1x128 32) (pos : BitVec 32) :
    FVec Ideal S128x128 .f32 :=
  matmul dot_S128x256_S256x128_S128x128_1_0_0_1_n_n none (truncf .bf16 p bitsLt_bf16_f32)
    (select (broadcastTo S256x128 (lanes half pos) broadcasts_S1x128_S256x128) v
      (broadcast S256x128 (Scalar.ofBits .bf16 0x0000#16))) (constant S128x128 .f32 0x00000000#32)

/-- The shares with head `h`'s written into lane `h`. -/
def shareIn (lane : IVec S1x128 32) (h : BitVec 32) (p : FVec Ideal S128x1 .f32) (acc : FVec Ideal S128x128 .f32) :
    FVec Ideal S128x128 .f32 :=
  select (broadcastTo S128x128 (shapeCast S1x128 (cmpi .eq lane (broadcast S1x128 h)) shapeCasts_S1x128_S1x128) broadcasts_S1x128_S128x128)
    (broadcastTo S128x128 (shapeCast S128x1 p shapeCasts_S128x1_S128x1) broadcasts_S128x1_S128x128) acc

variable (k : FVec Ideal S256x128 .bf16) (valid : IVec S128x256 1) (half : IVec S1x128 32) (pos : BitVec 32)
variable (q : FVec Ideal S128x128 .f32) (bias : FVec Ideal S1x128x256 .f32) (s : FVec Ideal S128x256 .f32) (sink : EReal)
variable (i : Fin 128) (j : Fin 256)

theorem logits_at : logits k valid half pos q bias (ix2 i j) = Scalar.select (valid (ix2 i j))
    ((∑ x, Scalar.select (IntOp.cmpi .eq (half (ix2 0 x)) pos) (q (ix2 i x) * k (ix2 j x)) 0) * Ideal.ofBits .f32 0x3E000000#32
      + bias (ix3 0 i j)) (Named.named (F := Ideal) κ "masked" 0xF149F2CA#32) := by
  pointwise [logits, lanes]
theorem top_at : top s sink (ix2 i 0)
    = max (Finset.fold max (Ideal.ofBits .f32 0xFF800000#32) (fun x => s (ix2 i x)) Finset.univ) sink := by
  pointwise [top]
theorem expo_at : expo s sink (ix2 i j) = Ideal.exp (s (ix2 i j) - top s sink (ix2 i 0)) := by
  pointwise [expo]
theorem expoSink_at : expoSink s sink (ix2 i 0) = Ideal.exp (sink - top s sink (ix2 i 0)) := by
  pointwise [expoSink]
theorem overSum_at : overSum s sink (ix2 i 0) = Ideal.div 1 (∑ x, expo s sink (ix2 i x) + expoSink s sink (ix2 i 0)) := by
  pointwise [overSum]
theorem weights_at : weights s sink (ix2 i j) = expo s sink (ix2 i j) * overSum s sink (ix2 i 0) := by
  pointwise [weights]
theorem sinkShare_at : sinkShare s sink (ix2 i 0) = expoSink s sink (ix2 i 0) * overSum s sink (ix2 i 0) := by
  pointwise [sinkShare]
theorem headOut_at (p : FVec Ideal S128x256 .f32) (v : FVec Ideal S256x128 .bf16) (l : Fin 128) : headOut p v half pos (ix2 i l)
    = ∑ x, Scalar.select (IntOp.cmpi .eq (half (ix2 0 l)) pos) (p (ix2 i x) * v (ix2 x l)) 0 := by
  pointwise [headOut, lanes]
theorem shareIn_at (lane : IVec S1x128 32) (h : BitVec 32) (p : FVec Ideal S128x1 .f32) (acc : FVec Ideal S128x128 .f32) (l : Fin 128) :
    shareIn lane h p acc (ix2 i l) = Scalar.select (IntOp.cmpi .eq (lane (ix2 0 l)) h) (p (ix2 i 0)) (acc (ix2 i l)) := by
  pointwise [shareIn]

theorem pay112_eq : k0_pay112 (F := Ideal) k valid half q bias sink
    = shapeCast S1x1x128x256 (truncf .bf16 (weights (logits k valid half 0#32 q bias) sink) bitsLt_bf16_f32) shapeCasts_S128x256_S1x1x128x256 := rfl
theorem pay125_eq : k0_pay125 (F := Ideal) sink (k0_pay118 (F := Ideal) k valid half q bias sink) (k0_pay119 (F := Ideal) k valid half q bias sink)
    = shapeCast S1x1x128x256 (truncf .bf16 (weights (logits k valid half 1#32 q bias) sink) bitsLt_bf16_f32) shapeCasts_S128x256_S1x1x128x256 := rfl

end Cert.MixerFwdIdeal.Block
-- ==== Proof.MixFwdEq.lean ====
module

public import proofs.«01_k».proof.Proof.Reals
public import Idealize.ShloMosaic.Lib.Pointwise

/-!
# The forward mixer, written down

The mixer of the step's forward pass as functions of its arguments: the gelu of the gate's half and its slope, the
gated groups of one block of 128 positions, and the sliding window attention with a sink and a bias by distance. The
equations the two programs differ by are proved here: a row's exponentials times one over their sum are their quotients
by the sum, a sum over the 128 lanes two heads share is one over the lanes of one, and the bucket of a distance is one
of the 32 the table holds.
-/

@[expose] public section

noncomputable section

namespace Cert.MixFwd

open Idealize.ShloMosaic Cert.Reals

/-- The arguments. -/
structure Args where
  z : Fin 2048 → Fin 1792 → EReal
  gain : Fin 512 → EReal
  ws : Fin 4 → Fin 128 → Fin 128 → EReal
  b : Fin 4 → Fin 128 → EReal
  sink : Fin 8 → EReal
  tab : Fin 32 → Fin 8 → EReal

/-- Position `i` of block `n`, -/
def row (n : Fin 16) (i : Fin 128) : Fin 2048 := ⟨n.val * 128 + i.val, by omega⟩
/-- and position `j` of the two blocks that end with it. -/
def past (n : Fin 16) (j : Fin 256) : Fin 2048 := ⟨n.val * 128 + j.val - 128, by omega⟩

/-! ## The gate -/

/-- The hyperbolic tangent inside the gelu, -/
def gtanh (x : EReal) : EReal :=
  Ideal.tanh (Ideal.ofBits .f32 0x3F4C422A#32 * (x + Ideal.ofBits .f32 0x3D372713#32 * (x * x * x)))
/-- its distribution function, -/
def gcdf (x : EReal) : EReal := Ideal.ofBits .f32 0x3F000000#32 * (1 + gtanh x)
/-- the gelu -/
def gelu (x : EReal) : EReal := x * gcdf x
/-- and its slope. -/
def slope (x : EReal) : EReal :=
  gcdf x + x * (Ideal.ofBits .f32 0x3F000000#32 * (1 - gtanh x * gtanh x))
    * (Ideal.ofBits .f32 0x3F4C422A#32 * (1 + Ideal.ofBits .f32 0x3E095D4F#32 * (x * x)))

variable (a : Args)

/-- The gelu of column `l` of the gate's half. -/
def guv (r : Fin 2048) (l : Fin 1024) : EReal := gelu (a.z r ⟨l.val, by omega⟩)
/-- Group `g`'s second half. -/
def vpart (r : Fin 2048) (g : Fin 4) (l : Fin 128) : EReal := guv a r ⟨512 + (g.val * 128 + l.val), by omega⟩
/-- The same, normed and scaled. -/
def vnorm (r : Fin 2048) (g : Fin 4) (l : Fin 128) : EReal :=
  vpart a r g l * Ideal.rsqrt (Ideal.div (∑ k, vpart a r g k * vpart a r g k) (Ideal.ofBits .f32 0x43000000#32)
      + Ideal.ofBits .f32 0x358637BD#32) * a.gain ⟨g.val * 128 + l.val, by omega⟩
/-- The spatial weights of group `g`, cut to the past. -/
def wtril (g : Fin 4) (i k : Fin 128) : EReal := if k.val ≤ i.val then a.ws g i k else 0
/-- The gated group. -/
def gated (n : Fin 16) (i : Fin 128) (g : Fin 4) (l : Fin 128) : EReal :=
  guv a (row n i) ⟨g.val * 128 + l.val, by omega⟩ * (∑ k, wtril a g i k * vnorm a (row n k) g l + a.b g i)

/-! ## The attention -/

/-- How far position `j` of the two blocks lies before position `i` of the last. -/
def dist (i : Fin 128) (j : Fin 256) : BitVec 32 :=
  IntOp.subi (IntOp.addi 128#32 (BitVec.ofNat 32 i.val)) (BitVec.ofNat 32 j.val)
/-- Whether `i` sees `j`. -/
def seen (n : Fin 16) (i : Fin 128) (j : Fin 256) : BitVec 1 :=
  IntOp.andi (IntOp.andi (IntOp.cmpi .sge (dist i j) 0#32) (IntOp.cmpi .slt (dist i j) 128#32))
    (~~~IntOp.andi (IntOp.cmpi .eq (BitVec.ofNat 32 n.val) 0#32) (IntOp.cmpi .slt (BitVec.ofNat 32 j.val) 128#32))
/-- The bucket of a distance. -/
def bucketOf (x : BitVec 32) : BitVec 32 :=
  Scalar.select (IntOp.cmpi .slt x 16#32) x (IntOp.minsi (IntOp.addi 16#32 (FloatOps.fptosi (F := Ideal) (φ := .f32) 32
    (Ideal.div (Ideal.log (Ideal.div (FloatOps.sitofp (F := Ideal) .f32 (IntOp.maxsi x 1#32)) (Ideal.ofBits .f32 0x41800000#32)))
      (Ideal.ofBits .f32 0x40051592#32) * Ideal.ofBits .f32 0x41800000#32))) 31#32)
/-- The bucket of `i` and `j`. -/
def bucket (i : Fin 128) (j : Fin 256) : BitVec 32 := bucketOf (IntOp.maxsi (dist i j) 0#32)

/-- Lane `d` of head `h`'s queries, and of key and value head `g`. -/
def qcol (h : Fin 8) (d : Fin 64) : Fin 1792 := ⟨1024 + (h.val * 64 + d.val), by omega⟩
def kcol (g : Fin 2) (d : Fin 64) : Fin 1792 := ⟨1536 + (g.val * 64 + d.val), by omega⟩
def vcol (g : Fin 2) (d : Fin 64) : Fin 1792 := ⟨1664 + (g.val * 64 + d.val), by omega⟩
/-- The key and value head of head `h`. -/
def kv (h : Fin 8) : Fin 2 := ⟨h.val / 4, by omega⟩

/-- Head `h`'s logits, −∞ where unseen. -/
def logit (n : Fin 16) (h : Fin 8) (i : Fin 128) (j : Fin 256) : EReal :=
  Scalar.select (seen n i j) ((∑ d, a.z (row n i) (qcol h d) * a.z (past n j) (kcol (kv h) d)) * Ideal.ofBits .f32 0x3E000000#32
    + a.tab ⟨min (bucket i j).toNat 31, by omega⟩ h) ⊥

section Row
variable {m : ℕ} (s : Fin m → EReal) (sink : EReal)
/-- A row's largest logit, its exponentials, the sink's, and their sum. -/
def topOf : EReal := max (Finset.fold max ⊥ s Finset.univ) sink
def num (j : Fin m) : EReal := Ideal.exp (s j - topOf s sink)
def numSink : EReal := Ideal.exp (sink - topOf s sink)
def den : EReal := ∑ j, num s sink j + numSink s sink
end Row

/-- Head `h`'s weights, its sink's share and its values. -/
def weight (n : Fin 16) (h : Fin 8) (i : Fin 128) (j : Fin 256) : EReal :=
  Ideal.div (num (logit a n h i) (a.sink h) j) (den (logit a n h i) (a.sink h))
def share (n : Fin 16) (h : Fin 8) (i : Fin 128) : EReal :=
  Ideal.div (numSink (logit a n h i) (a.sink h)) (den (logit a n h i) (a.sink h))
def values (n : Fin 16) (h : Fin 8) (i : Fin 128) (d : Fin 64) : EReal :=
  ∑ j, weight a n h i j * a.z (past n j) (vcol (kv h) d)

/-! ## The equations -/

theorem cNegInf : Ideal.ofBits .f32 0xFF800000#32 = ⊥ := by
  simp [Ideal.ofBits, Ideal.ieee]
theorem cScale : Ideal.ofBits .f32 0x3E000000#32 = ((1 / 8 : ℝ) : EReal) := by
  simp [Ideal.ofBits, Ideal.ieee, -EReal.coe_mul]; norm_num
theorem cSixteen : Ideal.ofBits .f32 0x41800000#32 = ((16 : ℝ) : EReal) := by
  simp [Ideal.ofBits, Ideal.ieee, -EReal.coe_mul]; norm_num
theorem cLog8 : Ideal.ofBits .f32 0x40051592#32 = ((8721810 / 4194304 : ℝ) : EReal) := by
  simp [Ideal.ofBits, Ideal.ieee, -EReal.coe_mul]; norm_num
theorem cZero : Ideal.ofBits .f32 0x00000000#32 = 0 := by
  simp [Ideal.ofBits, Ideal.ieee]

/-- The largest logit of a row of reals and −∞ is real where the sink is. -/
theorem topOf_real {m : ℕ} {s : Fin m → EReal} {sink : EReal} (hs : ∀ j, s j < ⊤) (hk : IsReal sink) : IsReal (topOf s sink) := by
  obtain ⟨r, rfl⟩ := hk
  have h1 : topOf s (r : EReal) < ⊤ :=
    max_lt ((Finset.fold_max_lt _).2 ⟨bot_lt_top, fun j _ => hs j⟩) (EReal.coe_lt_top r)
  have h2 : ⊥ < topOf s (r : EReal) := lt_of_lt_of_le (EReal.bot_lt_coe r) (le_max_right _ _)
  exact ⟨_, (EReal.coe_toReal h1.ne h2.ne').symm⟩

/-- An exponential of a logit below its row's largest is real and not negative. -/
theorem num_real {m : ℕ} {s : Fin m → EReal} {sink : EReal} (hs : ∀ j, s j < ⊤) (hk : IsReal sink) (j : Fin m) :
    ∃ r : ℝ, 0 ≤ r ∧ num s sink j = (r : EReal) := by
  obtain ⟨t, ht⟩ := topOf_real hs hk
  unfold num
  rw [ht]
  have hj := hs j
  generalize s j = x at hj ⊢
  induction x using EReal.rec with
  | bot => exact ⟨0, le_rfl, by rw [EReal.bot_sub]; simp⟩
  | top => exact absurd hj (lt_irrefl _)
  | coe x => exact ⟨Real.exp (x - t), (Real.exp_pos _).le, by rw [← EReal.coe_sub, Ideal.exp_coe]⟩

/-- A row's sum is real and positive. -/
theorem den_real {m : ℕ} {s : Fin m → EReal} {sink : EReal} (hs : ∀ j, s j < ⊤) (hk : IsReal sink) :
    ∃ r : ℝ, 0 < r ∧ den s sink = (r : EReal) := by
  obtain ⟨t, ht⟩ := topOf_real hs hk
  choose f hf hn using num_real hs hk
  obtain ⟨k, rfl⟩ := hk
  refine ⟨∑ j, f j + Real.exp (k - t), add_pos_of_nonneg_of_pos (Finset.sum_nonneg fun j _ => hf j) (Real.exp_pos _), ?_⟩
  unfold den numSink
  rw [ht, ← EReal.coe_sub, Ideal.exp_coe, EReal.coe_add, ← coe_sum]
  simp only [hn]

/-- A real times one over a row's sum is its quotient by the sum. -/
theorem mul_over {m : ℕ} {s : Fin m → EReal} {sink : EReal} (hs : ∀ j, s j < ⊤) (hk : IsReal sink) (x : EReal) :
    x * Ideal.div 1 (den s sink) = Ideal.div x (den s sink) := by
  obtain ⟨r, hr, h⟩ := den_real hs hk
  rw [h, Ideal.div_coe hr.ne', Ideal.div_coe hr.ne', one_mul]

/-- An unseen position has weight zero. -/
theorem num_bot {m : ℕ} {s : Fin m → EReal} {sink : EReal} (hs : ∀ j, s j < ⊤) (hk : IsReal sink) {j : Fin m} (hj : s j = ⊥) :
    num s sink j = 0 := by
  obtain ⟨t, ht⟩ := topOf_real hs hk
  unfold num
  rw [ht, hj, EReal.bot_sub]; rfl

theorem div_zero_num {m : ℕ} {s : Fin m → EReal} {sink : EReal} (hs : ∀ j, s j < ⊤) (hk : IsReal sink) :
    Ideal.div 0 (den s sink) = 0 := by
  obtain ⟨r, hr, h⟩ := den_real hs hk
  rw [h, Ideal.div_coe hr.ne', zero_mul]

/-- The logits are reals or −∞. -/
theorem logit_lt {a : Args} (hz : ∀ r l, IsReal (a.z r l)) (ht : ∀ b h, IsReal (a.tab b h)) (n : Fin 16) (h : Fin 8) (i : Fin 128)
    (j : Fin 256) : logit a n h i j < ⊤ := by
  unfold logit
  have hr : ∀ x, IsReal x → x < ⊤ := by rintro _ ⟨r, rfl⟩; exact EReal.coe_lt_top r
  unfold Scalar.select
  split
  · refine hr _ (((IsReal.sum fun d => (hz _ _).mul (hz _ _)).mul ?_).add (ht _ _))
    rw [cScale]; exact IsReal.coe _
  · exact bot_lt_top

/-- A sum over the 128 lanes of two heads, zero outside the half `p`, is a sum over the 64 lanes of that half. -/
theorem sum_half (p : Fin 2) (f : Fin 128 → EReal) :
    (∑ l : Fin 128, if l.val / 64 = p.val then f l else 0) = ∑ d : Fin 64, f ⟨p.val * 64 + d.val, by omega⟩ := by
  rw [← Finset.sum_filter]
  refine Finset.sum_nbij' (fun l => ⟨l.val % 64, by omega⟩) (fun d => ⟨p.val * 64 + d.val, by omega⟩) ?_ ?_ ?_ ?_ ?_
  · intros; exact Finset.mem_univ _
  · intro d _; simp only [Finset.mem_filter, Finset.mem_univ, true_and]; omega
  · intro l hl; simp only [Finset.mem_filter, Finset.mem_univ, true_and] at hl; apply Fin.ext; show p.val * 64 + l.val % 64 = l.val; omega
  · intro d _; apply Fin.ext; show (p.val * 64 + d.val) % 64 = d.val; omega
  · intro l hl; simp only [Finset.mem_filter, Finset.mem_univ, true_and] at hl
    congr 1; apply Fin.ext; show l.val = p.val * 64 + l.val % 64; omega

/-- The mask as the kernel asks it: block 0 sees nothing before itself. -/
theorem seen_eq (n : Fin 16) (i : Fin 128) (j : Fin 256) :
    IntOp.andi (IntOp.andi (IntOp.cmpi .sge (dist i j) 0#32) (IntOp.cmpi .slt (dist i j) 128#32))
      (IntOp.ori (IntOp.cmpi .sgt (BitVec.ofNat 32 n.val) 0#32) (IntOp.cmpi .sge (BitVec.ofNat 32 j.val) 128#32)) = seen n i j := by
  have h : ∀ (n : Fin 16) (j : Fin 256), IntOp.ori (IntOp.cmpi .sgt (BitVec.ofNat 32 n.val) 0#32) (IntOp.cmpi .sge (BitVec.ofNat 32 j.val) 128#32)
    = ~~~IntOp.andi (IntOp.cmpi .eq (BitVec.ofNat 32 n.val) 0#32) (IntOp.cmpi .slt (BitVec.ofNat 32 j.val) 128#32) := by decide +kernel
  unfold seen
  rw [h]

/-- Before the first block there is nothing to see. -/
theorem seen_first (n : Fin 16) (i : Fin 128) (j : Fin 256) (hn : n.val = 0) (hj : j.val < 128) : seen n i j = 0#1 := by
  have h : ∀ j : Fin 256, j.val < 128 → ~~~IntOp.andi (IntOp.cmpi .eq (BitVec.ofNat 32 0) 0#32) (IntOp.cmpi .slt (BitVec.ofNat 32 j.val) 128#32) = 0#1 := by
    decide +kernel
  unfold seen
  rw [hn, h j hj]
  exact BitVec.and_zero

/-- A distance, cut at 0, is one of 256. -/
theorem dist_cut (i : Fin 128) (j : Fin 256) : ∃ k : Fin 256, IntOp.maxsi (dist i j) 0#32 = BitVec.ofNat 32 k.val := by
  have h : ∀ d : Fin 384, ∃ k : Fin 256, IntOp.maxsi (IntOp.subi (BitVec.ofNat 32 d.val) 128#32) 0#32 = BitVec.ofNat 32 k.val := by
    decide +kernel
  have e : dist i j = IntOp.subi (BitVec.ofNat 32 (128 + 128 + i.val - j.val)) 128#32 := by
    unfold dist IntOp.subi IntOp.addi
    apply BitVec.eq_of_toNat_eq
    simp only [BitVec.toNat_sub, BitVec.toNat_add, BitVec.toNat_ofNat]
    omega
  rw [e]
  exact h ⟨128 + 128 + i.val - j.val, by omega⟩

/-- The bucket of such a distance is one of 32. -/
theorem bucketOf_lt (k : Fin 256) : ∃ b : Fin 32, bucketOf (BitVec.ofNat 32 k.val) = BitVec.ofNat 32 b.val := by
  have h1 : ∀ k : Fin 256, IntOp.cmpi .slt (BitVec.ofNat 32 k.val) 16#32 = if k.val < 16 then 1#1 else 0#1 := by decide +kernel
  have h2 : ∀ k : Fin 256, 16 ≤ k.val → IntOp.maxsi (BitVec.ofNat 32 k.val) 1#32 = BitVec.ofNat 32 k.val
      ∧ (BitVec.ofNat 32 k.val).toInt = (k.val : ℤ) := by decide +kernel
  have h3 : ∀ f : Fin 121, ∃ b : Fin 32, IntOp.minsi (IntOp.addi 16#32 (BitVec.ofNat 32 f.val)) 31#32 = BitVec.ofNat 32 b.val := by
    decide +kernel
  unfold bucketOf Scalar.select
  rw [h1]
  by_cases hk : k.val < 16
  · rw [if_pos hk, if_pos (show (1#1 : BitVec 1) = 1 from rfl)]; exact ⟨⟨k.val, by omega⟩, rfl⟩
  rw [if_neg hk, if_neg (show ¬(0#1 : BitVec 1) = 1 by decide), (h2 k (by omega)).1]
  have hx : (FloatOps.sitofp (F := Ideal) .f32 (BitVec.ofNat 32 k.val)) = ((k.val : ℝ) : EReal) := by
    show (((BitVec.ofNat 32 k.val).toInt : ℝ) : EReal) = _
    rw [(h2 k (by omega)).2]; norm_cast
  have hk16 : (16 : ℝ) ≤ k.val := by exact_mod_cast not_lt.1 hk
  have hk256 : (k.val : ℝ) ≤ 256 := by exact_mod_cast k.isLt.le
  have hq : (1 : ℝ) ≤ k.val / 16 := by rw [le_div_iff₀ (by norm_num)]; linarith
  have hl0 : 0 ≤ Real.log (k.val / 16 : ℝ) := Real.log_nonneg hq
  have hl1 : Real.log (k.val / 16 : ℝ) ≤ 15 := by
    have := Real.log_le_sub_one_of_pos (show (0 : ℝ) < k.val / 16 by linarith)
    have : (k.val / 16 : ℝ) ≤ 16 := by rw [div_le_iff₀ (by norm_num)]; linarith
    linarith
  rw [hx, cSixteen, cLog8, div_real _ (by norm_num : (16 : ℝ) ≠ 0), Ideal.log_coe, if_neg (by linarith),
    div_real _ (by norm_num), ← EReal.coe_mul]
  set y : ℝ := Real.log (k.val / 16) / (8721810 / 4194304) * 16 with hy
  have hy0 : 0 ≤ y := by positivity
  have hy1 : y ≤ 120 := by
    rw [hy, div_mul_eq_mul_div, div_le_iff₀ (by norm_num)]; linarith
  have hf : FloatOps.fptosi (F := Ideal) (φ := .f32) 32 (y : EReal) = BitVec.ofNat 32 ⌊y⌋.toNat := by
    show BitVec.ofInt 32 (max _ (min _ (if 0 ≤ y then ⌊y⌋ else ⌈y⌉))) = _
    have h0 : (0 : ℤ) ≤ ⌊y⌋ := Int.floor_nonneg.2 hy0
    have h120 : ⌊y⌋ ≤ 120 := by
      have := Int.floor_le y
      exact_mod_cast (this.trans hy1)
    rw [if_pos hy0, min_eq_right (by norm_num; omega), max_eq_right (by norm_num; omega)]
    obtain ⟨m, hm⟩ := Int.eq_ofNat_of_zero_le h0
    rw [hm]; rfl
  rw [hf]
  have h120 : ⌊y⌋ ≤ 120 := by
    have := Int.floor_le y
    exact_mod_cast (this.trans hy1)
  exact h3 ⟨⌊y⌋.toNat, by omega⟩

/-- So is the bucket of two positions. -/
theorem bucket_lt (i : Fin 128) (j : Fin 256) : ∃ b : Fin 32, bucket i j = BitVec.ofNat 32 b.val := by
  obtain ⟨k, hk⟩ := dist_cut i j
  unfold bucket
  rw [hk]
  exact bucketOf_lt k

end Cert.MixFwd
end
-- ==== Proof.MixFwdHead.lean ====
module

public import proofs.«01_k».proof.Proof.MixFwdBlock
public import proofs.«01_k».proof.Proof.MixFwdEq
public import Idealize.ShloMosaic.Lib.Pipeline.ValueKit

/-!
# What one block of the forward mixer stores

A head's weights, share and values, and a group's gated half, as functions of the block's arguments and of the two
scratches, the head and the group being variables; read against the forward mixer written down.
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

/-- A block's arguments and scratches: its rows and the keys and values before them, the gain, the biases, the sinks,
    the bias of every head and the weights of every group, and its number. -/
structure Blk where
  x0 : Vec Ideal S128x1792 .f32
  x1 : Vec Ideal S128x256 .f32
  x2 : Vec Ideal S1x512 .f32
  x4 : Vec Ideal S128x4 .f32
  x5 : Vec Ideal S8 .f32
  bs : Vec Ideal S8x128x256 .f32
  ws : Vec Ideal S4x128x128 .bf16
  n : BitVec 32

variable (b : Blk)

/-- The block's own keys and values, and the queries of head `h`'s pair. -/
def ownKv : Vec Ideal S128x256 .f32 :=
  View.ld (Val := Elt Ideal) (e' := .f32) b.x0 (Rect.unit (s := S128x1792) ![0, 1536] ![128, 256] inb_S128x1792_S128x256_0_1536)
def qPair (h : Fin 8) : Vec Ideal S128x128 .f32 :=
  View.ld (Val := Elt Ideal) (e' := .f32) b.x0 (Rect.unit (s := S128x1792) ![0, 1024 + 128 * (h.val / 2)] ![128, 128]
    ((by decide : ∀ h : Fin 8, ∀ a, ![0, 1024 + 128 * (h.val / 2)] a + S128x128.size a ≤ S128x1792.size a) h))
/-- Keys and values with head `h`'s in its own half. -/
def keys (h : Fin 8) : FVec Ideal S256x128 .bf16 :=
  if h.val / 4 = h.val % 2 then k0_pay96 (F := Ideal) b.x1 (ownKv b) else k0_pay97 (F := Ideal) b.x1 (ownKv b)
def vals (h : Fin 8) : FVec Ideal S256x128 .bf16 :=
  if h.val / 4 = h.val % 2 then k0_pay98 (F := Ideal) (k0_pay95 (F := Ideal) b.x1 (ownKv b))
  else k0_pay99 (F := Ideal) (k0_pay95 (F := Ideal) b.x1 (ownKv b))
/-- Head `h`'s half, sink and bias. -/
def half (h : Fin 8) : BitVec 32 := BitVec.ofNat 32 (h.val % 2)
def sinkOf (h : Fin 8) : EReal :=
  View.ld (Val := Elt Ideal) (e' := .f32) b.x5 (Rect.unit (s := S8) ![h.val] ![1]
    ((by decide : ∀ h : Fin 8, ∀ a, ![h.val] a + S1.size a ≤ S8.size a) h)) (Shape.Idx.first (s := S1) (by decide))
def biasOf (h : Fin 8) : Vec Ideal S1x128x256 .f32 :=
  View.ld (Val := Elt Ideal) (e' := .f32) b.bs (Rect.unit (s := S8x128x256) ![h.val, 0, 0] ![1, 128, 256]
    ((by decide : ∀ h : Fin 8, ∀ a, ![h.val, 0, 0] a + S1x128x256.size a ≤ S8x128x256.size a) h))
/-- Head `h`'s logits, weights, share and values. -/
def headLogits (h : Fin 8) : FVec Ideal S128x256 .f32 :=
  logits (keys b h) (k0_pay100 b.n) k0_pay101 (half h) (qPair b h) (biasOf b h)
def headWeights (h : Fin 8) : FVec Ideal S128x256 .f32 := weights (headLogits b h) (sinkOf b h)
def headShare (h : Fin 8) : FVec Ideal S128x1 .f32 := sinkShare (headLogits b h) (sinkOf b h)
def headVals (h : Fin 8) : FVec Ideal S128x128 .f32 := headOut (headWeights b h) (vals b h) k0_pay101 (half h)
/-- A pair's values. -/
def pairVals (p : Fin 4) : FVec Ideal S128x128 .f32 :=
  addf (addf (broadcast S128x128 (Scalar.ofBits .f32 0x00000000#32)) (headVals b ⟨2 * p.val, by omega⟩)) (headVals b ⟨2 * p.val + 1, by omega⟩)
/-- The shares of the first `k` heads, in their lanes. -/
def shares : ℕ → FVec Ideal S128x128 .f32
  | 0 => broadcast S128x128 (Scalar.ofBits .f32 0x00000000#32)
  | k + 1 => shareIn (iota .tc S1x128 32 [1] iota_S1x128_d1_w32) (BitVec.ofNat 32 k)
      (headShare b (if h : k < 8 then ⟨k, h⟩ else 0)) (shares k)

/-- The gelu of the gate's half, -/
def geluB : FVec Ideal S128x1024 .f32 := k0_pay83 (F := Ideal)
  (View.ld (Val := Elt Ideal) (e' := .f32) b.x0 (Rect.unit (s := S128x1792) ![0, 0] ![128, 1024] inb_S128x1792_S128x1024_0_0))
/-- and a group's gated half. -/
def gate (u v : FVec Ideal S128x128 .f32) (gain : Vec Ideal S1x128 .f32) (w : Vec Ideal S1x128x128 .bf16) (bias : Vec Ideal S128x1 .f32) :
    FVec Ideal S128x128 .f32 :=
  mulf u (addf (matmul dot_S128x128_S128x128_S128x128_1_0_0_1_n_n none (φ₁ := .bf16) (shapeCast (α := Ideal .bf16) S128x128 w shapeCasts_S1x128x128_S128x128)
    (truncf .bf16 (mulf (mulf v (broadcastTo S128x128 (rsqrt (addf (divf (shapeCast S128x1
        (multiReduction .add [1] S128 (mulf v v) 0x00000000#32 reduces_S128x128_S128 (.inl rfl) rfl) shapeCasts_S128_S128x1)
        (broadcast S128x1 (Scalar.ofBits .f32 0x43000000#32))) (broadcast S128x1 (Scalar.ofBits .f32 0x358637BD#32)))) broadcasts_S128x1_S128x128))
      (broadcastTo S128x128 gain broadcasts_S1x128_S128x128)) bitsLt_bf16_f32) (constant S128x128 .f32 0x00000000#32))
    (broadcastTo S128x128 (shapeCast S128x1 bias shapeCasts_S128x1_S128x1) broadcasts_S128x1_S128x128))
def gateOf (g : Fin 4) : FVec Ideal S128x128 .f32 :=
  gate (extractStridedSlice S128x128 ![0, 128 * g.val] (geluB b) ((by decide : ∀ g : Fin 4, S128x1024.Slices ![0, 128 * g.val] S128x128) g))
    (extractStridedSlice S128x128 ![0, 512 + 128 * g.val] (geluB b) ((by decide : ∀ g : Fin 4, S128x1024.Slices ![0, 512 + 128 * g.val] S128x128) g))
    (View.ld (Val := Elt Ideal) (e' := .f32) b.x2 (Rect.unit (s := S1x512) ![0, 128 * g.val] ![1, 128]
      ((by decide : ∀ g : Fin 4, ∀ a, ![0, 128 * g.val] a + S1x128.size a ≤ S1x512.size a) g)))
    (View.ld (Val := Elt Ideal) (e' := .bf16) b.ws (Rect.unit (s := S4x128x128) ![g.val, 0, 0] ![1, 128, 128]
      ((by decide : ∀ g : Fin 4, ∀ a, ![g.val, 0, 0] a + S1x128x128.size a ≤ S4x128x128.size a) g)))
    (View.ld (Val := Elt Ideal) (e' := .f32) b.x4 (Rect.unit (s := S128x4) ![0, g.val] ![128, 1]
      ((by decide : ∀ g : Fin 4, ∀ a, ![0, g.val] a + S128x1.size a ≤ S128x4.size a) g)))

/-! ## Read at an index -/

theorem gate_at (u v : FVec Ideal S128x128 .f32) (gain : Vec Ideal S1x128 .f32) (w : Vec Ideal S1x128x128 .bf16) (bias : Vec Ideal S128x1 .f32)
    (i l : Fin 128) : gate u v gain w bias (ix2 i l) = u (ix2 i l) * (∑ x, (show FVec Ideal S1x128x128 .bf16 from w) (ix3 0 i x) * (v (ix2 x l)
      * Ideal.rsqrt (Ideal.div (∑ k, v (ix2 x k) * v (ix2 x k)) (Ideal.ofBits .f32 0x43000000#32) + Ideal.ofBits .f32 0x358637BD#32)
      * (show FVec Ideal S1x128 .f32 from gain) (ix2 0 l)) + (show FVec Ideal S128x1 .f32 from bias) (ix2 i 0)) := by
  pointwise [gate]

/-- A box of a two dimensional array, -/
theorem ld2 {A B a c : ℕ} (W : (⟨2, ![A, B]⟩ : Shape).Idx → EReal) (p q : ℕ) (inb) (i : Fin a) (l : Fin c) (hp : p + i.val < A) (hq : q + l.val < B) :
    View.ld (Val := fun _ => EReal) (e' := EltTy.f32) W (Rect.unit (s := ⟨2, ![A, B]⟩) ![p, q] ![a, c] inb) (ix2 i l)
      = W (ix2 ⟨p + i.val, hp⟩ ⟨q + l.val, hq⟩) := by
  refine congrArg W (funext fun x => Fin.ext ((Rect.idx_unit_val _ _ _ _ _).trans ?_))
  match x with
  | 0 => rfl
  | 1 => rfl
/-- and one layer of a three dimensional one. -/
theorem ld3 {A B C : ℕ} (W : (⟨3, ![A, B, C]⟩ : Shape).Idx → EReal) (p : ℕ) (inb) (i : Fin B) (l : Fin C) (hp : p < A) :
    View.ld (Val := fun _ => EReal) (e' := EltTy.f32) W (Rect.unit (s := ⟨3, ![A, B, C]⟩) ![p, 0, 0] ![1, B, C] inb) (ix3 0 i l)
      = W (ix3 ⟨p, hp⟩ i l) := by
  refine congrArg W (funext fun x => Fin.ext ((Rect.idx_unit_val _ _ _ _ _).trans ?_))
  match x with
  | 0 => rfl
  | 1 => exact Nat.zero_add _
  | 2 => exact Nat.zero_add _

/-- The lanes' halves. -/
theorem half_at (p : Fin 2) (l : Fin 128) :
    IntOp.cmpi .eq (k0_pay101 (ix2 0 l)) (BitVec.ofNat 32 p.val) = if l.val / 64 = p.val then 1#1 else 0#1 := by
  have h : k0_pay101 (ix2 0 l) = BitVec.ofNat 32 (l.val / 64) := by
    pointwise [k0_pay101]
    revert l
    decide +kernel
  rw [h]
  revert p l
  decide +kernel

/-- A select by a decided bit. -/
theorem select_ite {α : Type} (P : Prop) [Decidable P] (x y : α) : Scalar.select (if P then 1#1 else 0#1) x y = if P then x else y := by
  unfold Scalar.select
  by_cases h : P
  · rw [if_pos h, if_pos h]; rfl
  · rw [if_neg h, if_neg h]; rfl

theorem mask_at (a : BitVec 32) (i : Fin 128) (j : Fin 256) : k0_pay100 a (ix2 i j)
    = IntOp.andi (IntOp.andi (IntOp.cmpi .sge (dist i j) 0#32) (IntOp.cmpi .slt (dist i j) 128#32))
      (IntOp.ori (IntOp.cmpi .sgt a 0#32) (IntOp.cmpi .sge (BitVec.ofNat 32 j.val) 128#32)) := by
  pointwise [k0_pay100]; rfl

/-- Column `q` of the keys and values of position `j`. -/
def kvAt (j : Fin 256) (q : Fin 256) : EReal :=
  if h : j.val < 128 then b.x1 (ix2 ⟨j.val, h⟩ q) else b.x0 (ix2 ⟨j.val - 128, by omega⟩ ⟨1536 + q.val, by omega⟩)

theorem own_at (r : Fin 128) (q : Fin 256) : ownKv b (ix2 r q) = b.x0 (ix2 r ⟨1536 + q.val, by omega⟩) :=
  (ld2 _ 0 1536 _ r q (by omega) (by omega)).trans (congrArg b.x0 (congrArg (ix2 · _) (Fin.ext (Nat.zero_add _))))

theorem pick (c : Fin 128 → Fin 256 → EReal) (j : Fin 256) (l l' q : Fin 256) (h1 : l = q) (h2 : l' = q) :
    (if h : j.val < 128 then b.x1 (ix2 ⟨j.val, h⟩ l) else ownKv b (ix2 ⟨j.val - 128, by omega⟩ l')) = kvAt b j q := by
  subst h1 h2
  unfold kvAt
  by_cases h : j.val < 128
  · rw [dif_pos h, dif_pos h]
  · rw [dif_neg h, dif_neg h, own_at]

theorem keys_at (h : Fin 8) (j : Fin 256) (d : Fin 64) :
    keys b h (ix2 j ⟨h.val % 2 * 64 + d.val, by omega⟩) = kvAt b j ⟨h.val / 4 * 64 + d.val, by omega⟩ := by
  unfold keys
  by_cases hs : h.val / 4 = h.val % 2
  · rw [if_pos hs]
    have e : ∀ l : Fin 128, k0_pay96 (F := Ideal) b.x1 (ownKv b) (ix2 j l)
      = if h : j.val < 128 then b.x1 (ix2 ⟨j.val, h⟩ ⟨l.val, by omega⟩) else ownKv b (ix2 ⟨j.val - 128, by omega⟩ ⟨l.val, by omega⟩) := by
      intro l
      pointwise [k0_pay96, k0_pay94, k0_pay93]
    rw [e]
    exact pick b (fun _ _ => 0) j _ _ _ (Fin.ext (by show h.val % 2 * 64 + d.val = h.val / 4 * 64 + d.val; omega)) (Fin.ext (by show h.val % 2 * 64 + d.val = h.val / 4 * 64 + d.val; omega))
  · rw [if_neg hs]
    have e : ∀ l : Fin 128, k0_pay97 (F := Ideal) b.x1 (ownKv b) (ix2 j l)
      = if h : j.val < 128 then b.x1 (ix2 ⟨j.val, h⟩ ⟨(l.val + 128 - 64) % 128, by omega⟩)
        else ownKv b (ix2 ⟨j.val - 128, by omega⟩ ⟨(l.val + 128 - 64) % 128, by omega⟩) := by
      intro l
      pointwise [k0_pay97, k0_pay94, k0_pay93]
    rw [e]
    exact pick b (fun _ _ => 0) j _ _ _ (Fin.ext (by show (h.val % 2 * 64 + d.val + 128 - 64) % 128 = h.val / 4 * 64 + d.val; omega))
      (Fin.ext (by show (h.val % 2 * 64 + d.val + 128 - 64) % 128 = h.val / 4 * 64 + d.val; omega))

theorem vals_at (h : Fin 8) (j : Fin 256) (d : Fin 64) :
    vals b h (ix2 j ⟨h.val % 2 * 64 + d.val, by omega⟩) = kvAt b j ⟨128 + (h.val / 4 * 64 + d.val), by omega⟩ := by
  unfold vals
  by_cases hs : h.val / 4 = h.val % 2
  · rw [if_pos hs]
    have e : ∀ l : Fin 128, k0_pay98 (F := Ideal) (k0_pay95 (F := Ideal) b.x1 (ownKv b)) (ix2 j l)
      = if h : j.val < 128 then b.x1 (ix2 ⟨j.val, h⟩ ⟨128 + l.val, by omega⟩) else ownKv b (ix2 ⟨j.val - 128, by omega⟩ ⟨128 + l.val, by omega⟩) := by
      intro l
      pointwise [k0_pay98, k0_pay95, k0_pay93]
    rw [e]
    exact pick b (fun _ _ => 0) j _ _ _ (Fin.ext (by show 128 + (h.val % 2 * 64 + d.val) = 128 + (h.val / 4 * 64 + d.val); omega))
      (Fin.ext (by show 128 + (h.val % 2 * 64 + d.val) = 128 + (h.val / 4 * 64 + d.val); omega))
  · rw [if_neg hs]
    have e : ∀ l : Fin 128, k0_pay99 (F := Ideal) (k0_pay95 (F := Ideal) b.x1 (ownKv b)) (ix2 j l)
      = if h : j.val < 128 then b.x1 (ix2 ⟨j.val, h⟩ ⟨128 + (l.val + 128 - 64) % 128, by omega⟩)
        else ownKv b (ix2 ⟨j.val - 128, by omega⟩ ⟨128 + (l.val + 128 - 64) % 128, by omega⟩) := by
      intro l
      pointwise [k0_pay99, k0_pay95, k0_pay93]
    rw [e]
    exact pick b (fun _ _ => 0) j _ _ _ (Fin.ext (by show 128 + (h.val % 2 * 64 + d.val + 128 - 64) % 128 = 128 + (h.val / 4 * 64 + d.val); omega))
      (Fin.ext (by show 128 + (h.val % 2 * 64 + d.val + 128 - 64) % 128 = 128 + (h.val / 4 * 64 + d.val); omega))

theorem q_at (h : Fin 8) (i : Fin 128) (d : Fin 64) : qPair b h (ix2 i ⟨h.val % 2 * 64 + d.val, by omega⟩) = b.x0 (ix2 i (qcol h d)) :=
  (ld2 _ 0 (1024 + 128 * (h.val / 2)) _ i (⟨h.val % 2 * 64 + d.val, by omega⟩ : Fin 128) (by omega) (by show _ + (h.val % 2 * 64 + d.val) < _; omega)).trans
    (congrArg b.x0 (congrArg₂ ix2 (Fin.ext (Nat.zero_add _))
      (Fin.ext (by show 1024 + 128 * (h.val / 2) + (h.val % 2 * 64 + d.val) = 1024 + (h.val * 64 + d.val); omega))))

theorem bias_at (h : Fin 8) (i : Fin 128) (j : Fin 256) : biasOf b h (ix3 0 i j) = b.bs (ix3 h i j) := ld3 _ h.val _ i j h.isLt

theorem sink_at (h : Fin 8) : sinkOf b h = b.x5 (ix1 h) := by
  refine congrArg b.x5 (funext fun x => Fin.ext ((Rect.idx_unit_val _ _ _ _ _).trans ?_))
  match x with
  | 0 => rfl

/-- The mask's name is −∞. -/
theorem masked : Named.named (F := Ideal) (φ := .f32) κ "masked" 0xF149F2CA#32 = (⊥ : EReal) := rfl

theorem headLogits_at (h : Fin 8) (i : Fin 128) (j : Fin 256) : headLogits b h (ix2 i j) = Scalar.select (k0_pay100 b.n (ix2 i j))
    ((∑ d, b.x0 (ix2 i (qcol h d)) * kvAt b j ⟨h.val / 4 * 64 + d.val, by omega⟩) * Ideal.ofBits .f32 0x3E000000#32 + b.bs (ix3 h i j)) ⊥ := by
  unfold headLogits
  rw [logits_at, masked, bias_at]
  refine congrArg (fun z : EReal => Scalar.select (k0_pay100 b.n (ix2 i j)) (z * Ideal.ofBits .f32 0x3E000000#32 + b.bs (ix3 h i j)) (⊥ : EReal)) ?_
  refine Eq.trans ?_ ((sum_half ⟨h.val % 2, by omega⟩ fun l => qPair b h (ix2 i l) * keys b h (ix2 j l)).trans ?_)
  · refine Finset.sum_congr rfl fun l _ => ?_
    rw [show half h = BitVec.ofNat 32 (⟨h.val % 2, by omega⟩ : Fin 2).val from rfl, half_at, select_ite]
  · exact Finset.sum_congr rfl fun d _ => congrArg₂ (· * ·) (q_at b h i d) (keys_at b h j d)

/-! ## Read against the mixer written down -/

/-- What block `n`'s arguments and scratches hold. -/
structure Holds (a : Args) (n : Fin 16) : Prop where
  x0 : ∀ i l, b.x0 (ix2 i l) = a.z (row n i) l
  x1 : ∀ (i : Fin 128) (l : Fin 256), b.x1 (ix2 i l) = a.z ⟨(n.val - 1) * 128 + i.val, by omega⟩ ⟨1536 + l.val, by omega⟩
  x2 : ∀ l, b.x2 (ix2 0 l) = a.gain l
  x4 : ∀ i g, b.x4 (ix2 i g) = a.b g i
  x5 : ∀ h, b.x5 (ix1 h) = a.sink h
  bs : ∀ h i j, b.bs (ix3 h i j) = a.tab ⟨min (bucket i j).toNat 31, by omega⟩ h
  ws : ∀ g i k, b.ws (ix3 g i k) = wtril a g i k
  n : b.n = BitVec.ofNat 32 n.val

variable {b} {a : Args} {n : Fin 16} (hb : Holds b a n)
include hb

/-- A position seen, or any after the first block, has its keys and values in the stream. -/
theorem kv_eq (j : Fin 256) (q : Fin 256) (hj : ¬(n.val = 0 ∧ j.val < 128)) :
    kvAt b j q = a.z (past n j) ⟨1536 + q.val, by omega⟩ := by
  unfold kvAt past
  by_cases h : j.val < 128
  · rw [dif_pos h, hb.x1]
    exact congrArg (a.z · _) (Fin.ext (by show (n.val - 1) * 128 + j.val = n.val * 128 + j.val - 128; omega))
  · rw [dif_neg h, hb.x0]
    exact congrArg (a.z · _) (Fin.ext (by show n.val * 128 + (j.val - 128) = n.val * 128 + j.val - 128; omega))

/-- The logits are the mixer's, -/
theorem headLogits_eq (h : Fin 8) (i : Fin 128) (j : Fin 256) : headLogits b h (ix2 i j) = logit a n h i j := by
  rw [headLogits_at, mask_at, hb.n, seen_eq]
  unfold logit
  by_cases hj : n.val = 0 ∧ j.val < 128
  · rw [seen_first n i j hj.1 hj.2]; rfl
  · rw [hb.bs]
    refine congrArg (fun z => Scalar.select _ (z * _ + _) _) (Finset.sum_congr rfl fun d _ => congrArg₂ (· * ·) (hb.x0 i _) ?_)
    exact kv_eq hb j _ hj

theorem top_eq (h : Fin 8) (i : Fin 128) : top (headLogits b h) (sinkOf b h) (ix2 i 0) = topOf (logit a n h i) (a.sink h) := by
  rw [top_at, sink_at, hb.x5, cNegInf]
  exact congrArg (fun f => max (Finset.fold max ⊥ f Finset.univ) _) (funext fun j => headLogits_eq hb h i j)
theorem expo_eq (h : Fin 8) (i : Fin 128) (j : Fin 256) :
    expo (headLogits b h) (sinkOf b h) (ix2 i j) = num (logit a n h i) (a.sink h) j := by
  rw [expo_at, top_eq hb, headLogits_eq hb]; rfl
theorem expoSink_eq (h : Fin 8) (i : Fin 128) :
    expoSink (headLogits b h) (sinkOf b h) (ix2 i 0) = numSink (logit a n h i) (a.sink h) := by
  rw [expoSink_at, top_eq hb, sink_at, hb.x5]; rfl
theorem overSum_eq (h : Fin 8) (i : Fin 128) :
    overSum (headLogits b h) (sinkOf b h) (ix2 i 0) = Ideal.div 1 (den (logit a n h i) (a.sink h)) := by
  rw [overSum_at, expoSink_eq hb]
  simp only [expo_eq hb]; rfl

/-! ### The gate -/

/-- The gelu, -/
theorem geluB_eq (i : Fin 128) (y : Fin 1024) : geluB b (ix2 i y) = guv a (row n i) y := by
  have e : ∀ v : Vec Ideal S128x1024 .f32, k0_pay83 (F := Ideal) v (ix2 i y) = gelu (v (ix2 i y)) := by
    intro v
    pointwise [k0_pay83, k0_pay82, k0_pay81]
    rfl
  refine (e _).trans (congrArg gelu ((ld2 _ 0 0 _ i y (by omega) (by omega)).trans ?_))
  rw [hb.x0]
  exact congrArg₂ a.z (Fin.ext (by show n.val * 128 + (0 + i.val) = n.val * 128 + i.val; omega)) (Fin.ext (Nat.zero_add _))
/-- its slope -/
theorem slopeB_eq (i : Fin 128) (y : Fin 1024) : k0_pay85 (F := Ideal)
    (View.ld (Val := Elt Ideal) (e' := .f32) b.x0 (Rect.unit (s := S128x1792) ![0, 0] ![128, 1024] inb_S128x1792_S128x1024_0_0)) (ix2 i y)
    = slope (a.z (row n i) ⟨y.val, by omega⟩) := by
  have e : ∀ v : Vec Ideal S128x1024 .f32, k0_pay85 (F := Ideal) v (ix2 i y) = slope (v (ix2 i y)) := by
    intro v
    pointwise [k0_pay85, k0_pay82, k0_pay81]
    rfl
  refine (e _).trans (congrArg slope ((ld2 _ 0 0 _ i y (by omega) (by omega)).trans ?_))
  rw [hb.x0]
  exact congrArg₂ a.z (Fin.ext (by show n.val * 128 + (0 + i.val) = n.val * 128 + i.val; omega)) (Fin.ext (Nat.zero_add _))
/-- and a gated group. -/
theorem gateOf_eq (g : Fin 4) (i l : Fin 128) : gateOf b g (ix2 i l) = gated a n i g l := by
  have hu : ∀ i l : Fin 128, extractStridedSlice S128x128 ![0, 128 * g.val] (geluB b)
      ((by decide : ∀ g : Fin 4, S128x1024.Slices ![0, 128 * g.val] S128x128) g) (ix2 i l) = guv a (row n i) ⟨g.val * 128 + l.val, by omega⟩ := by
    intro i l
    pointwise
    refine (geluB_eq hb i _).trans (congrArg (guv a _) (Fin.ext ?_))
    show 128 * g.val + l.val = g.val * 128 + l.val
    omega
  have hv : ∀ i l : Fin 128, extractStridedSlice S128x128 ![0, 512 + 128 * g.val] (geluB b)
      ((by decide : ∀ g : Fin 4, S128x1024.Slices ![0, 512 + 128 * g.val] S128x128) g) (ix2 i l) = vpart a (row n i) g l := by
    intro i l
    pointwise
    refine (geluB_eq hb i _).trans (congrArg (guv a _) (Fin.ext ?_))
    show 512 + 128 * g.val + l.val = 512 + (g.val * 128 + l.val)
    omega
  unfold gateOf gated
  rw [gate_at, hu]
  refine congrArg₂ (fun p q => _ * (p + q)) (Finset.sum_congr rfl fun k _ => congrArg₂ (· * ·) ?_ ?_) ?_
  · exact (ld3 _ g.val _ i k g.isLt).trans (hb.ws g i k)
  · unfold vnorm
    simp only [hv]
    refine congrArg (fun q => _ * q) ((ld2 _ 0 (128 * g.val) _ (0 : Fin 1) l (by decide) (by omega)).trans ?_)
    refine Eq.trans ?_ (hb.x2 _)
    exact congrArg b.x2 (congrArg₂ ix2 (Fin.ext rfl) (Fin.ext (by show 128 * g.val + l.val = g.val * 128 + l.val; omega)))
  · refine (ld2 _ 0 g.val _ i (0 : Fin 1) (by omega) (by show g.val + 0 < 4; omega)).trans (Eq.trans ?_ (hb.x4 i g))
    exact congrArg b.x4 (congrArg₂ ix2 (Fin.ext (Nat.zero_add _)) (Fin.ext rfl))

/-! ### The attention -/

variable (hz : ∀ r l, IsReal (a.z r l)) (hs : ∀ h, IsReal (a.sink h)) (ht : ∀ k h, IsReal (a.tab k h))
include hz hs ht

/-- so are the weights, -/
theorem headWeights_eq (h : Fin 8) (i : Fin 128) (j : Fin 256) : headWeights b h (ix2 i j) = weight a n h i j := by
  unfold headWeights weight
  rw [weights_at, overSum_eq hb, expo_eq hb, mul_over (fun j => logit_lt hz ht n h i j) (hs h)]
/-- the sink's share -/
theorem headShare_eq (h : Fin 8) (i : Fin 128) : headShare b h (ix2 i 0) = share a n h i := by
  unfold headShare share
  rw [sinkShare_at, overSum_eq hb, expoSink_eq hb, mul_over (fun j => logit_lt hz ht n h i j) (hs h)]
/-- and the values, in the head's half; the other half holds zeros. -/
theorem headVals_in (h : Fin 8) (i : Fin 128) (d : Fin 64) :
    headVals b h (ix2 i ⟨h.val % 2 * 64 + d.val, by omega⟩) = values a n h i d := by
  unfold headVals values
  rw [headOut_at]
  refine Finset.sum_congr rfl fun j _ => ?_
  rw [show half h = BitVec.ofNat 32 (⟨h.val % 2, by omega⟩ : Fin 2).val from rfl, half_at, select_ite,
    if_pos (by show (h.val % 2 * 64 + d.val) / 64 = h.val % 2; omega), headWeights_eq hb hz hs ht, vals_at]
  by_cases hj : n.val = 0 ∧ j.val < 128
  · have h0 : logit a n h i j = ⊥ := by unfold logit; rw [seen_first n i j hj.1 hj.2]; rfl
    have hw : weight a n h i j = 0 := by
      unfold weight
      rw [num_bot (fun j => logit_lt hz ht n h i j) (hs h) h0, div_zero_num (fun j => logit_lt hz ht n h i j) (hs h)]
    rw [hw, zero_mul, zero_mul]
  · rw [kv_eq hb j _ hj]
    exact congrArg (fun q => _ * a.z _ q) (Fin.ext (by
      show 1536 + (128 + (h.val / 4 * 64 + d.val)) = 1664 + (h.val / 4 * 64 + d.val); omega))
omit hb hz hs ht in
theorem headVals_out (h : Fin 8) (i l : Fin 128) (hl : ¬l.val / 64 = h.val % 2) : headVals b h (ix2 i l) = 0 := by
  unfold headVals
  rw [headOut_at]
  refine Finset.sum_eq_zero fun j _ => ?_
  rw [show half h = BitVec.ofNat 32 (⟨h.val % 2, by omega⟩ : Fin 2).val from rfl, half_at, select_ite, if_neg hl]

/-- A pair's values, lane by lane. -/
theorem pairVals_eq (p : Fin 4) (i l : Fin 128) :
    pairVals b p (ix2 i l) = values a n ⟨2 * p.val + l.val / 64, by omega⟩ i ⟨l.val % 64, by omega⟩ := by
  have e : pairVals b p (ix2 i l)
      = Ideal.ofBits .f32 0x00000000#32 + headVals b ⟨2 * p.val, by omega⟩ (ix2 i l) + headVals b ⟨2 * p.val + 1, by omega⟩ (ix2 i l) := rfl
  rw [e, cZero, zero_add]
  by_cases hl : l.val / 64 = 0
  · rw [headVals_out ⟨2 * p.val + 1, by omega⟩ i l (by show ¬l.val / 64 = (2 * p.val + 1) % 2; omega), add_zero]
    rw [← headVals_in hb hz hs ht]
    exact congrArg₂ (headVals b) (Fin.ext (by show 2 * p.val = 2 * p.val + l.val / 64; omega))
      (congrArg (ix2 i) (Fin.ext (by show l.val = (2 * p.val + l.val / 64) % 2 * 64 + l.val % 64; omega)))
  · rw [headVals_out ⟨2 * p.val, by omega⟩ i l (by show ¬l.val / 64 = (2 * p.val) % 2; omega), zero_add]
    rw [← headVals_in hb hz hs ht]
    exact congrArg₂ (headVals b) (Fin.ext (by show 2 * p.val + 1 = 2 * p.val + l.val / 64; omega))
      (congrArg (ix2 i) (Fin.ext (by show l.val = (2 * p.val + l.val / 64) % 2 * 64 + l.val % 64; omega)))

/-- The shares in their lanes. -/
theorem shares_eq (i l : Fin 128) (k : ℕ) (hk : k ≤ 8) :
    shares b k (ix2 i l) = if h : l.val < k then share a n ⟨l.val, by omega⟩ i else 0 := by
  induction k with
  | zero => exact cZero
  | succ k ih =>
    have hl : IntOp.cmpi .eq (iota .tc S1x128 32 [1] iota_S1x128_d1_w32 (ix2 0 l)) (BitVec.ofNat 32 k) = if l.val = k then 1#1 else 0#1 := by
      pointwise
      have hd : ∀ (l : Fin 128) (k : Fin 8), IntOp.cmpi .eq (BitVec.ofNat 32 l.val) (BitVec.ofNat 32 k.val) = if l.val = k.val then 1#1 else 0#1 := by
        decide +kernel
      exact hd l ⟨k, by omega⟩
    unfold shares
    rw [shareIn_at, hl, select_ite, ih (by omega)]
    by_cases hlk : l.val = k
    · rw [if_pos hlk, dif_pos (show k < 8 by omega), headShare_eq hb hz hs ht, dif_pos (show l.val < k + 1 by omega)]
      exact congrArg (share a n · i) (Fin.ext hlk.symm)
    · rw [if_neg hlk]
      by_cases hlt : l.val < k
      · rw [dif_pos hlt, dif_pos (by omega)]
      · rw [dif_neg hlt, dif_neg (by omega)]

end Cert.MixerFwdIdeal.Block
-- ==== Proof.MixFwdTiles.lean ====
module

public import proofs.«01_k».proof.Proof.MixFwdHead
public import proofs.«01_k».proof.Proof.Gen.MixerFwdIdeal.Value
public import Idealize.ShloMosaic.Lib.Pipeline.ReadBack

/-!
# The tiles of one block, at the indices they hold

Each result of a block is stored tile by tile; a tile's value at an index it holds is the same function of the index for
every tile.
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

variable (b : Blk)

/-- A head's weights, -/
theorem weights_tile (h : Fin 8) (y : S1x8x128x256.Idx) : View.TileAt (Val := Elt Ideal) (e := .bf16) y ![0, h.val, 0, 0] ![1, 1, 128, 256]
    (shapeCast S1x1x128x256 (truncf .bf16 (headWeights b h) bitsLt_bf16_f32) shapeCasts_S128x256_S1x1x128x256)
    (headWeights b (y 1) (ix2 (y 2) (y 3))) := by
  intro x hx
  have e1 : (y 1).val = h.val + (x 1).val := hx 1
  have e2 : (y 2).val = 0 + (x 2).val := hx 2
  have e3 : (y 3).val = 0 + (x 3).val := hx 3
  have l0 : (x 0).val < 1 := (x 0).isLt
  have l1 : (x 1).val < 1 := (x 1).isLt
  have hxx : x = (ix4 0 0 (x 2) (x 3) : S1x1x128x256.Idx) :=
    (eq_ix4 x).trans (congrArg₂ (fun p q => ix4 p q (x 2) (x 3)) (Fin.ext (by show (x 0).val = 0; omega)) (Fin.ext (by show (x 1).val = 0; omega)))
  have e : ∀ i j, shapeCast S1x1x128x256 (truncf (F := Ideal) .bf16 (headWeights b h) bitsLt_bf16_f32) shapeCasts_S128x256_S1x1x128x256 (ix4 0 0 i j)
      = headWeights b h (ix2 i j) := by intro i j; pointwise
  refine (congrArg _ hxx).trans ((e (x 2) (x 3)).trans ?_)
  exact congrArg₂ (fun k q => headWeights b k q) (Fin.ext (by show h.val = (y 1).val; omega))
    (congrArg₂ ix2 (Fin.ext (by show (x 2).val = (y 2).val; omega)) (Fin.ext (by show (x 3).val = (y 3).val; omega)))

/-- their transpose, -/
theorem weightsT_tile (h : Fin 8) (y : S1x8x256x128.Idx) : View.TileAt (Val := Elt Ideal) (e := .bf16) y ![0, h.val, 0, 0] ![1, 1, 256, 128]
    (shapeCast S1x1x256x128 (truncf .bf16 (transpose S256x128 [1, 0] (headWeights b h) transposes_S128x256_p1_0_S256x128) bitsLt_bf16_f32)
      shapeCasts_S256x128_S1x1x256x128)
    (headWeights b (y 1) (ix2 (y 3) (y 2))) := by
  intro x hx
  have e1 : (y 1).val = h.val + (x 1).val := hx 1
  have e2 : (y 2).val = 0 + (x 2).val := hx 2
  have e3 : (y 3).val = 0 + (x 3).val := hx 3
  have l0 : (x 0).val < 1 := (x 0).isLt
  have l1 : (x 1).val < 1 := (x 1).isLt
  have hxx : x = (ix4 0 0 (x 2) (x 3) : S1x1x256x128.Idx) :=
    (eq_ix4 x).trans (congrArg₂ (fun p q => ix4 p q (x 2) (x 3)) (Fin.ext (by show (x 0).val = 0; omega)) (Fin.ext (by show (x 1).val = 0; omega)))
  have e : ∀ i j, shapeCast S1x1x256x128 (truncf (F := Ideal) .bf16 (transpose S256x128 [1, 0] (headWeights b h) transposes_S128x256_p1_0_S256x128) bitsLt_bf16_f32)
      shapeCasts_S256x128_S1x1x256x128 (ix4 0 0 i j) = headWeights b h (ix2 j i) := by intro i j; pointwise
  refine (congrArg _ hxx).trans ((e (x 2) (x 3)).trans ?_)
  exact congrArg₂ (fun k q => headWeights b k q) (Fin.ext (by show h.val = (y 1).val; omega))
    (congrArg₂ ix2 (Fin.ext (by show (x 3).val = (y 3).val; omega)) (Fin.ext (by show (x 2).val = (y 2).val; omega)))

/-- The mixed columns: the gated groups, then the heads' values. -/
def mixB : FVec Ideal S128x1024 .f32 := fun y =>
  if (y 1).val < 512 then gateOf b ⟨(y 1).val / 128 % 4, Nat.mod_lt _ (by decide)⟩ (ix2 (y 0) ⟨(y 1).val % 128, Nat.mod_lt _ (by decide)⟩)
  else pairVals b ⟨((y 1).val - 512) / 128 % 4, Nat.mod_lt _ (by decide)⟩ (ix2 (y 0) ⟨(y 1).val % 128, Nat.mod_lt _ (by decide)⟩)

/-- A group's gated half, -/
theorem gate_tile (g : Fin 4) (y : S128x1024.Idx) : View.TileAt (Val := Elt Ideal) (e := .bf16) y ![0, 128 * g.val] ![128, 128]
    (shapeCast S128x128 (truncf .bf16 (gateOf b g) bitsLt_bf16_f32) shapeCasts_S128x128_S128x128) (mixB b y) := by
  intro x hx
  have e0 : (y 0).val = 0 + (x 0).val := hx 0
  have e1 : (y 1).val = 128 * g.val + (x 1).val := hx 1
  have l1 : (x 1).val < 128 := (x 1).isLt
  unfold mixB
  rw [if_pos (by omega)]
  refine (congrFun (shapeCast_self _ _) x).trans ?_
  show gateOf b g x = _
  refine (congrArg _ (eq_ix2 x)).trans ?_
  exact congrArg₂ (fun k q => gateOf b k q) (Fin.ext (by show g.val = (y 1).val / 128 % 4; omega))
    (congrArg₂ ix2 (Fin.ext (by show (x 0).val = (y 0).val; omega)) (Fin.ext (by show (x 1).val = (y 1).val % 128; omega)))
/-- and a pair's values. -/
theorem pair_tile (p : Fin 4) (y : S128x1024.Idx) : View.TileAt (Val := Elt Ideal) (e := .bf16) y ![0, 512 + 128 * p.val] ![128, 128]
    (shapeCast S128x128 (truncf .bf16 (pairVals b p) bitsLt_bf16_f32) shapeCasts_S128x128_S128x128) (mixB b y) := by
  intro x hx
  have e0 : (y 0).val = 0 + (x 0).val := hx 0
  have e1 : (y 1).val = 512 + 128 * p.val + (x 1).val := hx 1
  have l1 : (x 1).val < 128 := (x 1).isLt
  unfold mixB
  rw [if_neg (by omega)]
  refine (congrFun (shapeCast_self _ _) x).trans ?_
  show pairVals b p x = _
  refine (congrArg _ (eq_ix2 x)).trans ?_
  exact congrArg₂ (fun k q => pairVals b k q) (Fin.ext (by show p.val = ((y 1).val - 512) / 128 % 4; omega))
    (congrArg₂ ix2 (Fin.ext (by show (x 0).val = (y 0).val; omega)) (Fin.ext (by show (x 1).val = (y 1).val % 128; omega)))

/-- The stored tiles, the last first, and what they hold together. -/
def weightsPiece (h : Fin 8) : View.Piece (Elt Ideal) S1x8x128x256 .bf16 :=
  ⟨Rect.unit (s := S1x8x128x256) ![0, h.val, 0, 0] ![1, 1, 128, 256]
      ((by decide : ∀ h : Fin 8, ∀ a, ![0, h.val, 0, 0] a + S1x1x128x256.size a ≤ S1x8x128x256.size a) h),
    shapeCast S1x1x128x256 (truncf .bf16 (headWeights b h) bitsLt_bf16_f32) shapeCasts_S128x256_S1x1x128x256⟩
def weightsPieces : List (View.Piece (Elt Ideal) S1x8x128x256 .bf16) :=
  [weightsPiece b 7, weightsPiece b 6, weightsPiece b 5, weightsPiece b 4, weightsPiece b 3, weightsPiece b 2, weightsPiece b 1, weightsPiece b 0]

theorem weights_canon (y : S1x8x128x256.Idx) : View.canon (Val := Elt Ideal) (weightsPieces b) y = headWeights b (y 1) (ix2 (y 2) (y 3)) := by
  refine View.canon_eq_of_allAt _ y _ (View.cover_of_tiled_head _ _ _ rfl y) ?_
  iterate 8 refine View.allAt_cons_unit _ _ _ _ _ (weights_tile b _ y) ?_
  exact View.allAt_nil _ _

def weightsTPiece (h : Fin 8) : View.Piece (Elt Ideal) S1x8x256x128 .bf16 :=
  ⟨Rect.unit (s := S1x8x256x128) ![0, h.val, 0, 0] ![1, 1, 256, 128]
      ((by decide : ∀ h : Fin 8, ∀ a, ![0, h.val, 0, 0] a + S1x1x256x128.size a ≤ S1x8x256x128.size a) h),
    shapeCast S1x1x256x128 (truncf .bf16 (transpose S256x128 [1, 0] (headWeights b h) transposes_S128x256_p1_0_S256x128) bitsLt_bf16_f32)
      shapeCasts_S256x128_S1x1x256x128⟩
def weightsTPieces : List (View.Piece (Elt Ideal) S1x8x256x128 .bf16) :=
  [weightsTPiece b 7, weightsTPiece b 6, weightsTPiece b 5, weightsTPiece b 4, weightsTPiece b 3, weightsTPiece b 2, weightsTPiece b 1, weightsTPiece b 0]

theorem weightsT_canon (y : S1x8x256x128.Idx) : View.canon (Val := Elt Ideal) (weightsTPieces b) y = headWeights b (y 1) (ix2 (y 3) (y 2)) := by
  refine View.canon_eq_of_allAt _ y _ (View.cover_of_tiled_head _ _ _ rfl y) ?_
  iterate 8 refine View.allAt_cons_unit _ _ _ _ _ (weightsT_tile b _ y) ?_
  exact View.allAt_nil _ _

def gatePiece (g : Fin 4) : View.Piece (Elt Ideal) S128x1024 .bf16 :=
  ⟨Rect.unit (s := S128x1024) ![0, 128 * g.val] ![128, 128]
      ((by decide : ∀ g : Fin 4, ∀ a, ![0, 128 * g.val] a + S128x128.size a ≤ S128x1024.size a) g), shapeCast S128x128 (truncf .bf16 (gateOf b g) bitsLt_bf16_f32) shapeCasts_S128x128_S128x128⟩
def pairPiece (p : Fin 4) : View.Piece (Elt Ideal) S128x1024 .bf16 :=
  ⟨Rect.unit (s := S128x1024) ![0, 512 + 128 * p.val] ![128, 128]
      ((by decide : ∀ p : Fin 4, ∀ a, ![0, 512 + 128 * p.val] a + S128x128.size a ≤ S128x1024.size a) p), shapeCast S128x128 (truncf .bf16 (pairVals b p) bitsLt_bf16_f32) shapeCasts_S128x128_S128x128⟩
def mixPieces : List (View.Piece (Elt Ideal) S128x1024 .bf16) :=
  [pairPiece b 3, pairPiece b 2, pairPiece b 1, pairPiece b 0, gatePiece b 3, gatePiece b 2, gatePiece b 1, gatePiece b 0]

theorem mix_canon (y : S128x1024.Idx) : View.canon (Val := Elt Ideal) (mixPieces b) y = mixB b y := by
  refine View.canon_eq_of_allAt _ y _ (View.cover_of_tiled_head _ _ _ rfl y) ?_
  iterate 4 refine View.allAt_cons_unit _ _ _ _ _ (pair_tile b _ y) ?_
  iterate 4 refine View.allAt_cons_unit _ _ _ _ _ (gate_tile b _ y) ?_
  exact View.allAt_nil _ _

/-- What is read back of written boxes through a box is a load of what the boxes hold. -/
theorem readCov_ld {sp : Space} {s : Shape} {e : EltTy} (v : View sig .tc sp s e) (L : List (View.Piece (Elt Ideal) s e)) (r : Rect s) :
    v.readCov (Val := Elt Ideal) L r.toLoadRect = View.ld (Val := Elt Ideal) (View.canon (Val := Elt Ideal) L) r :=
  View.readCov_eq_canon' v L r.toLoadRect

end Cert.MixerFwdIdeal.Block
-- ==== Proof.MixFwdReads.lean ====
module

public import proofs.«01_k».proof.Proof.MixFwdHead
public import proofs.«01_k».proof.Proof.Gen.MixerFwdIdeal.Value

/-!
# What the forward mixer's blocks read
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

variable (m : (ℓ : Loc nD τ sig) → Buf (Elt Ideal) ℓ) (c : Dev nD) (t : Fin cfg0.N)

/-- The arguments in memory. -/
def args : Args where
  z r l := (show FVec Ideal S2048x1792 .f32 from m ((c : Thread nD τ).loc main_arg0)) (ix2 r l)
  gain l := (show FVec Ideal S1x512 .f32 from m ((c : Thread nD τ).loc main_arg1)) (ix2 0 l)
  ws g i k := (show FVec Ideal S1x4x128x128 .f32 from m ((c : Thread nD τ).loc main_arg2)) (ix4 0 g i k)
  b g i := (show FVec Ideal S1x4x128 .f32 from m ((c : Thread nD τ).loc main_arg3)) (ix3 0 g i)
  sink h := (show FVec Ideal S1x8 .f32 from m ((c : Thread nD τ).loc main_arg4)) (ix2 0 h)
  tab k h := (show FVec Ideal S32x8 .f32 from m ((c : Thread nD τ).loc main_arg5)) (ix2 k h)

/-- The windows' block indices at a point. -/
theorem idx : ∀ t : Fin cfg0.N, win0_0.index t = ![t.val, 0] ∧ win0_1.index t = ![t.val - 1, 6] ∧ win0_2.index t = ![0, 0]
    ∧ win0_3.index t = ![0, 0, 0] ∧ win0_4.index t = ![0, 0] ∧ win0_5.index t = ![0] ∧ win0_6.index t = ![0, 0]
    ∧ win0_7.index t = ![0, 0] ∧ win0_8.index t = ![t.val, 0] ∧ win0_9.index t = ![t.val, 0, 0, 0] ∧ win0_10.index t = ![t.val, 0, 0, 0]
    ∧ win0_11.index t = ![t.val, 0] ∧ win0_12.index t = ![t.val, 0] ∧ win0_13.index t = ![t.val, 0]
    ∧ t.val < 16 ∧ (grid0.coords t 0).val = t.val :=
  (by decide +kernel : ∀ t : Fin grid0.N, _)

/-- The block a point computes. -/
def blk (t : Fin cfg0.N) : Fin 16 := ⟨t.val, (idx t).2.2.2.2.2.2.2.2.2.2.2.2.2.2.1⟩

theorem read0 (i : Fin 128) (l : Fin 1792) : (show FVec Ideal S128x1792 .f32 from iblk m c 0 t) (ix2 i l) = (args m c).z (row (blk t) i) l := by
  unfold args
  blk_point [iblk, V, idx t, row, blk]
theorem read1 (i : Fin 128) (l : Fin 256) : (show FVec Ideal S128x256 .f32 from iblk m c 1 t) (ix2 i l)
    = (args m c).z ⟨((blk t).val - 1) * 128 + i.val, by omega⟩ ⟨1536 + l.val, by omega⟩ := by
  unfold args
  blk_point [iblk, V, idx t, blk]
theorem read2 (l : Fin 512) : (show FVec Ideal S1x512 .f32 from iblk m c 2 t) (ix2 0 l) = (args m c).gain l := by
  unfold args
  blk_point [iblk, V, idx t]
/-- The host's reshape of the spatial weights. -/
def hostWs : FVec Ideal S4x128x128 .f32 := shapeCast S4x128x128 (show FVec Ideal S1x4x128x128 .f32 from m ((c : Thread nD τ).loc main_arg2)) shapeCasts_S1x4x128x128_S4x128x128
/-- The host's transpose of the spatial biases. -/
def hostB : FVec Ideal S128x4 .f32 :=
  transpose S128x4 [1, 0] (shapeCast S4x128 (show FVec Ideal S1x4x128 .f32 from m ((c : Thread nD τ).loc main_arg3)) shapeCasts_S1x4x128_S4x128) transposes_S4x128_S128x4_1_0
/-- The host's reshape of the sinks. -/
def hostSink : FVec Ideal S8 .f32 := shapeCast S8 (show FVec Ideal S1x8 .f32 from m ((c : Thread nD τ).loc main_arg4)) shapeCasts_S1x8_S8

theorem host0 : V m c main_v0 = hostWs m c := by
  simp only [V, hostOps0, hostOps0_1, List.flatten_cons, List.flatten_nil, List.cons_append, List.nil_append, List.append_nil]
  after_results_simp <;> rfl
theorem host2 : V m c main_v2 = hostB m c := by
  simp only [V, hostOps0, hostOps0_1, List.flatten_cons, List.flatten_nil, List.cons_append, List.nil_append, List.append_nil]
  after_results_simp <;> rfl
theorem host3 : V m c main_v3 = hostSink m c := by
  simp only [V, hostOps0, hostOps0_1, List.flatten_cons, List.flatten_nil, List.cons_append, List.nil_append, List.append_nil]
  after_results_simp <;> rfl

theorem read3 (g : Fin 4) (i k : Fin 128) : (show FVec Ideal S4x128x128 .f32 from iblk m c 3 t) (ix3 g i k) = (args m c).ws g i k := by
  have he : ((cfg0.win 3).blk t).view.emb (ix3 g i k : S4x128x128.Idx) = (ix3 g i k : S4x128x128.Idx) := by
    blk_ext [idx t]
  refine (congrArg (V m c main_v0) he).trans ?_
  rw [host0]
  pointwise [hostWs, args]
theorem read4 (i : Fin 128) (g : Fin 4) : (show FVec Ideal S128x4 .f32 from iblk m c 4 t) (ix2 i g) = (args m c).b g i := by
  have he : ((cfg0.win 4).blk t).view.emb (ix2 i g : S128x4.Idx) = (ix2 i g : S128x4.Idx) := by
    blk_ext [idx t]
  refine (congrArg (V m c main_v2) he).trans ?_
  rw [host2]
  pointwise [hostB, args]
theorem read5 (h : Fin 8) : (show FVec Ideal S8 .f32 from iblk m c 5 t) (ix1 h) = (args m c).sink h := by
  have he : ((cfg0.win 5).blk t).view.emb (ix1 h : S8.Idx) = (ix1 h : S8.Idx) := by
    blk_ext [idx t]
  refine (congrArg (V m c main_v3) he).trans ?_
  rw [host3]
  pointwise [hostSink, args]
theorem read6 (k : Fin 32) (h : Fin 8) : (show FVec Ideal S32x8 .f32 from iblk m c 6 t) (ix2 k h) = (args m c).tab k h := by
  unfold args
  blk_point [iblk, V, idx t]
theorem read7 (i : Fin 128) (j : Fin 256) : (show IVec S128x256 32 from iblk m c 7 t) (ix2 i j) = bucket i j := by
  have he : ((cfg0.win 7).blk t).view.emb (ix2 i j : S128x256.Idx) = (ix2 i j : S128x256.Idx) := by
    blk_ext [idx t]
  refine (congrArg (V m c main_v32) he).trans ?_
  simp only [V, hostOps0, hostOps0_1, List.flatten_cons, List.flatten_nil, List.cons_append, List.nil_append, List.append_nil]
  after_results_simp
  pointwise
  rfl

end Cert.MixerFwdIdeal.Block
-- ==== Proof.MixFwdScratch.lean ====
module

public import proofs.«01_k».proof.Proof.MixFwdReads
public import Idealize.ShloMosaic.Lib.Pipeline.ReadBack

/-!
# What the forward mixer's scratches hold

The first point fills the bias of every head, by one select for each of the 32 buckets, and the lower triangles of the
spatial weights; the later points leave both as they are.
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

/-- The entry of the table for bucket `n` and head `h`. -/
def entry (x6 : Vec Ideal S32x8 .f32) (h : Fin 8) (n : ℕ) : EReal :=
  View.ld (Val := Elt Ideal) (e' := .f32) x6 (Rect.unit (s := S32x8) ![n % 32, h.val] ![1, 1]
    (fun a => ((by decide : ∀ n : Fin 32, ∀ h : Fin 8, ∀ a, ![n.val, h.val] a + S1x1.size a ≤ S32x8.size a) ⟨n % 32, Nat.mod_lt _ (by decide)⟩ h a)))
    (Shape.Idx.first (s := S1x1) (by decide))

theorem entry_at (x6 : Vec Ideal S32x8 .f32) (h : Fin 8) (n : Fin 32) : entry x6 h n.val = x6 (ix2 n h) := by
  refine congrArg x6 (funext fun x => Fin.ext ((Rect.idx_unit_val _ _ _ _ _).trans ?_))
  match x with
  | 0 => exact Nat.mod_eq_of_lt n.isLt
  | 1 => rfl

/-- The first `n` selects. -/
def fill (bk : IVec S128x256 32) (f : ℕ → EReal) : ℕ → FVec Ideal S128x256 .f32
  | 0 => broadcast S128x256 (FloatOps.ofBits (F := Ideal) .f32 0#32)
  | n + 1 => select (cmpi .eq bk (broadcast S128x256 (BitVec.ofNat 32 n))) (broadcast (α := EReal) S128x256 (f n)) (fill bk f n)

theorem eq_bucket : ∀ a b : Fin 32, IntOp.cmpi .eq (BitVec.ofNat 32 a.val) (BitVec.ofNat 32 b.val) = if a = b then 1#1 else 0#1 := by
  decide +kernel

/-- After the selects up to a bucket's own, its entry. -/
theorem fill_at (bk : IVec S128x256 32) (f : ℕ → EReal) (y : S128x256.Idx) (k : Fin 32) (hk : bk y = BitVec.ofNat 32 k.val) :
    ∀ n, n ≤ 32 → k.val < n → fill bk f n y = f k.val := by
  intro n
  induction n with
  | zero => intro _ h; omega
  | succ n ih =>
    intro hn h
    show Scalar.select (IntOp.cmpi .eq (bk y) (BitVec.ofNat 32 n)) (f n) (fill bk f n y) = _
    rw [hk, eq_bucket k ⟨n, by omega⟩, select_ite]
    by_cases e : k = (⟨n, by omega⟩ : Fin 32)
    · rw [if_pos e, e]
    · rw [if_neg e]
      exact ih (by omega) (by have : k.val ≠ n := fun q => e (Fin.ext q); omega)

/-- A head's bias, stored as its layer. -/
theorem bias_tile (x6 : Vec Ideal S32x8 .f32) (x7 : Vec Ideal S128x256 .i32) (h : Fin 8) (y : S8x128x256.Idx) :
    View.TileAt (Val := Elt Ideal) (e := .f32) y ![h.val, 0, 0] ![1, 128, 256]
      (shapeCast S1x128x256 (fill (shapeCast S128x256 x7 shapeCasts_S128x256_S128x256) (entry x6 h) 32) shapeCasts_S128x256_S1x128x256)
      (fill (shapeCast S128x256 x7 shapeCasts_S128x256_S128x256) (entry x6 (y 0)) 32 (ix2 (y 1) (y 2))) := by
  intro x hx
  have e0 : (y 0).val = h.val + (x 0).val := hx 0
  have e1 : (y 1).val = 0 + (x 1).val := hx 1
  have e2 : (y 2).val = 0 + (x 2).val := hx 2
  have l0 : (x 0).val < 1 := (x 0).isLt
  have hxx : x = (ix3 0 (x 1) (x 2) : S1x128x256.Idx) :=
    (eq_ix3 x).trans (congrArg (fun p => ix3 p (x 1) (x 2)) (Fin.ext (by show (x 0).val = 0; omega)))
  have e : ∀ (w : FVec Ideal S128x256 .f32) i j, shapeCast S1x128x256 w shapeCasts_S128x256_S1x128x256 (ix3 0 i j) = w (ix2 i j) := by
    intro w i j; pointwise
  refine (congrArg _ hxx).trans ((e _ (x 1) (x 2)).trans ?_)
  exact congrArg₂ (fun k q => fill _ (entry x6 k) 32 q) (Fin.ext (by show h.val = (y 0).val; omega))
    (congrArg₂ ix2 (Fin.ext (by show (x 1).val = (y 1).val; omega)) (Fin.ext (by show (x 2).val = (y 2).val; omega)))

/-- A group's spatial weights, zero above the diagonal. -/
def lower (x3 : Vec Ideal S4x128x128 .f32) (g : Fin 4) : FVec Ideal S1x128x128 .bf16 :=
  shapeCast S1x128x128 (truncf (F := Ideal) .bf16 (select
    (cmpi .sle (iota .tc S128x128 32 [1] iota_S128x128_d1_w32) (iota .tc S128x128 32 [0] iota_S128x128_d0_w32))
    (shapeCast S128x128 (View.ld (Val := Elt Ideal) (e' := .f32) x3 (Rect.unit (s := S4x128x128) ![g.val, 0, 0] ![1, 128, 128]
      ((by decide : ∀ g : Fin 4, ∀ a, ![g.val, 0, 0] a + S1x128x128.size a ≤ S4x128x128.size a) g))) shapeCasts_S1x128x128_S128x128)
    (broadcast S128x128 (FloatOps.ofBits (F := Ideal) .f32 0#32))) bitsLt_bf16_f32) shapeCasts_S128x128_S1x128x128

theorem lower_at (x3 : Vec Ideal S4x128x128 .f32) (g : Fin 4) (i k : Fin 128) : lower x3 g (ix3 0 i k)
    = Scalar.select (IntOp.cmpi .sle (BitVec.ofNat 32 k.val) (BitVec.ofNat 32 i.val)) (x3 (ix3 g i k)) (Ideal.ofBits .f32 0#32) := by
  have e : ∀ w : Vec Ideal S1x128x128 .f32, shapeCast S1x128x128 (truncf (F := Ideal) .bf16 (select
    (cmpi .sle (iota .tc S128x128 32 [1] iota_S128x128_d1_w32) (iota .tc S128x128 32 [0] iota_S128x128_d0_w32))
    (shapeCast S128x128 w shapeCasts_S1x128x128_S128x128) (broadcast S128x128 (FloatOps.ofBits (F := Ideal) .f32 0#32)))
    bitsLt_bf16_f32) shapeCasts_S128x128_S1x128x128 (ix3 0 i k) = Scalar.select (IntOp.cmpi .sle (BitVec.ofNat 32 k.val) (BitVec.ofNat 32 i.val))
      ((show FVec Ideal S1x128x128 .f32 from w) (ix3 0 i k)) (Ideal.ofBits .f32 0#32) := by
    intro w; pointwise
  exact (e _).trans (congrArg (Scalar.select _ · _) (ld3 x3 g.val _ i k g.isLt))

theorem lower_tile (x3 : Vec Ideal S4x128x128 .f32) (g : Fin 4) (y : S4x128x128.Idx) :
    View.TileAt (Val := Elt Ideal) (e := .bf16) y ![g.val, 0, 0] ![1, 128, 128] (lower x3 g) (lower x3 (y 0) (ix3 0 (y 1) (y 2))) := by
  intro x hx
  have e0 : (y 0).val = g.val + (x 0).val := hx 0
  have e1 : (y 1).val = 0 + (x 1).val := hx 1
  have e2 : (y 2).val = 0 + (x 2).val := hx 2
  have l0 : (x 0).val < 1 := (x 0).isLt
  have hxx : x = (ix3 0 (x 1) (x 2) : S1x128x128.Idx) :=
    (eq_ix3 x).trans (congrArg (fun p => ix3 p (x 1) (x 2)) (Fin.ext (by show (x 0).val = 0; omega)))
  refine (congrArg _ hxx).trans ?_
  exact congrArg₂ (fun k q => lower x3 k q) (Fin.ext (by show g.val = (y 0).val; omega))
    (congrArg₂ (ix3 0) (Fin.ext (by show (x 1).val = (y 1).val; omega)) (Fin.ext (by show (x 2).val = (y 2).val; omega)))

variable (m : (ℓ : Loc nD τ sig) → Buf (Elt Ideal) ℓ) (c : Dev nD)

/-- The bias of every head and the weights of every group. -/
def biasArr : Vec Ideal S8x128x256 .f32 := fun y => (args m c).tab ⟨min (bucket (y 1) (y 2)).toNat 31, by omega⟩ (y 0)
def wsArr : Vec Ideal S4x128x128 .bf16 := fun y => wtril (args m c) (y 0) (y 1) (y 2)

set_option maxHeartbeats 2000000 in
theorem bias_first (t : Fin cfg0.N) (h0 : t.val % 16 = 0) : (outsAt0 m c t.val t.isLt).2.2.2.2.2.2.1 = biasArr m c := by
  funext y
  have e : (outsAt0 m c t.val t.isLt).2.2.2.2.2.2.1 y
      = fill (shapeCast S128x256 (show Vec Ideal S128x256 .i32 from iblk m c 7 t) shapeCasts_S128x256_S128x256) (entry (iblk m c 6 t) (y 0)) 32 (ix2 (y 1) (y 2)) := by
    rw [outsAt0_A m c t h0]
    frame_out
    refine View.canon_eq_of_allAt _ y _ (View.cover_of_tiled_head _ _ _ rfl y) ?_
    refine View.allAt_cons_unit _ _ _ _ _ (bias_tile (iblk m c 6 t) (iblk m c 7 t) 7 y) ?_
    refine View.allAt_cons_unit _ _ _ _ _ (bias_tile (iblk m c 6 t) (iblk m c 7 t) 6 y) ?_
    refine View.allAt_cons_unit _ _ _ _ _ (bias_tile (iblk m c 6 t) (iblk m c 7 t) 5 y) ?_
    refine View.allAt_cons_unit _ _ _ _ _ (bias_tile (iblk m c 6 t) (iblk m c 7 t) 4 y) ?_
    refine View.allAt_cons_unit _ _ _ _ _ (bias_tile (iblk m c 6 t) (iblk m c 7 t) 3 y) ?_
    refine View.allAt_cons_unit _ _ _ _ _ (bias_tile (iblk m c 6 t) (iblk m c 7 t) 2 y) ?_
    refine View.allAt_cons_unit _ _ _ _ _ (bias_tile (iblk m c 6 t) (iblk m c 7 t) 1 y) ?_
    refine View.allAt_cons_unit _ _ _ _ _ (bias_tile (iblk m c 6 t) (iblk m c 7 t) 0 y) ?_
    exact View.allAt_nil _ _
  obtain ⟨k, hk⟩ := bucket_lt (y 1) (y 2)
  have hb : (shapeCast S128x256 (show Vec Ideal S128x256 .i32 from iblk m c 7 t) shapeCasts_S128x256_S128x256) (ix2 (y 1) (y 2)) = BitVec.ofNat 32 k.val := by
    refine Eq.trans ?_ ((read7 m c t (y 1) (y 2)).trans hk)
    exact congrFun (shapeCast_self _ _) _
  refine e.trans ((fill_at _ _ _ k hb 32 (le_refl _) k.isLt).trans ((entry_at _ _ k).trans ((read6 m c t k (y 0)).trans ?_)))
  refine congrArg (fun q => (args m c).tab q (y 0)) (Fin.ext ?_)
  show k.val = min (bucket (y 1) (y 2)).toNat 31
  rw [hk, BitVec.toNat_ofNat]
  have := k.isLt
  omega

theorem sle_at : ∀ i k : Fin 128, IntOp.cmpi .sle (BitVec.ofNat 32 k.val) (BitVec.ofNat 32 i.val) = if k.val ≤ i.val then 1#1 else 0#1 := by
  decide +kernel
theorem lower_wtril (t : Fin cfg0.N) (g : Fin 4) (i k : Fin 128) : Scalar.select (IntOp.cmpi .sle (BitVec.ofNat 32 k.val) (BitVec.ofNat 32 i.val))
    ((show FVec Ideal S4x128x128 .f32 from iblk m c 3 t) (ix3 g i k)) (Ideal.ofBits .f32 0#32) = wtril (args m c) g i k := by
  rw [read3 m c t g i k, sle_at, select_ite, cZero]
  rfl
theorem ws_first (t : Fin cfg0.N) (h0 : t.val % 16 = 0) : (outsAt0 m c t.val t.isLt).2.2.2.2.2.2.2 = wsArr m c := by
  funext y
  have e : (outsAt0 m c t.val t.isLt).2.2.2.2.2.2.2 y = lower (iblk m c 3 t) (y 0) (ix3 0 (y 1) (y 2)) := by
    rw [outsAt0_A m c t h0]
    frame_out
    refine View.canon_eq_of_allAt _ y _ (View.cover_of_tiled_head _ _ _ rfl y) ?_
    refine View.allAt_cons_unit _ _ _ _ _ (lower_tile (iblk m c 3 t) 3 y) ?_
    refine View.allAt_cons_unit _ _ _ _ _ (lower_tile (iblk m c 3 t) 2 y) ?_
    refine View.allAt_cons_unit _ _ _ _ _ (lower_tile (iblk m c 3 t) 1 y) ?_
    refine View.allAt_cons_unit _ _ _ _ _ (lower_tile (iblk m c 3 t) 0 y) ?_
    exact View.allAt_nil _ _
  refine e.trans ((lower_at _ _ _ _).trans ?_)
  exact lower_wtril m c t (y 0) (y 1) (y 2)

theorem bias_kept (t : Fin cfg0.N) (h0 : ¬ t.val % 16 = 0) : (outsAt0 m c t.val t.isLt).2.2.2.2.2.2.1
    = (outsAt0 m c (t.val - 1) (Nat.lt_of_le_of_lt (Nat.sub_le _ _) t.isLt)).2.2.2.2.2.2.1 := by
  rw [outsAt0_B m c t h0]; rfl
theorem ws_kept (t : Fin cfg0.N) (h0 : ¬ t.val % 16 = 0) : (outsAt0 m c t.val t.isLt).2.2.2.2.2.2.2
    = (outsAt0 m c (t.val - 1) (Nat.lt_of_le_of_lt (Nat.sub_le _ _) t.isLt)).2.2.2.2.2.2.2 := by
  rw [outsAt0_B m c t h0]; rfl

/-- The scratches after every point. -/
theorem bias_holds : ∀ (n : ℕ) (hn : n < cfg0.N), (outsAt0 m c n hn).2.2.2.2.2.2.1 = biasArr m c := by
  intro n
  induction n with
  | zero => intro hn; exact bias_first m c ⟨0, hn⟩ rfl
  | succ n ih =>
    intro hn
    by_cases h0 : (n + 1) % 16 = 0
    · exact bias_first m c ⟨n + 1, hn⟩ h0
    · exact (bias_kept m c ⟨n + 1, hn⟩ h0).trans (ih _)
theorem ws_holds : ∀ (n : ℕ) (hn : n < cfg0.N), (outsAt0 m c n hn).2.2.2.2.2.2.2 = wsArr m c := by
  intro n
  induction n with
  | zero => intro hn; exact ws_first m c ⟨0, hn⟩ rfl
  | succ n ih =>
    intro hn
    by_cases h0 : (n + 1) % 16 = 0
    · exact ws_first m c ⟨n + 1, hn⟩ h0
    · exact (ws_kept m c ⟨n + 1, hn⟩ h0).trans (ih _)

end Cert.MixerFwdIdeal.Block
-- ==== Proof.MixFwdOut.lean ====
module

public import proofs.«01_k».proof.Proof.MixFwdTiles
public import proofs.«01_k».proof.Proof.MixFwdScratch

/-!
# What one block of the forward mixer stores in its results

At the first point the scratches are filled before they are read, at the others they are read as the point before left
them; what they hold is the same at every point, so the results are one function of the block's arguments.
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

variable (m : (ℓ : Loc nD τ sig) → Buf (Elt Ideal) ℓ) (c : Dev nD) (t : Fin cfg0.N)

/-- The block of point `t`. -/
def blkAt : Blk :=
  ⟨iblk m c 0 t, iblk m c 1 t, iblk m c 2 t, iblk m c 4 t, iblk m c 5 t, biasArr m c, wsArr m c, BitVec.ofNat 32 (grid0.coords t 0).val⟩

/-- The scratches before a point that is not the first. -/
theorem bias_before : (outsAt0 m c (t.val - 1) (Nat.lt_of_le_of_lt (Nat.sub_le _ _) t.isLt)).2.2.2.2.2.2.1 = biasArr m c := bias_holds m c _ _
theorem ws_before : (outsAt0 m c (t.val - 1) (Nat.lt_of_le_of_lt (Nat.sub_le _ _) t.isLt)).2.2.2.2.2.2.2 = wsArr m c := ws_holds m c _ _

set_option maxHeartbeats 2000000 in
theorem weights_A (h0 : t.val % 16 = 0) : (outsAt0 m c t.val t.isLt).2.1 = View.canon (Val := Elt Ideal) (weightsPieces (blkAt m c t)) := by
  have hbs := bias_holds m c t.val t.isLt
  rw [outsAt0_A m c t h0] at hbs ⊢
  frame_out
  frame_out at hbs
  simp only [readCov_ld, hbs]
  refine congrArg (View.canon (Val := Elt Ideal)) ?_
  sl_kernel_rfl

set_option maxHeartbeats 2000000 in
theorem weights_B (h0 : ¬ t.val % 16 = 0) : (outsAt0 m c t.val t.isLt).2.1 = View.canon (Val := Elt Ideal) (weightsPieces (blkAt m c t)) := by
  rw [outsAt0_B m c t h0]
  frame_out
  simp only [read_unread_whole, bias_before]
  refine congrArg (View.canon (Val := Elt Ideal)) ?_
  sl_kernel_rfl

set_option maxHeartbeats 2000000 in
theorem weightsT_A (h0 : t.val % 16 = 0) : (outsAt0 m c t.val t.isLt).2.2.1 = View.canon (Val := Elt Ideal) (weightsTPieces (blkAt m c t)) := by
  have hbs := bias_holds m c t.val t.isLt
  have hws := ws_holds m c t.val t.isLt
  rw [outsAt0_A m c t h0] at hbs hws ⊢
  frame_out
  frame_out at hbs
  frame_out at hws
  simp only [readCov_ld, hbs, hws]
  refine congrArg (View.canon (Val := Elt Ideal)) ?_
  sl_kernel_rfl

set_option maxHeartbeats 2000000 in
theorem weightsT_B (h0 : ¬ t.val % 16 = 0) : (outsAt0 m c t.val t.isLt).2.2.1 = View.canon (Val := Elt Ideal) (weightsTPieces (blkAt m c t)) := by
  rw [outsAt0_B m c t h0]
  frame_out
  simp only [read_unread_whole, bias_before, ws_before]
  refine congrArg (View.canon (Val := Elt Ideal)) ?_
  sl_kernel_rfl

set_option maxHeartbeats 2000000 in
theorem mix_A (h0 : t.val % 16 = 0) : (outsAt0 m c t.val t.isLt).1 = View.canon (Val := Elt Ideal) (mixPieces (blkAt m c t)) := by
  have hbs := bias_holds m c t.val t.isLt
  have hws := ws_holds m c t.val t.isLt
  rw [outsAt0_A m c t h0] at hbs hws ⊢
  frame_out
  frame_out at hbs
  frame_out at hws
  simp only [readCov_ld, hbs, hws]
  refine congrArg (View.canon (Val := Elt Ideal)) ?_
  sl_kernel_rfl

set_option maxHeartbeats 2000000 in
theorem mix_B (h0 : ¬ t.val % 16 = 0) : (outsAt0 m c t.val t.isLt).1 = View.canon (Val := Elt Ideal) (mixPieces (blkAt m c t)) := by
  rw [outsAt0_B m c t h0]
  frame_out
  simp only [read_unread_whole, bias_before, ws_before]
  refine congrArg (View.canon (Val := Elt Ideal)) ?_
  sl_kernel_rfl

set_option maxHeartbeats 2000000 in
theorem share_A (h0 : t.val % 16 = 0) : (outsAt0 m c t.val t.isLt).2.2.2.1 = shapeCast S128x128 (shares (blkAt m c t) 8) shapeCasts_S128x128_S128x128 := by
  have hbs := bias_holds m c t.val t.isLt
  rw [outsAt0_A m c t h0] at hbs ⊢
  frame_out
  frame_out at hbs
  simp only [readCov_ld, hbs]
  sl_kernel_rfl

set_option maxHeartbeats 2000000 in
theorem share_B (h0 : ¬ t.val % 16 = 0) : (outsAt0 m c t.val t.isLt).2.2.2.1 = shapeCast S128x128 (shares (blkAt m c t) 8) shapeCasts_S128x128_S128x128 := by
  rw [outsAt0_B m c t h0]
  frame_out
  simp only [read_unread_whole, bias_before]
  sl_kernel_rfl

end Cert.MixerFwdIdeal.Block
-- ==== Proof.MixFwdResults.lean ====
module

public import proofs.«01_k».proof.Proof.MixFwdEq
public import Idealize.ShloMosaic.Lib.Pointwise

/-!
# The forward mixer's six results as arrays
-/

@[expose] public section

noncomputable section

namespace Cert.MixFwd

open Idealize.ShloMosaic

variable (a : Args)

/-- The block of a position, and its place in it. -/
def blockOf (r : Fin 2048) : Fin 16 := ⟨r.val / 128, by omega⟩
def placeOf (r : Fin 2048) : Fin 128 := ⟨r.val % 128, Nat.mod_lt _ (by decide)⟩
theorem row_of (r : Fin 2048) : row (blockOf r) (placeOf r) = r := Fin.ext (by show r.val / 128 * 128 + r.val % 128 = r.val; omega)

/-- The mixed columns: the gated groups, then the heads' values. -/
def mixed (r : Fin 2048) (l : Fin 1024) : EReal :=
  if h : l.val < 512 then gated a (blockOf r) (placeOf r) ⟨l.val / 128, by omega⟩ ⟨l.val % 128, Nat.mod_lt _ (by decide)⟩
  else values a (blockOf r) ⟨(l.val - 512) / 64, by omega⟩ (placeOf r) ⟨(l.val - 512) % 64, Nat.mod_lt _ (by decide)⟩
/-- The sinks' shares, in the first eight lanes. -/
def shareRow (r : Fin 2048) (l : Fin 128) : EReal :=
  if h : l.val < 8 then share a (blockOf r) ⟨l.val, h⟩ (placeOf r) else 0

def mixArr : FVec Ideal ⟨2, ![2048, 1024]⟩ .bf16 := fun y => mixed a (y 0) (y 1)
def probsArr : FVec Ideal ⟨4, ![16, 8, 128, 256]⟩ .bf16 := fun y => weight a (y 0) (y 1) (y 2) (y 3)
def probsTArr : FVec Ideal ⟨4, ![16, 8, 256, 128]⟩ .bf16 := fun y => weight a (y 0) (y 1) (y 3) (y 2)
def shareArr : FVec Ideal ⟨2, ![2048, 128]⟩ .f32 := fun y => shareRow a (y 0) (y 1)
def guvArr : FVec Ideal ⟨2, ![2048, 1024]⟩ .f32 := fun y => guv a (y 0) (y 1)
def slopeArr : FVec Ideal ⟨2, ![2048, 1024]⟩ .f32 := fun y => slope (a.z (y 0) ⟨(y 1).val, Nat.lt_trans (y 1).isLt (by decide)⟩)

end Cert.MixFwd
-- ==== Proof.MixFwdArrays.lean ====
module

public import proofs.«01_k».proof.Proof.MixFwdOut
public import proofs.«01_k».proof.Proof.MixFwdResults

/-!
# The six arrays of the forward mixer's kernel after the run

Each is the forward mixer of the arguments, where the projection, the sinks and the table are real.
-/

@[expose] public section

set_option maxRecDepth 16384

noncomputable section

namespace Cert.MixerFwdIdeal.Block

open Idealize.ShloMosaic Idealize.ShloMosaic.TcCoe
open Cert.MixerFwdIdeal Cert.MixerFwdIdeal.Gen Cert.MixFwd Cert.Reals

variable (m : (ℓ : Loc nD τ sig) → Buf (Elt Ideal) ℓ) (c : Dev nD) (t : Fin cfg0.N)

/-- The block of a point holds its part of the arguments. -/
theorem holds : Holds (blkAt m c t) (args m c) (blk t) where
  x0 := read0 m c t
  x1 := read1 m c t
  x2 := read2 m c t
  x4 := read4 m c t
  x5 := read5 m c t
  bs _ _ _ := rfl
  ws _ _ _ := rfl
  n := congrArg (BitVec.ofNat 32) (idx t).2.2.2.2.2.2.2.2.2.2.2.2.2.2.2

theorem block_of (i : Fin 128) : blockOf (row (blk t) i) = blk t :=
  Fin.ext (by show ((blk t).val * 128 + i.val) / 128 = (blk t).val; omega)
theorem place_of (i : Fin 128) : placeOf (row (blk t) i) = i :=
  Fin.ext (by show ((blk t).val * 128 + i.val) % 128 = i.val; omega)

/-! ## The gelu and its slope -/

set_option maxHeartbeats 2000000 in
theorem guv_out : (outsAt0 m c t.val t.isLt).2.2.2.2.1 = shapeCast S128x1024 (geluB (blkAt m c t)) shapeCasts_S128x1024_S128x1024 := by
  by_cases h0 : t.val % 16 = 0
  · rw [outsAt0_A m c t h0]
    frame_out
    sl_kernel_rfl
  · rw [outsAt0_B m c t h0]
    frame_out
    sl_kernel_rfl

theorem guv_array : (dats m 0 c).arrAt 12 cfg0.N = guvArr (args m c) := by
  refine (dats m 0 c).arrAt_eq_of_covers 12 _ (by decide +kernel) fun t ht y => ?_
  have he : ((cfg0.win 12).blk t).view.emb y = (ix2 (row (blk t) (y 0)) (y 1) : S2048x1024.Idx) := by
    blk_ext [idx t, row, blk]
  have hp := (congrArg (geluB (blkAt m c t)) (eq_ix2 y)).trans (geluB_eq (holds m c t) (y 0) (y 1))
  blk_simp
  rw [after0_12, he, guv_out]
  exact (congrFun (shapeCast_self _ _) y).trans hp

set_option maxHeartbeats 2000000 in
theorem slope_out : (outsAt0 m c t.val t.isLt).2.2.2.2.2.1 = k0_pay85 (F := Ideal)
    (View.ld (Val := Elt Ideal) (e' := .f32) (blkAt m c t).x0 (Rect.unit (s := S128x1792) ![0, 0] ![128, 1024] inb_S128x1792_S128x1024_0_0)) := by
  by_cases h0 : t.val % 16 = 0
  · rw [outsAt0_A m c t h0]
    frame_out
    sl_kernel_rfl
  · rw [outsAt0_B m c t h0]
    frame_out
    sl_kernel_rfl

theorem slope_array : (dats m 0 c).arrAt 13 cfg0.N = slopeArr (args m c) := by
  refine (dats m 0 c).arrAt_eq_of_covers 13 _ (by decide +kernel) fun t ht y => ?_
  have he : ((cfg0.win 13).blk t).view.emb y = (ix2 (row (blk t) (y 0)) (y 1) : S2048x1024.Idx) := by
    blk_ext [idx t, row, blk]
  have hp := (congrArg (k0_pay85 (F := Ideal)
    (View.ld (Val := Elt Ideal) (e' := .f32) (blkAt m c t).x0 (Rect.unit (s := S128x1792) ![0, 0] ![128, 1024] inb_S128x1792_S128x1024_0_0)))
      (eq_ix2 y)).trans (slopeB_eq (holds m c t) (y 0) (y 1))
  blk_simp
  rw [after0_13, he, slope_out]
  exact hp

/-! ## The weights, the shares and the mixed columns -/

variable (hz : ∀ r l, IsReal ((args m c).z r l)) (hs : ∀ h, IsReal ((args m c).sink h)) (ht : ∀ k h, IsReal ((args m c).tab k h))
include hz hs ht

theorem weights_array : (dats m 0 c).arrAt 9 cfg0.N = probsArr (args m c) := by
  refine (dats m 0 c).arrAt_eq_of_covers 9 _ (by decide +kernel) fun t _ y => ?_
  have he : ((cfg0.win 9).blk t).view.emb y = (ix4 (blk t) (y 1) (y 2) (y 3) : S16x8x128x256.Idx) := by
    blk_ext [idx t, blk]
  have hp := (weights_canon (blkAt m c t) y).trans (headWeights_eq (holds m c t) hz hs ht (y 1) (y 2) (y 3))
  blk_simp
  rw [after0_9, he]
  by_cases h0 : t.val % 16 = 0
  · rw [weights_A m c t h0]; exact hp
  · rw [weights_B m c t h0]; exact hp

theorem weightsT_array : (dats m 0 c).arrAt 10 cfg0.N = probsTArr (args m c) := by
  refine (dats m 0 c).arrAt_eq_of_covers 10 _ (by decide +kernel) fun t _ y => ?_
  have he : ((cfg0.win 10).blk t).view.emb y = (ix4 (blk t) (y 1) (y 2) (y 3) : S16x8x256x128.Idx) := by
    blk_ext [idx t, blk]
  have hp := (weightsT_canon (blkAt m c t) y).trans (headWeights_eq (holds m c t) hz hs ht (y 1) (y 3) (y 2))
  blk_simp
  rw [after0_10, he]
  by_cases h0 : t.val % 16 = 0
  · rw [weightsT_A m c t h0]; exact hp
  · rw [weightsT_B m c t h0]; exact hp

theorem share_point (i l : Fin 128) : shares (blkAt m c t) 8 (ix2 i l) = shareRow (args m c) (row (blk t) i) l := by
  unfold shareRow
  rw [block_of, place_of]
  exact shares_eq (holds m c t) hz hs ht i l 8 (le_refl 8)

theorem share_array : (dats m 0 c).arrAt 11 cfg0.N = shareArr (args m c) := by
  refine (dats m 0 c).arrAt_eq_of_covers 11 _ (by decide +kernel) fun t _ y => ?_
  have he : ((cfg0.win 11).blk t).view.emb y = (ix2 (row (blk t) (y 0)) (y 1) : S2048x128.Idx) := by
    blk_ext [idx t, row, blk]
  have hp := (congrArg (shares (blkAt m c t) 8) (eq_ix2 y)).trans (share_point m c t hz hs ht (y 0) (y 1))
  blk_simp
  rw [after0_11, he]
  by_cases h0 : t.val % 16 = 0
  · rw [share_A m c t h0]; exact (congrFun (shapeCast_self _ _) y).trans hp
  · rw [share_B m c t h0]; exact (congrFun (shapeCast_self _ _) y).trans hp

theorem mix_point (i : Fin 128) (l : Fin 1024) : mixB (blkAt m c t) (ix2 i l) = mixed (args m c) (row (blk t) i) l := by
  show (if l.val < 512 then gateOf (blkAt m c t) ⟨l.val / 128 % 4, by omega⟩ (ix2 i ⟨l.val % 128, by omega⟩)
    else pairVals (blkAt m c t) ⟨(l.val - 512) / 128 % 4, by omega⟩ (ix2 i ⟨l.val % 128, by omega⟩)) = _
  unfold mixed
  rw [block_of, place_of]
  by_cases h : l.val < 512
  · rw [if_pos h, dif_pos h, gateOf_eq (holds m c t)]
    exact congrArg (fun g => gated (args m c) (blk t) i g _) (Fin.ext (by show l.val / 128 % 4 = l.val / 128; omega))
  · rw [if_neg h, dif_neg h, pairVals_eq (holds m c t) hz hs ht]
    exact congrArg₂ (fun k d => values (args m c) (blk t) k i d)
      (Fin.ext (by show 2 * ((l.val - 512) / 128 % 4) + l.val % 128 / 64 = (l.val - 512) / 64; omega))
      (Fin.ext (by show l.val % 128 % 64 = (l.val - 512) % 64; omega))

theorem mix_array : (dats m 0 c).arrAt 8 cfg0.N = mixArr (args m c) := by
  refine (dats m 0 c).arrAt_eq_of_covers 8 _ (by decide +kernel) fun t _ y => ?_
  have he : ((cfg0.win 8).blk t).view.emb y = (ix2 (row (blk t) (y 0)) (y 1) : S2048x1024.Idx) := by
    blk_ext [idx t, row, blk]
  have hp := ((mix_canon (blkAt m c t) y).trans (congrArg (mixB (blkAt m c t)) (eq_ix2 y))).trans (mix_point m c t hz hs ht (y 0) (y 1))
  blk_simp
  rw [after0_8, he]
  by_cases h0 : t.val % 16 = 0
  · rw [mix_A m c t h0]; exact hp
  · rw [mix_B m c t h0]; exact hp

end Cert.MixerFwdIdeal.Block
-- ==== Proof.MixFwdRef.lean ====
module

public import proofs.«01_k».proof.Proof.MixFwdEq
public import proofs.«01_k».proof.Proof.Gen.MixerFwdRefIdeal.Run
public import Idealize.ShloMosaic.Lib.Pointwise
public import Idealize.ShloMosaic.Lib.ValueIdxCore

/-!
# What the reference of the forward mixer computes

Its intermediate arrays at an index: the logits, their largest with the sink, the exponentials, their sum, the weights.
-/

@[expose] public section

set_option maxRecDepth 16384

noncomputable section

namespace Cert.MixerFwdRefIdeal.Ref

open Idealize.ShloMosaic Idealize.ShloMosaic.TcCoe
open Cert.MixerFwdRefIdeal Cert.MixerFwdRefIdeal.Gen Cert.MixerFwdRefIdeal.Value Cert.MixFwd Cert.Reals

/-! ## Reductions along the last of six axes -/

theorem fiber (h : S1x2x4x16x128x256.ReducesTo [5] S1x2x4x16x128) (a : Fin 1) (g : Fin 2) (k : Fin 4) (n : Fin 16) (i : Fin 128)
    (x : S1x2x4x16x128x256.Idx) : h.drop x = ix5 a g k n i ↔ ∃ j : Fin 256, (ix6 a g k n i j : S1x2x4x16x128x256.Idx) = x := by
  constructor
  · intro e
    refine ⟨x 5, ?_⟩
    funext b; apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext b; apply Fin.ext
    match b with
    | ⟨0, _⟩ => rfl
    | ⟨1, _⟩ => rfl
    | ⟨2, _⟩ => rfl
    | ⟨3, _⟩ => rfl
    | ⟨4, _⟩ => rfl

theorem fold_last (h : S1x2x4x16x128x256.ReducesTo [5] S1x2x4x16x128) (a : Fin 1) (g : Fin 2) (k : Fin 4) (n : Fin 16) (i : Fin 128)
    (z : EReal) (v : S1x2x4x16x128x256.Idx → EReal) :
    (Finset.univ.filter (fun x => h.drop x = ix5 a g k n i)).fold max z v = Finset.fold max z (fun j : Fin 256 => v (ix6 a g k n i j)) Finset.univ :=
  Finset.fold_filter_eq_fold_of_fiber max _ (fun j : Fin 256 => (ix6 a g k n i j : S1x2x4x16x128x256.Idx)) (fun _ _ e => congrFun e 5)
    (fiber h a g k n i) z v

theorem sum_last (h : S1x2x4x16x128x256.ReducesTo [5] S1x2x4x16x128) (a : Fin 1) (g : Fin 2) (k : Fin 4) (n : Fin 16) (i : Fin 128)
    (z : EReal) (v : S1x2x4x16x128x256.Idx → EReal) :
    Ideal.hostReduceAdd h v z (ix5 a g k n i) = z + ∑ j : Fin 256, v (ix6 a g k n i j) :=
  congrArg (z + ·) (Finset.sum_filter_eq_sum_of_fiber _ (fun j : Fin 256 => (ix6 a g k n i j : S1x2x4x16x128x256.Idx)) (fun _ _ e => congrFun e 5)
    (fiber h a g k n i) v)

theorem reduce_last (x : S1x2x4x16x128x256.Idx → EReal) (init : S_.Idx → EReal) (h : S1x2x4x16x128x256.ReducesTo [5] S1x2x4x16x128) (hu : 0 < S_.numel)
    (a : Fin 1) (g : Fin 2) (k : Fin 4) (n : Fin 16) (i : Fin 128) : Host.reduce (max : EReal → EReal → EReal) x init h hu (ix5 a g k n i)
      = Finset.fold max (init (Shape.Idx.first hu)) (fun j : Fin 256 => x (ix6 a g k n i j)) Finset.univ :=
  (Host.reduce_eq_fold max x init h hu _).trans (fold_last h a g k n i _ x)

/-! ## The table's rows -/

theorem gather_at (x : FVec Ideal S32x8 .f32) (idx : IVec S128x256x1 32) (i : Fin 128) (j : Fin 256) (h : Fin 8) :
    Host.gather gather_S32x8_S128x256x1_S128x256x8_2_0_n_n_0_2_18 x idx (ix3 i j h)
      = x (ix2 ⟨min (idx (ix3 i j 0)).toInt.toNat 31, by omega⟩ h) := by
  unfold Host.gather
  congr 1
  funext a
  refine Fin.ext ?_
  show gather_S32x8_S128x256x1_S128x256x8_2_0_n_n_0_2_18.start (ix3 i j h) idx a + gather_S32x8_S128x256x1_S128x256x8_2_0_n_n_0_2_18.batchCoord (ix3 i j h) a
      + gather_S32x8_S128x256x1_S128x256x8_2_0_n_n_0_2_18.offCoord (ix3 i j h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S128x256x1_S128x256x8_2_0_n_n_0_2_18.startIndexMap from List.mem_singleton.mpr rfl)]
    have hsi : gather_S32x8_S128x256x1_S128x256x8_2_0_n_n_0_2_18.siIdx (ix3 i j h) ⟨List.idxOf (0 : Fin 2) gather_S32x8_S128x256x1_S128x256x8_2_0_n_n_0_2_18.startIndexMap,
        List.idxOf_lt_length_iff.2 (List.mem_singleton.mpr rfl)⟩ = (ix3 i j 0 : S128x256x1.Idx) := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S32x8_S128x256x1_S128x256x8_2_0_n_n_0_2_18.startIndexMap by decide), Nat.zero_add]
    rfl

/-! ## The arguments -/

variable (V : Valuation τ sig (Elt Ideal))

/-- The arguments in the reference's memory. -/
def args : Args where
  z r l := (show FVec Ideal S2048x1792 .f32 from V (Proc.tc.devRef main_arg0)) (ix2 r l)
  gain l := (show FVec Ideal S1x512 .f32 from V (Proc.tc.devRef main_arg1)) (ix2 0 l)
  ws g i k := (show FVec Ideal S1x4x128x128 .f32 from V (Proc.tc.devRef main_arg2)) (ix4 0 g i k)
  b g i := (show FVec Ideal S1x4x128 .f32 from V (Proc.tc.devRef main_arg3)) (ix3 0 g i)
  sink h := (show FVec Ideal S1x8 .f32 from V (Proc.tc.devRef main_arg4)) (ix2 0 h)
  tab k h := (show FVec Ideal S32x8 .f32 from V (Proc.tc.devRef main_arg5)) (ix2 k h)

theorem z_at (r : Fin 2048) (l : Fin 1792) : (show FVec Ideal S1x2048x1792 .f32 from res_main_v0 V) (ix3 0 r l) = (args V).z r l := by
  pointwise [res_main_v0, args]

/-- The keys and values with a block of zeros before them, from the second block on. -/
theorem k_at (n : Fin 17) (j : Fin 128) (g : Fin 2) (d : Fin 64) (h : 128 ≤ n.val * 128 + j.val) :
    (show FVec Ideal S1x17x128x2x64 .f32 from res_main_v84 V) (ix5 0 n j g d) = (args V).z ⟨n.val * 128 + j.val - 128, by omega⟩ (kcol g d) := by
  have e : (show FVec Ideal S1x17x128x2x64 .f32 from res_main_v84 V) (ix5 0 n j g d)
      = if h : 128 ≤ n.val * 128 + j.val ∧ n.val * 128 + j.val - 128 < 2048 then
          (show FVec Ideal S1x2048x1792 .f32 from res_main_v0 V) (ix3 0 ⟨n.val * 128 + j.val - 128, h.2⟩ ⟨1536 + (g.val * 64 + d.val), by omega⟩)
        else FloatOps.sitofp (F := Ideal) .f32 0#32 := by
    pointwise [res_main_v84]
  rw [e, dif_pos ⟨h, by omega⟩, z_at]
  rfl
theorem v_at (n : Fin 17) (j : Fin 128) (g : Fin 2) (d : Fin 64) (h : 128 ≤ n.val * 128 + j.val) :
    (show FVec Ideal S1x17x128x2x64 .f32 from res_main_v176 V) (ix5 0 n j g d) = (args V).z ⟨n.val * 128 + j.val - 128, by omega⟩ (vcol g d) := by
  have e : (show FVec Ideal S1x17x128x2x64 .f32 from res_main_v176 V) (ix5 0 n j g d)
      = if h : 128 ≤ n.val * 128 + j.val ∧ n.val * 128 + j.val - 128 < 2048 then
          (show FVec Ideal S1x2048x1792 .f32 from res_main_v0 V) (ix3 0 ⟨n.val * 128 + j.val - 128, h.2⟩ ⟨1664 + (g.val * 64 + d.val), by omega⟩)
        else FloatOps.sitofp (F := Ideal) .f32 0#32 := by
    pointwise [res_main_v176]
  rw [e, dif_pos ⟨h, by omega⟩, z_at]
  rfl

theorem dist_at (i : Fin 128) (j : Fin 256) : (show IVec S128x256 32 from res_main_v100 V) (ix2 i j) = dist i j := by
  pointwise [res_main_v100]
  rfl
theorem bucket_at (i : Fin 128) (j : Fin 256) : (show IVec S128x256 32 from res_main_v125 V) (ix2 i j) = bucket i j := by
  have e : ∀ i j, (show IVec S128x256 32 from res_main_v107 V) (ix2 i j) = IntOp.maxsi ((show IVec S128x256 32 from res_main_v100 V) (ix2 i j)) 0#32 := by
    intro i j; pointwise [res_main_v107]
  unfold bucket
  rw [← dist_at V i j, ← e]
  pointwise [res_main_v125, bucketOf]
theorem sinks_at (g : Fin 2) (k : Fin 4) : (show FVec Ideal S2x4x1x1x1 .f32 from res_main_v155 V) (ix5 g k 0 0 0) = (args V).sink ⟨g.val * 4 + k.val, by omega⟩ := by
  pointwise [res_main_v155, args]

/-! ## The attention -/

/-- Head `k` of group `g`. -/
def head (g : Fin 2) (k : Fin 4) : Fin 8 := ⟨g.val * 4 + k.val, by omega⟩

/-- The keys of the two blocks, -/
def bandK (n : Fin 16) (j : Fin 256) (g : Fin 2) (x : Fin 64) : EReal :=
  if h : j.val < 128 then (show FVec Ideal S1x17x128x2x64 .f32 from res_main_v84 V) (ix5 0 ⟨n.val, by omega⟩ ⟨j.val, h⟩ g x)
  else (show FVec Ideal S1x17x128x2x64 .f32 from res_main_v84 V) (ix5 0 ⟨1 + n.val, by omega⟩ ⟨j.val - 128, by omega⟩ g x)
/-- and their logits. -/
theorem logits_form (g : Fin 2) (k : Fin 4) (n : Fin 16) (i : Fin 128) (j : Fin 256) :
    (show FVec Ideal S1x2x4x16x128x256 .f32 from res_main_v154 V) (ix6 0 g k n i j) = Scalar.select
      (IntOp.andi (IntOp.andi (IntOp.cmpi .sge ((show IVec S128x256 32 from res_main_v100 V) (ix2 i j)) 0#32)
        (IntOp.cmpi .slt ((show IVec S128x256 32 from res_main_v100 V) (ix2 i j)) 128#32))
        (~~~IntOp.andi (IntOp.cmpi .eq (BitVec.ofNat 32 n.val) 0#32) (IntOp.cmpi .slt (BitVec.ofNat 32 j.val) 128#32)))
      ((∑ x, bandK V n j g x * (show FVec Ideal S1x2048x1792 .f32 from res_main_v0 V) (ix3 0 ⟨n.val * 128 + i.val, by omega⟩ ⟨1024 + (g.val * 256 + k.val * 64 + x.val), by omega⟩))
          * Ideal.ofBits .f32 0x3E000000#32
        + Host.gather gather_S32x8_S128x256x1_S128x256x8_2_0_n_n_0_2_18 (show FVec Ideal S32x8 .f32 from V (Proc.tc.devRef main_arg5))
          (broadcastInDim S128x256x1 ![0, 1] bcast_S128x256_S128x256x1_0_1 (select (cmpi .slt (res_main_v125 V) (broadcastInDim S128x256 ![] bcast_S_S128x256 (constantI S_ 32 0#32))) (addi (res_main_v125 V) (broadcastInDim S128x256 ![] bcast_S_S128x256 (constantI S_ 32 32#32))) (res_main_v125 V)))
          (ix3 i j ⟨g.val * 4 + k.val, by omega⟩))
      (show EReal from id (constant (F := Ideal) S_ .f32 0xFF800000#32) ix0) := by
  pointwise [res_main_v154, bandK]

theorem past_bandK (n : Fin 16) (j : Fin 256) (g : Fin 2) (x : Fin 64) (h : 128 ≤ n.val * 128 + j.val) : bandK V n j g x = (args V).z (past n j) (kcol g x) := by
  unfold bandK
  by_cases hj : j.val < 128
  · rw [dif_pos hj]
    exact k_at V ⟨n.val, by omega⟩ ⟨j.val, hj⟩ g x h
  · rw [dif_neg hj]
    refine (k_at V ⟨1 + n.val, by omega⟩ ⟨j.val - 128, by omega⟩ g x (by show 128 ≤ (1 + n.val) * 128 + (j.val - 128); omega)).trans ?_
    exact congrArg (fun r => (args V).z r (kcol g x)) (Fin.ext (by show (1 + n.val) * 128 + (j.val - 128) - 128 = n.val * 128 + j.val - 128; omega))

theorem wrap : ∀ b : Fin 32, Scalar.select (IntOp.cmpi .slt (BitVec.ofNat 32 b.val) 0#32) (IntOp.addi (BitVec.ofNat 32 b.val) 32#32) (BitVec.ofNat 32 b.val) = BitVec.ofNat 32 b.val
    ∧ (BitVec.ofNat 32 b.val).toInt.toNat = b.val ∧ (BitVec.ofNat 32 b.val).toNat = b.val := by
  decide +kernel

/-- The table's entry for a bucket. -/
theorem table_at (i : Fin 128) (j : Fin 256) (h : Fin 8) :
    Host.gather gather_S32x8_S128x256x1_S128x256x8_2_0_n_n_0_2_18 (show FVec Ideal S32x8 .f32 from V (Proc.tc.devRef main_arg5))
      (broadcastInDim S128x256x1 ![0, 1] bcast_S128x256_S128x256x1_0_1 (select (cmpi .slt (res_main_v125 V) (broadcastInDim S128x256 ![] bcast_S_S128x256 (constantI S_ 32 0#32))) (addi (res_main_v125 V) (broadcastInDim S128x256 ![] bcast_S_S128x256 (constantI S_ 32 32#32))) (res_main_v125 V)))
      (ix3 i j h) = (args V).tab ⟨min (bucket i j).toNat 31, by omega⟩ h := by
  rw [gather_at]
  have e : broadcastInDim S128x256x1 ![0, 1] bcast_S128x256_S128x256x1_0_1 (select (cmpi .slt (res_main_v125 V) (broadcastInDim S128x256 ![] bcast_S_S128x256 (constantI S_ 32 0#32))) (addi (res_main_v125 V) (broadcastInDim S128x256 ![] bcast_S_S128x256 (constantI S_ 32 32#32))) (res_main_v125 V)) (ix3 i j 0)
      = Scalar.select (IntOp.cmpi .slt ((show IVec S128x256 32 from res_main_v125 V) (ix2 i j)) 0#32) (IntOp.addi ((show IVec S128x256 32 from res_main_v125 V) (ix2 i j)) 32#32) ((show IVec S128x256 32 from res_main_v125 V) (ix2 i j)) := by
    pointwise
  obtain ⟨b, hb⟩ := bucket_lt i j
  rw [bucket_at, hb, (wrap b).1] at e
  show (args V).tab _ h = (args V).tab _ h
  refine congrArg (fun q => (args V).tab q h) (Fin.ext ?_)
  refine congrArg (fun q : ℕ => min q 31) ((congrArg (fun q : BitVec 32 => q.toInt.toNat) e).trans ?_)
  rw [hb]
  exact (wrap b).2.1.trans (wrap b).2.2.symm

theorem logit_at (g : Fin 2) (k : Fin 4) (n : Fin 16) (i : Fin 128) (j : Fin 256) :
    (show FVec Ideal S1x2x4x16x128x256 .f32 from res_main_v154 V) (ix6 0 g k n i j) = logit (args V) n (head g k) i j := by
  rw [logits_form, dist_at, table_at]
  show Scalar.select (seen n i j) _ (Ideal.ofBits .f32 0xFF800000#32) = _
  unfold logit
  rw [cNegInf]
  by_cases hp : n.val = 0 ∧ j.val < 128
  · rw [seen_first n i j hp.1 hp.2]
    exact (if_neg (by decide)).trans (if_neg (by decide)).symm
  · have hge : 128 ≤ n.val * 128 + j.val := by omega
    refine congrArg (fun x : EReal => Scalar.select (seen n i j) (x * Ideal.ofBits .f32 0x3E000000#32 + (args V).tab ⟨min (bucket i j).toNat 31, by omega⟩ (head g k)) ⊥) ?_
    refine Finset.sum_congr rfl fun x _ => ?_
    rw [past_bandK V n j g x hge, z_at, mul_comm]
    refine congrArg₂ (fun c e => (args V).z (row n i) c * (args V).z (past n j) (kcol e x)) (Fin.ext ?_) (Fin.ext ?_)
    · show 1024 + (g.val * 256 + k.val * 64 + x.val) = 1024 + ((g.val * 4 + k.val) * 64 + x.val); omega
    · show g.val = (g.val * 4 + k.val) / 4; omega

/-- The row of logits and the sink of a head. -/
abbrev lg (g : Fin 2) (k : Fin 4) (n : Fin 16) (i : Fin 128) : Fin 256 → EReal := logit (args V) n (head g k) i
abbrev sk (g : Fin 2) (k : Fin 4) : EReal := (args V).sink (head g k)

theorem max_form (R : FVec Ideal S1x2x4x16x128 .f32) (S : FVec Ideal S2x4x1x1x1 .f32) (g : Fin 2) (k : Fin 4) (n : Fin 16) (i : Fin 128) :
    maximumf (broadcastInDim S1x2x4x16x128x1 ![0, 1, 2, 3, 4] bcast_S1x2x4x16x128_S1x2x4x16x128x1_0_1_2_3_4 R)
      (broadcastInDim S1x2x4x16x128x1 ![0, 1, 2, 3, 4, 5] bcast_S1x2x4x1x1x1_S1x2x4x16x128x1_0_1_2_3_4_5
        (broadcastInDim S1x2x4x1x1x1 ![1, 2, 3, 4, 5] bcast_S2x4x1x1x1_S1x2x4x1x1x1_1_2_3_4_5 S)) (ix6 0 g k n i 0)
      = max (R (ix5 0 g k n i)) (S (ix5 g k 0 0 0)) := by
  pointwise
theorem sum_form (R : FVec Ideal S1x2x4x16x128 .f32) (S : FVec Ideal S1x2x4x16x128x1 .f32) (g : Fin 2) (k : Fin 4) (n : Fin 16) (i : Fin 128) :
    addf (broadcastInDim S1x2x4x16x128x1 ![0, 1, 2, 3, 4] bcast_S1x2x4x16x128_S1x2x4x16x128x1_0_1_2_3_4 R) S (ix6 0 g k n i 0)
      = R (ix5 0 g k n i) + S (ix6 0 g k n i 0) := by
  pointwise

theorem top_at (g : Fin 2) (k : Fin 4) (n : Fin 16) (i : Fin 128) :
    (show FVec Ideal S1x2x4x16x128x1 .f32 from res_main_v160 V) (ix6 0 g k n i 0) = topOf (lg V g k n i) (sk V g k) := by
  unfold res_main_v160
  refine (max_form _ _ g k n i).trans (congrArg₂ max ?_ (sinks_at V g k))
  refine (reduce_last _ _ _ _ 0 g k n i).trans ?_
  exact congrArg₂ (fun z v => Finset.fold max z v Finset.univ) cNegInf (funext fun j => logit_at V g k n i j)

theorem num_at (g : Fin 2) (k : Fin 4) (n : Fin 16) (i : Fin 128) (j : Fin 256) :
    (show FVec Ideal S1x2x4x16x128x256 .f32 from res_main_v163 V) (ix6 0 g k n i j) = num (lg V g k n i) (sk V g k) j := by
  unfold num
  rw [← top_at, show lg V g k n i j = _ from (logit_at V g k n i j).symm]
  pointwise [res_main_v163]
theorem numSink_at (g : Fin 2) (k : Fin 4) (n : Fin 16) (i : Fin 128) :
    (show FVec Ideal S1x2x4x16x128x1 .f32 from res_main_v167 V) (ix6 0 g k n i 0) = numSink (lg V g k n i) (sk V g k) := by
  unfold numSink
  rw [← top_at, show sk V g k = _ from (sinks_at V g k).symm]
  pointwise [res_main_v167]
theorem den_at (g : Fin 2) (k : Fin 4) (n : Fin 16) (i : Fin 128) :
    (show FVec Ideal S1x2x4x16x128x1 .f32 from res_main_v170 V) (ix6 0 g k n i 0) = den (lg V g k n i) (sk V g k) := by
  unfold res_main_v170
  refine (sum_form _ _ g k n i).trans (congrArg₂ (· + ·) ?_ (numSink_at V g k n i))
  refine (sum_last _ 0 g k n i _ _).trans ?_
  rw [show (constant (F := Ideal) S_ .f32 0x00000000#32 (Shape.Idx.first h_S_) : EReal) = 0 from cZero, zero_add]
  exact Finset.sum_congr rfl fun j _ => num_at V g k n i j
theorem weight_at (g : Fin 2) (k : Fin 4) (n : Fin 16) (i : Fin 128) (j : Fin 256) :
    (show FVec Ideal S1x2x4x16x128x256 .f32 from res_main_v172 V) (ix6 0 g k n i j) = weight (args V) n (head g k) i j := by
  unfold weight
  rw [show num (logit (args V) n (head g k) i) ((args V).sink (head g k)) j = _ from (num_at V g k n i j).symm,
    show den (logit (args V) n (head g k) i) ((args V).sink (head g k)) = _ from (den_at V g k n i).symm]
  pointwise [res_main_v172]

/-- Head `h` as a group and a place in it. -/
theorem head_of (h : Fin 8) : head ⟨h.val / 4, by omega⟩ ⟨h.val % 4, by omega⟩ = h :=
  Fin.ext (by show h.val / 4 * 4 + h.val % 4 = h.val; omega)

theorem probs_at (n : Fin 16) (h : Fin 8) (i : Fin 128) (j : Fin 256) :
    (show FVec Ideal S16x8x128x256 .f32 from res_main_v185 V) (ix4 n h i j) = weight (args V) n h i j := by
  have e : (show FVec Ideal S16x8x128x256 .f32 from res_main_v185 V) (ix4 n h i j)
      = (show FVec Ideal S1x2x4x16x128x256 .f32 from res_main_v172 V) (ix6 0 ⟨h.val / 4, by omega⟩ ⟨h.val % 4, by omega⟩ n i j) := by
    pointwise [res_main_v185]
  rw [e, weight_at, head_of]

end Cert.MixerFwdRefIdeal.Ref
-- ==== Proof.MixFwdRefGate.lean ====
module

public import proofs.«01_k».proof.Proof.MixFwdRef
public import proofs.«01_k».proof.Proof.MixFwdResults

/-!
# The gate and the values of the forward mixer's reference

The normed halves, the cut weights, and a head's values.
-/

@[expose] public section

set_option maxRecDepth 16384

noncomputable section

namespace Cert.MixerFwdRefIdeal.Ref

open Idealize.ShloMosaic Idealize.ShloMosaic.TcCoe Idealize.SL.Sem StableHlo
open Cert.MixerFwdRefIdeal Cert.MixerFwdRefIdeal.Gen Cert.MixerFwdRefIdeal.Value Cert.MixFwd Cert.Reals

variable (V : Valuation τ sig (Elt Ideal))

/-! ## The gate -/

theorem gelu_at (r : Fin 2048) (l : Fin 1024) : (show FVec Ideal S1x2048x1024 .f32 from res_main_v14 V) (ix3 0 r l) = guv (args V) r l := by
  have e : ∀ r l, (show FVec Ideal S1x2048x1024 .f32 from res_main_v1 V) (ix3 0 r l) = (args V).z r ⟨l.val, by omega⟩ := by
    intro r l; pointwise [res_main_v1, res_main_v0, args]
  unfold guv gelu gcdf gtanh
  rw [← e]
  pointwise [res_main_v14]

theorem half_at (r : Fin 2048) (g : Fin 4) (l : Fin 128) :
    (show FVec Ideal S1x2048x4x128 .f32 from res_main_v51 V) (ix4 0 r g l) = vpart (args V) r g l := by
  unfold vpart
  rw [← gelu_at]
  pointwise [res_main_v51]

theorem zero_word : FloatOps.sitofp (F := Ideal) .f32 (0#32 : BitVec 32) = (0 : EReal) := by
  show (((0#32 : BitVec 32).toInt : ℝ) : EReal) = 0
  simp

/-- The spatial weights, cut to the past. -/
theorem tril_at (g : Fin 4) (i k : Fin 128) : Scalar.select (Scalar.select (IntOp.cmpi .sge (IntOp.addi (BitVec.ofNat 32 i.val) 0#32) (BitVec.ofNat 32 k.val)) 1#1 0#1)
    ((show FVec Ideal S1x4x128x128 .f32 from V (Proc.tc.devRef main_arg2)) (ix4 0 g i k)) (FloatOps.sitofp (F := Ideal) .f32 (0#32 : BitVec 32))
      = wtril (args V) g i k := by
  have h : ∀ i k : Fin 128, Scalar.select (IntOp.cmpi .sge (IntOp.addi (BitVec.ofNat 32 i.val) 0#32) (BitVec.ofNat 32 k.val)) 1#1 0#1
      = if k.val ≤ i.val then 1#1 else 0#1 := by decide +kernel
  rw [h, zero_word]
  unfold wtril
  by_cases hk : k.val ≤ i.val
  · rw [if_pos hk, if_pos hk]; exact if_pos rfl
  · rw [if_neg hk, if_neg hk]; exact if_neg (by decide)

/-- A group's second half, normed and scaled. -/
theorem norm_at (r : Fin 2048) (g : Fin 4) (l : Fin 128) :
    (show FVec Ideal S1x2048x4x128 .f32 from res_main_v51 V) (ix4 0 r g l)
      * Ideal.rsqrt (Ideal.div (∑ k, (show FVec Ideal S1x2048x4x128 .f32 from res_main_v51 V) (ix4 0 r g k) * (show FVec Ideal S1x2048x4x128 .f32 from res_main_v51 V) (ix4 0 r g k))
        (Ideal.ofBits .f32 0x43000000#32) + Ideal.ofBits .f32 0x358637BD#32)
      * (args V).gain ⟨g.val * 128 + l.val, by omega⟩ = vnorm (args V) r g l := by
  unfold vnorm
  simp only [half_at]

/-! ## The values -/

/-- The values of the two blocks. -/
def bandV (n : Fin 16) (j : Fin 256) (g : Fin 2) (x : Fin 64) : EReal :=
  if h : j.val < 128 then (show FVec Ideal S1x17x128x2x64 .f32 from res_main_v176 V) (ix5 0 ⟨n.val, by omega⟩ ⟨j.val, h⟩ g x)
  else (show FVec Ideal S1x17x128x2x64 .f32 from res_main_v176 V) (ix5 0 ⟨1 + n.val, by omega⟩ ⟨j.val - 128, by omega⟩ g x)
theorem past_bandV (n : Fin 16) (j : Fin 256) (g : Fin 2) (x : Fin 64) (h : 128 ≤ n.val * 128 + j.val) : bandV V n j g x = (args V).z (past n j) (vcol g x) := by
  unfold bandV
  by_cases hj : j.val < 128
  · rw [dif_pos hj]
    exact v_at V ⟨n.val, by omega⟩ ⟨j.val, hj⟩ g x h
  · rw [dif_neg hj]
    refine (v_at V ⟨1 + n.val, by omega⟩ ⟨j.val - 128, by omega⟩ g x (by show 128 ≤ (1 + n.val) * 128 + (j.val - 128); omega)).trans ?_
    exact congrArg (fun r => (args V).z r (vcol g x)) (Fin.ext (by show (1 + n.val) * 128 + (j.val - 128) - 128 = n.val * 128 + j.val - 128; omega))

theorem weight_none (hz : ∀ r l, IsReal ((args V).z r l)) (hs : ∀ h, IsReal ((args V).sink h)) (ht : ∀ b h, IsReal ((args V).tab b h))
    (n : Fin 16) (h : Fin 8) (i : Fin 128) (j : Fin 256) (hn : n.val = 0) (hj : j.val < 128) : weight (args V) n h i j = 0 := by
  have e : logit (args V) n h i j = ⊥ := by
    unfold logit
    rw [seen_first n i j hn hj]
    exact if_neg (by decide)
  unfold weight
  rw [num_bot (logit_lt hz ht n h i) (hs h) e, div_zero_num (logit_lt hz ht n h i) (hs h)]

theorem term_at (hz : ∀ r l, IsReal ((args V).z r l)) (hs : ∀ h, IsReal ((args V).sink h)) (ht : ∀ b h, IsReal ((args V).tab b h))
    (g : Fin 2) (k : Fin 4) (n : Fin 16) (i : Fin 128) (j : Fin 256) (d : Fin 64) :
    bandV V n j g d * (show FVec Ideal S1x2x4x16x128x256 .f32 from res_main_v172 V) (ix6 0 g k n i j)
      = weight (args V) n (head g k) i j * (args V).z (past n j) (vcol g d) := by
  rw [weight_at, mul_comm]
  by_cases h : 128 ≤ n.val * 128 + j.val
  · rw [past_bandV V n j g d h]
  · rw [weight_none V hz hs ht n _ i j (by omega) (by omega), zero_mul, zero_mul]

/-- A head's values, by its group and its place in it. -/
theorem values_at (hz : ∀ r l, IsReal ((args V).z r l)) (hs : ∀ h, IsReal ((args V).sink h)) (ht : ∀ b h, IsReal ((args V).tab b h))
    (g : Fin 2) (k : Fin 4) (h : Fin 8) (hh : h = head g k) (n : Fin 16) (i : Fin 128) (d : Fin 64) :
    ∑ j : Fin 256, bandV V n j g d * (show FVec Ideal S1x2x4x16x128x256 .f32 from res_main_v172 V) (ix6 0 g k n i j) = values (args V) n h i d := by
  unfold values
  have hg : kv h = g := by subst hh; exact Fin.ext (by show (g.val * 4 + k.val) / 4 = g.val; omega)
  rw [hg, hh]
  exact Finset.sum_congr rfl fun j _ => term_at V hz hs ht g k n i j d

end Cert.MixerFwdRefIdeal.Ref
-- ==== Proof.MixFwdRefForms.lean ====
module

public import proofs.«01_k».proof.Proof.MixFwdRefGate

/-!
# The forward mixer's reference at an index

The mixed columns, the sinks' shares and the gelu's slope.
-/

@[expose] public section

set_option maxRecDepth 16384

noncomputable section

namespace Cert.MixerFwdRefIdeal.Ref

open Idealize.ShloMosaic Idealize.ShloMosaic.TcCoe Idealize.SL.Sem StableHlo
open Cert.MixerFwdRefIdeal Cert.MixerFwdRefIdeal.Gen Cert.MixerFwdRefIdeal.Value Cert.MixFwd Cert.Reals

variable (V : Valuation τ sig (Elt Ideal))

/-- The reals the equation needs, of the arguments. -/
structure Finite (a : Args) : Prop where
  z : ∀ r l, IsReal (a.z r l)
  sink : ∀ h, IsReal (a.sink h)
  tab : ∀ b h, IsReal (a.tab b h)

/-- The gate's columns of the mixed rows, -/
theorem gate_at (r : Fin 2048) (l : Fin 1024) (h : l.val < 512) :
    (show FVec Ideal S1x2048x1024 .f32 from res_main_v14 V) (ix3 0 r l)
      * (∑ x : Fin 128, (show FVec Ideal S1x2048x4x128 .f32 from res_main_v51 V) (ix4 0 (row (blockOf r) x) ⟨l.val / 128, by omega⟩ ⟨l.val % 128, by omega⟩)
          * Ideal.rsqrt (Ideal.div (∑ k, (show FVec Ideal S1x2048x4x128 .f32 from res_main_v51 V) (ix4 0 (row (blockOf r) x) ⟨l.val / 128, by omega⟩ k)
              * (show FVec Ideal S1x2048x4x128 .f32 from res_main_v51 V) (ix4 0 (row (blockOf r) x) ⟨l.val / 128, by omega⟩ k))
            (Ideal.ofBits .f32 0x43000000#32) + Ideal.ofBits .f32 0x358637BD#32)
          * (args V).gain ⟨l.val / 128 * 128 + l.val % 128, by omega⟩
          * Scalar.select (Scalar.select (IntOp.cmpi .sge (IntOp.addi (BitVec.ofNat 32 (placeOf r).val) 0#32) (BitVec.ofNat 32 x.val)) 1#1 0#1)
              ((show FVec Ideal S1x4x128x128 .f32 from V (Proc.tc.devRef main_arg2)) (ix4 0 ⟨l.val / 128, by omega⟩ (placeOf r) x))
              (FloatOps.sitofp (F := Ideal) .f32 (0#32 : BitVec 32))
        + (args V).b ⟨l.val / 128, by omega⟩ (placeOf r)) = mixed (args V) r l := by
  unfold mixed
  rw [dif_pos h]
  unfold gated
  refine congrArg₂ (· * ·) ((gelu_at V r l).trans ?_) (congrArg₂ (· + ·) (Finset.sum_congr rfl fun x _ => ?_) rfl)
  · rw [row_of]
    exact congrArg (guv (args V) r) (Fin.ext (by show l.val = l.val / 128 * 128 + l.val % 128; omega))
  · rw [mul_comm]
    exact congrArg₂ (· * ·) (tril_at V ⟨l.val / 128, by omega⟩ (placeOf r) x)
      (norm_at V (row (blockOf r) x) ⟨l.val / 128, by omega⟩ ⟨l.val % 128, by omega⟩)

/-- and the values' columns. -/
theorem vals_at (hf : Finite (args V)) (r : Fin 2048) (l : Fin 1024) (h : ¬ l.val < 512) :
    (∑ x : Fin 128, (show FVec Ideal S1x17x128x2x64 .f32 from res_main_v176 V) (ix5 0 ⟨r.val / 128, by omega⟩ x ⟨(l.val - 512) / 256, by omega⟩ ⟨(l.val - 512) % 64, by omega⟩)
        * (show FVec Ideal S1x2x4x16x128x256 .f32 from res_main_v172 V)
          (ix6 0 ⟨(l.val - 512) / 256, by omega⟩ ⟨(l.val - 512) / 64 % 4, by omega⟩ (blockOf r) (placeOf r) ⟨x.val, by omega⟩))
      + ∑ x : Fin 128, (show FVec Ideal S1x17x128x2x64 .f32 from res_main_v176 V) (ix5 0 ⟨1 + r.val / 128, by omega⟩ x ⟨(l.val - 512) / 256, by omega⟩ ⟨(l.val - 512) % 64, by omega⟩)
        * (show FVec Ideal S1x2x4x16x128x256 .f32 from res_main_v172 V)
          (ix6 0 ⟨(l.val - 512) / 256, by omega⟩ ⟨(l.val - 512) / 64 % 4, by omega⟩ (blockOf r) (placeOf r) ⟨128 + x.val, by omega⟩)
      = mixed (args V) r l := by
  unfold mixed
  rw [dif_neg h]
  refine Eq.trans ?_ (values_at V hf.z hf.sink hf.tab ⟨(l.val - 512) / 256, by omega⟩ ⟨(l.val - 512) / 64 % 4, by omega⟩ ⟨(l.val - 512) / 64, by omega⟩
    (Fin.ext (by show (l.val - 512) / 64 = (l.val - 512) / 256 * 4 + (l.val - 512) / 64 % 4; omega)) (blockOf r) (placeOf r) ⟨(l.val - 512) % 64, by omega⟩)
  refine Eq.trans ?_ (Fin.sum_univ_add (a := 128) (b := 128) _).symm
  refine congrArg₂ (· + ·) (Finset.sum_congr rfl fun x _ => congrArg₂ (· * ·) ?_ rfl) (Finset.sum_congr rfl fun x _ => congrArg₂ (· * ·) ?_ rfl)
  · unfold bandV
    refine Eq.trans ?_ (dif_pos (show (Fin.castAdd 128 x).val < 128 from x.isLt)).symm
    rfl
  · unfold bandV
    refine Eq.trans ?_ (dif_neg (show ¬ (Fin.natAdd 128 x).val < 128 by show ¬ 128 + x.val < 128; omega)).symm
    refine congrArg (fun j => (show FVec Ideal S1x17x128x2x64 .f32 from res_main_v176 V) (ix5 0 _ j _ _)) (Fin.ext ?_)
    show x.val = 128 + x.val - 128
    omega

theorem share_at (r : Fin 2048) (l : Fin 128) (h : l.val < 8) :
    Ideal.div ((show FVec Ideal S1x2x4x16x128x1 .f32 from res_main_v167 V) (ix6 0 ⟨l.val / 4, by omega⟩ ⟨l.val % 4, by omega⟩ (blockOf r) (placeOf r) 0))
      ((show FVec Ideal S1x2x4x16x128x1 .f32 from res_main_v170 V) (ix6 0 ⟨l.val / 4, by omega⟩ ⟨l.val % 4, by omega⟩ (blockOf r) (placeOf r) 0))
      = shareRow (args V) r l := by
  unfold shareRow
  rw [dif_pos h, numSink_at, den_at]
  unfold lg sk
  rw [head_of ⟨l.val, h⟩]
  rfl

theorem slope_at (r : Fin 2048) (l : Fin 1024) :
    Ideal.ofBits .f32 0x3F000000#32 * (1 + (show FVec Ideal S1x2048x1024 .f32 from res_main_v23 V) (ix3 0 r l))
      + (show FVec Ideal S1x2048x1024 .f32 from res_main_v15 V) (ix3 0 r l)
        * (Ideal.ofBits .f32 0x3F000000#32 * (1 - (show FVec Ideal S1x2048x1024 .f32 from res_main_v23 V) (ix3 0 r l) * (show FVec Ideal S1x2048x1024 .f32 from res_main_v23 V) (ix3 0 r l)))
        * (Ideal.ofBits .f32 0x3F4C422A#32 * (1 + Ideal.ofBits .f32 0x3E095D4F#32
          * ((show FVec Ideal S1x2048x1024 .f32 from res_main_v15 V) (ix3 0 r l) * (show FVec Ideal S1x2048x1024 .f32 from res_main_v15 V) (ix3 0 r l))))
      = Cert.MixFwd.slope ((args V).z r ⟨l.val, by omega⟩) := by
  have e : (show FVec Ideal S1x2048x1024 .f32 from res_main_v15 V) (ix3 0 r l) = (args V).z r ⟨l.val, by omega⟩ := by
    pointwise [res_main_v15, res_main_v0, args]
  have t : (show FVec Ideal S1x2048x1024 .f32 from res_main_v23 V) (ix3 0 r l)
      = gtanh ((show FVec Ideal S1x2048x1024 .f32 from res_main_v15 V) (ix3 0 r l)) := by
    unfold gtanh; pointwise [res_main_v23]
  unfold Cert.MixFwd.slope gcdf
  rw [t, e]

end Cert.MixerFwdRefIdeal.Ref
-- ==== Proof.MixFwdRefMix.lean ====
module

public import proofs.«01_k».proof.Proof.MixFwdRefForms

/-!
# What the reference of the forward mixer returns

Its six results, and its arguments as they were.
-/

@[expose] public section

set_option maxRecDepth 16384

noncomputable section

namespace Cert.MixerFwdRefIdeal.Ref

open Idealize.ShloMosaic Idealize.ShloMosaic.TcCoe Idealize.SL.Sem StableHlo
open Cert.MixerFwdRefIdeal Cert.MixerFwdRefIdeal.Gen Cert.MixerFwdRefIdeal.Value Cert.MixFwd Cert.Reals

set_option maxHeartbeats 1000000 in
theorem result (m : (ℓ : Loc nD τ sig) → Buf (Elt Ideal) ℓ) (ρ : Dev nD → PrngReg) (hf : ∀ c : Dev nD, Finite (args (launchContents m c))) :
    θ_run defs (onTc (τ := τ) (main (F := Ideal))) ⟨m, fun _ => 0, ρ⟩ fun r => ∀ c : Dev nD,
      (r.2.mem ((c.tc : Thread nD τ).loc main_v189) = mixArr (args (launchContents m c))
      ∧ r.2.mem ((c.tc : Thread nD τ).loc main_v190) = probsArr (args (launchContents m c))
      ∧ r.2.mem ((c.tc : Thread nD τ).loc main_v192) = probsTArr (args (launchContents m c))
      ∧ r.2.mem ((c.tc : Thread nD τ).loc main_v193) = shareArr (args (launchContents m c))
      ∧ r.2.mem ((c.tc : Thread nD τ).loc main_v194) = guvArr (args (launchContents m c))
      ∧ r.2.mem ((c.tc : Thread nD τ).loc main_v195) = slopeArr (args (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨⟨(h c).1.trans ?_, (h c).2.1.trans ?_, (h c).2.2.1.trans ?_, (h c).2.2.2.1.trans ?_,
    (h c).2.2.2.2.1.trans ?_, (h c).2.2.2.2.2.1.trans ?_⟩, (h c).2.2.2.2.2.2⟩) (run m ρ)
  all_goals clear h
  · funext y; idx_vars y; unfold mixArr; pointwise []
    by_cases h : y1.val < 512
    · exact (dif_pos h).trans (gate_at (launchContents m c) y0 y1 h)
    · exact (dif_neg h).trans (vals_at (launchContents m c) (hf c) y0 y1 h)
  · funext y; idx_vars y
    exact probs_at (launchContents m c) y0 y1 y2 y3
  · funext y; idx_vars y; unfold probsTArr; pointwise []
    exact probs_at (launchContents m c) y0 y1 y3 y2
  · funext y; idx_vars y; unfold shareArr; pointwise []
    by_cases h : y1.val < 8
    · exact (dif_pos h).trans (share_at (launchContents m c) y0 y1 h)
    · exact ((dif_neg h).trans zero_word).trans (dif_neg h).symm
  · funext y; idx_vars y; unfold guvArr; pointwise []
    exact gelu_at (launchContents m c) y0 y1
  · funext y; idx_vars y; unfold slopeArr; pointwise []
    exact slope_at (launchContents m c) y0 y1

end Cert.MixerFwdRefIdeal.Ref
-- ==== Proof.MixFwdClaims.lean ====
module

public import proofs.«01_k».proof.Defs
public import proofs.«01_k».proof.Proof.Gen.MixerFwd.Frame
public import proofs.«01_k».proof.Proof.Gen.MixerFwdIdeal.Value
public import proofs.«01_k».proof.Proof.Gen.Pre_mixer_fwd_finite
public import proofs.«01_k».proof.Proof.MixFwdArrays
public import proofs.«01_k».proof.Proof.MixFwdRefMix
public import Idealize.ShloMosaic.Lib.Claim
public import Idealize.ShloMosaic.Lib.Quiescent

/-!
# The claims about the forward mixer
-/

@[expose] public section

set_option maxRecDepth 16384

noncomputable section

namespace Cert.Pre_mixer_fwd_finite

open Idealize.ShloMosaic Cert.Reals

/-- The precondition: the projection, the sinks and the table are arrays of real numbers. -/
theorem reals (z : FVec Ideal S2048x1792 .f32) (g : FVec Ideal S1x512 .f32) (w : FVec Ideal S1x4x128x128 .f32) (b : FVec Ideal S1x4x128 .f32)
    (s : FVec Ideal S1x8 .f32) (t : FVec Ideal S32x8 .f32) (h : fn (F := Ideal) z g w b s t = fun _ => 1#1) :
    (∀ i, IsReal (z i)) ∧ (∀ i, IsReal (s i)) ∧ ∀ i, IsReal (t i) := by
  have h0 := congrFun h ix0
  unfold fn at h0
  simp only [andi, IntOp.andi_eq_one] at h0
  obtain ⟨⟨ha, hb⟩, hc⟩ := h0
  haveI : Subsingleton S_.Idx := ⟨fun a b => funext fun i => i.elim0⟩
  exact ⟨isReal_of_all _ _ _ _ _ _ ha, isReal_of_all _ _ _ _ _ _ hb, isReal_of_all _ _ _ _ _ _ hc⟩

end Cert.Pre_mixer_fwd_finite

namespace Cert.Proof.MixerFwd

open Idealize.ShloMosaic Idealize.ShloMosaic.TcCoe Idealize.SL.Sem
open Cert.MixerFwdIdeal.Block

/-- The kernel's program runs and ends quiescent, its arguments unchanged. -/
theorem frame : Cert.quiescent_MixerFwd := fun m ρ _ => Cert.MixerFwd.Gen.frame m ρ
/-- So does its idealization, -/
theorem frameIdeal : Cert.quiescent_MixerFwdIdeal := fun m ρ _ => Cert.MixerFwdIdeal.Gen.frame m ρ
/-- and the reference. -/
theorem frameRef : Cert.quiescent_MixerFwdRefIdeal := fun m ρ _ =>
  (θ_run Cert.MixerFwdRefIdeal.defs _ _).mono (fun r h => ⟨fun c => (h c).2.2.2.2.2.2,
      Idealize.ShloMosaic.sem_eq_zero_of_no_sems (by decide) r.2⟩)
    (Cert.MixerFwdRefIdeal.Value.run (F := Ideal) m ρ)

/-- The literal that stands for −∞ is named so. -/
theorem preserves : Cert.preserves_MixerFwd_MixerFwdIdeal :=
  IdealRules.named_const.statement Cert.MixerFwdIdeal.κ "masked" .f32 0xF149F2CA#32 ⊥ rfl

/-- Where the projection, the sinks and the table are real, the kernel's six results are the reference's. -/
theorem algebraic : Cert.algebraic_MixerFwdIdeal_MixerFwdRefIdeal_pre_mixer_fwd_finite := by
  intro m g m' g' hpre hagree
  have ea : ∀ c : Dev Cert.MixerFwdIdeal.nD, Cert.MixerFwdRefIdeal.Ref.args (StableHlo.launchContents m' c) = args m c := by
    intro c
    obtain ⟨e0, e1, e2, e3, e4, e5⟩ := hagree c
    unfold args
    rw [← e0, ← e1, ← e2, ← e3, ← e4, ← e5]
    rfl
  have hf : ∀ c : Dev Cert.MixerFwdIdeal.nD, Cert.MixerFwdRefIdeal.Ref.Finite (args m c) := by
    intro c
    obtain ⟨h1, h2, h3⟩ := Cert.Pre_mixer_fwd_finite.reals _ _ _ _ _ _ (hpre c)
    exact ⟨fun _ _ => h1 _, fun _ => h2 _, fun _ _ => h3 _⟩
  refine ⟨_, _, _, _, _, _, Cert.MixerFwdIdeal.Value.run_blocks m g,
    (θ_run Cert.MixerFwdRefIdeal.defs _ _).mono (fun r h c => ⟨(h c).1.1.trans ?_, (h c).1.2.1.trans ?_, (h c).1.2.2.1.trans ?_,
        (h c).1.2.2.2.1.trans ?_, (h c).1.2.2.2.2.1.trans ?_, (h c).1.2.2.2.2.2.trans ?_, (h c).2⟩)
      (Cert.MixerFwdRefIdeal.Ref.result m' g' fun c => (ea c).symm ▸ hf c)⟩
  all_goals rw [ea c]
  · exact (mix_array m c (hf c).z (hf c).sink (hf c).tab).symm
  · exact (weights_array m c (hf c).z (hf c).sink (hf c).tab).symm
  · exact (weightsT_array m c (hf c).z (hf c).sink (hf c).tab).symm
  · exact (share_array m c (hf c).z (hf c).sink (hf c).tab).symm
  · exact (guv_array m c).symm
  · exact (slope_array m c).symm

end Cert.Proof.MixerFwd
end
-- ==== Proof.InProjBlock.lean ====
module

public import proofs.«01_k».proof.Proof.InBwdEq
public import proofs.«01_k».proof.Proof.Gen.InProjIdeal.Value
public import Idealize.ShloMosaic.Lib.Pipeline.ValueKit
public import Idealize.ShloMosaic.Lib.Pipeline.ReadBack
public import Idealize.ShloMosaic.Lib.Pointwise

/-!
# What the input projection's kernel leaves in its result arrays

Each of its eight points norms 256 rows and multiplies them by the weight.
-/

@[expose] public section

set_option maxRecDepth 16384

noncomputable section

namespace Cert.InProjIdeal.Block

open Idealize.ShloMosaic Idealize.ShloMosaic.TcCoe Idealize.SL.Sem
open Idealize.ShloMosaic.Pipeline (Dat)
open Cert.InProjIdeal Cert.InProjIdeal.Gen Cert.InBwdEq

variable (m : (ℓ : Loc nD τ sig) → Buf (Elt Ideal) ℓ)

/-- A lane of a row's norm with a gain. -/
def normed (x g : Fin 1024 → EReal) (l : Fin 1024) : EReal := x l * Ideal.rsqrt (meanSq x) * g l

section
variable (x : FVec Ideal S256x1024 .f32) (g : FVec Ideal S1x1024 .f32)

/-- A point's normed rows -/
theorem pay1_at (r : Fin 256) (l : Fin 1024) :
    k0_pay1 (F := Ideal) x g (ix2 r l) = normed (fun k => x (ix2 r k)) (fun k => g (ix2 0 k)) l := by
  pointwise [k0_pay1, normed]
theorem pay2_at (r : Fin 256) (l : Fin 1024) :
    k0_pay2 (F := Ideal) x g (ix2 r l) = normed (fun k => x (ix2 r k)) (fun k => g (ix2 0 k)) l := by
  pointwise [k0_pay2, k0_pay1, normed]
/-- and their product with the weight, whose rows are the columns of the argument. -/
theorem pay3_at (w : FVec Ideal S1792x1024 .bf16) (r : Fin 256) (l : Fin 1792) :
    k0_pay3 (F := Ideal) x g w (ix2 r l) = ∑ k, k0_pay1 (F := Ideal) x g (ix2 r k) * w (ix2 l k) := by
  pointwise [k0_pay3]
end

/-- The windows' block indices at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 8 :=
  (by decide +kernel : ∀ t : Fin grid0.N, _)

/-- Row `r` of point `t`'s block as a row of the arrays. -/
def row (t : Fin cfg0.N) (r : Fin 256) : Fin 2048 := ⟨t.val * 256 + r.val, by have := (idx t).2.2.2.2.2; omega⟩

/-- The blocks of point `t`, read in the argument arrays: the rows, -/
theorem read0 (c : Dev nD) (t : Fin cfg0.N) (r : Fin 256) (k : Fin 1024) :
    (show FVec Ideal S256x1024 .f32 from iblk m c 0 t) (ix2 r k)
      = (show FVec Ideal S2048x1024 .f32 from m ((c : Thread nD τ).loc main_arg0)) (ix2 (row t r) k) := by
  blk_point [iblk, V, idx t, row]
/-- the gain -/
theorem read1 (c : Dev nD) (t : Fin cfg0.N) (k : Fin 1024) :
    (show FVec Ideal S1x1024 .f32 from iblk m c 1 t) (ix2 0 k)
      = (show FVec Ideal S1x1024 .f32 from m ((c : Thread nD τ).loc main_arg1)) (ix2 0 k) := by
  blk_point [iblk, V, idx t]
/-- and the weight. -/
theorem read2 (c : Dev nD) (t : Fin cfg0.N) (l : Fin 1792) (k : Fin 1024) :
    (show FVec Ideal S1792x1024 .bf16 from iblk m c 2 t) (ix2 l k)
      = (show FVec Ideal S1024x1792 .f32 from m ((c : Thread nD τ).loc main_arg2)) (ix2 k l) := by
  blk_point [iblk, V, idx t]

/-- The normed rows of the whole arrays, -/
def hn (x : FVec Ideal S2048x1024 .f32) (g : FVec Ideal S1x1024 .f32) (r : Fin 2048) (l : Fin 1024) : EReal :=
  normed (fun k => x (ix2 r k)) (fun k => g (ix2 0 k)) l
/-- and their products. -/
def zOf (x : FVec Ideal S2048x1024 .f32) (g : FVec Ideal S1x1024 .f32) (w : FVec Ideal S1024x1792 .f32) (r : Fin 2048) (l : Fin 1792) : EReal :=
  ∑ k, hn x g r k * w (ix2 k l)

theorem rows (c : Dev nD) (t : Fin cfg0.N) (r : Fin 256) (l : Fin 1024) :
    normed (fun k => (show FVec Ideal S256x1024 .f32 from iblk m c 0 t) (ix2 r k)) (fun k => (show FVec Ideal S1x1024 .f32 from iblk m c 1 t) (ix2 0 k)) l
      = hn (m ((c : Thread nD τ).loc main_arg0)) (m ((c : Thread nD τ).loc main_arg1)) (row t r) l :=
  congrArg₂ (fun a b => normed a b l) (funext fun k => read0 m c t r k) (funext fun k => read1 m c t k)

theorem hn_point (c : Dev nD) (t : Fin cfg0.N) (y : S256x1024.Idx) : k0_pay2 (F := Ideal) (iblk m c 0 t) (iblk m c 1 t) y
    = hn (m ((c : Thread nD τ).loc main_arg0)) (m ((c : Thread nD τ).loc main_arg1)) (row t (y 0)) (y 1) :=
  (congrArg _ (eq_ix2 y)).trans ((pay2_at _ _ (y 0) (y 1)).trans (rows m c t (y 0) (y 1)))
theorem z_point (c : Dev nD) (t : Fin cfg0.N) (y : S256x1792.Idx) : k0_pay3 (F := Ideal) (iblk m c 0 t) (iblk m c 1 t) (iblk m c 2 t) y
    = zOf (m ((c : Thread nD τ).loc main_arg0)) (m ((c : Thread nD τ).loc main_arg1)) (m ((c : Thread nD τ).loc main_arg2)) (row t (y 0)) (y 1) :=
  (congrArg _ (eq_ix2 y)).trans ((pay3_at _ _ _ (y 0) (y 1)).trans (Finset.sum_congr rfl fun k _ =>
    congrArg₂ (· * ·) ((pay1_at _ _ (y 0) k).trans (rows m c t (y 0) k)) (read2 m c t (y 1) k)))

/-- The projected rows after the run, -/
theorem z_array (c : Dev nD) : (dats m 0 c).arrAt 3 cfg0.N
    = (fun i => zOf (m ((c : Thread nD τ).loc main_arg0)) (m ((c : Thread nD τ).loc main_arg1)) (m ((c : Thread nD τ).loc main_arg2)) (i 0) (i 1)
        : FVec Ideal S2048x1792 .f32) := by
  refine (dats m 0 c).arrAt_eq_of_covers 3 _ (by decide +kernel) fun t _ y => ?_
  have he : ((cfg0.win 3).blk t).view.emb y = (ix2 (row t (y 0)) (y 1) : S2048x1792.Idx) := by
    blk_ext [idx t, row]
  have hp := z_point m c t y
  blk_simp
  rw [after0_3, he]
  frame_out
  exact hp
/-- and the normed ones. -/
theorem hn_array (c : Dev nD) : (dats m 0 c).arrAt 4 cfg0.N
    = (fun i => hn (m ((c : Thread nD τ).loc main_arg0)) (m ((c : Thread nD τ).loc main_arg1)) (i 0) (i 1) : FVec Ideal S2048x1024 .bf16) := by
  refine (dats m 0 c).arrAt_eq_of_covers 4 _ (by decide +kernel) fun t _ y => ?_
  have he : ((cfg0.win 4).blk t).view.emb y = (ix2 (row t (y 0)) (y 1) : S2048x1024.Idx) := by
    blk_ext [idx t, row]
  have hp := hn_point m c t y
  blk_simp
  rw [after0_4, he]
  frame_out
  exact hp

end Cert.InProjIdeal.Block
end
-- ==== Proof.InProjClaims.lean ====
module

public import proofs.«01_k».proof.Defs
public import proofs.«01_k».proof.Proof.Gen.InProj.Frame
public import proofs.«01_k».proof.Proof.InProjBlock
public import proofs.«01_k».proof.Proof.Gen.InProjRefIdeal.Run
public import Idealize.ShloMosaic.Lib.Claim
public import Idealize.ShloMosaic.Lib.Quiescent

/-!
# The claims about the input projection
-/

@[expose] public section

set_option maxRecDepth 16384

noncomputable section

namespace Cert.Proof.InProj

open Idealize.ShloMosaic Idealize.ShloMosaic.TcCoe Idealize.SL.Sem
open Cert.InProjIdeal.Block Cert.InBwdEq

/-- The kernel's program runs and ends quiescent, its arguments unchanged. -/
theorem frame : Cert.quiescent_InProj := fun m ρ _ => Cert.InProj.Gen.frame m ρ
/-- So does its idealization, -/
theorem frameIdeal : Cert.quiescent_InProjIdeal := fun m ρ _ => Cert.InProjIdeal.Gen.frame m ρ
/-- and the reference. -/
theorem frameRef : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run (F := Ideal) m ρ)

section
open Cert.InProjRefIdeal Cert.InProjRefIdeal.Gen

/-- The reference's norm of rows `h` with the gain `g`, -/
def rms (h : FVec Ideal S2048x1024 .f32) (g : FVec Ideal S1x1024 .f32) : FVec Ideal S2048x1024 .f32 :=
  mulf (mulf h (broadcastInDim S2048x1024 ![0, 1] bcast_S2048x1_S2048x1024_0_1
      (Host.rsqrt (addf (Host.divf (broadcastInDim S2048x1 ![0] bcast_S2048_S2048x1_0
          (Host.reduceAdd (mulf h h) (constant S_ .f32 0x00000000#32) reducesTo_S2048x1024_S2048_d1 h_S_))
        (broadcastInDim S2048x1 ![] bcast_S_S2048x1 (constant S_ .f32 0x44800000#32)))
        (broadcastInDim S2048x1 ![] bcast_S_S2048x1 (constant S_ .f32 0x358637BD#32))))))
    (broadcastInDim S2048x1024 ![0, 1] bcast_S1x1024_S2048x1024_0_1 g)
/-- at a row and a lane. -/
theorem rms_at (h : FVec Ideal S2048x1024 .f32) (g : FVec Ideal S1x1024 .f32) (r : Fin 2048) (l : Fin 1024) :
    rms h g (ix2 r l) = h (ix2 r l) * Ideal.rsqrt (meanSq fun k => h (ix2 r k)) * g (ix2 0 l) := by
  pointwise [rms]

variable (x : FVec Ideal S2048x1024 .f32) (g : FVec Ideal S1x1024 .f32) (w : FVec Ideal S1024x1792 .f32)

/-- The reference's first result -/
theorem z_result : Host.dotGeneral dot_S2048x1024_S1024x1792_S2048x1792_1_0_0_1_n_n none (rms x g) w
    = (fun i => zOf x g w (i 0) (i 1) : FVec Ideal S2048x1792 .f32) := by
  funext i
  idx_vars i
  pointwise [zOf, rms_at, hn, normed]
/-- and its second. -/
theorem hn_result : truncf .bf16 (rms x g) bitsLt_bf16_f32 = (fun i => hn x g (i 0) (i 1) : FVec Ideal S2048x1024 .bf16) := by
  funext i
  idx_vars i
  pointwise [rms_at, hn, normed]
end

/-- The kernel's results are the reference's, for all arguments. -/
theorem algebraic : Cert.algebraic_InProjIdeal_InProjRefIdeal := by
  intro m g m' g' _ hagree
  refine ⟨_, _, Cert.InProjIdeal.Value.run_blocks m g,
    (θ_run Cert.InProjRefIdeal.defs _ _).mono (fun r h c => ⟨(h c).1.trans ?_, (h c).2.1.trans ?_, (h c).2.2⟩)
      (Cert.InProjRefIdeal.Value.run m' g')⟩
  · obtain ⟨e0, e1, e2⟩ := hagree c
    rw [e0, e1, e2, z_array m c]
    exact z_result _ _ _
  · obtain ⟨e0, e1, e2⟩ := hagree c
    rw [e0, e1, hn_array m c]
    exact hn_result _ _

end Cert.Proof.InProj
end
-- ==== Proof.OutProjBlock.lean ====
module

public import proofs.«01_k».proof.Proof.InBwdEq
public import proofs.«01_k».proof.Proof.Gen.OutProjIdeal.Value
public import Idealize.ShloMosaic.Lib.Pipeline.ValueKit
public import Idealize.ShloMosaic.Lib.Pipeline.ReadBack
public import Idealize.ShloMosaic.Lib.Pointwise

/-!
# What the output projection's kernel leaves in its result arrays

Each of its two points adds 1024 projected rows to the stream and norms the sums.
-/

@[expose] public section

set_option maxRecDepth 16384

noncomputable section

namespace Cert.OutProjIdeal.Block

open Idealize.ShloMosaic Idealize.ShloMosaic.TcCoe Idealize.SL.Sem
open Idealize.ShloMosaic.Pipeline (Dat)
open Cert.OutProjIdeal Cert.OutProjIdeal.Gen Cert.InBwdEq

variable (m : (ℓ : Loc nD τ sig) → Buf (Elt Ideal) ℓ)

section
variable (x : FVec Ideal S1024x1024 .f32) (u w : FVec Ideal S1024x1024 .bf16) (g : FVec Ideal S1x1024 .f32)

/-- A point's rows of the stream, -/
theorem pay1_at (r l : Fin 1024) : k0_pay1 (F := Ideal) x u w (ix2 r l) = x (ix2 r l) + ∑ k, u (ix2 r k) * w (ix2 k l) := by
  pointwise [k0_pay1]
theorem pay2_at (r l : Fin 1024) : k0_pay2 (F := Ideal) x u w (ix2 r l) = k0_pay1 (F := Ideal) x u w (ix2 r l) := by
  pointwise [k0_pay2]
/-- normed, -/
theorem pay4_at (r l : Fin 1024) : k0_pay4 (F := Ideal) x u w g (ix2 r l)
    = k0_pay1 (F := Ideal) x u w (ix2 r l) * Ideal.rsqrt (meanSq fun k => k0_pay1 (F := Ideal) x u w (ix2 r k)) * g (ix2 0 l) := by
  pointwise [k0_pay4, k0_pay3]
/-- and transposed. -/
theorem pay5_at (l r : Fin 1024) : k0_pay5 (F := Ideal) x u w g (ix2 l r)
    = k0_pay1 (F := Ideal) x u w (ix2 r l) * Ideal.rsqrt (meanSq fun k => k0_pay1 (F := Ideal) x u w (ix2 r k)) * g (ix2 0 l) := by
  pointwise [k0_pay5, k0_pay3]
end

/-- The windows' block indices at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, t.val] ∧ t.val < 2 :=
  (by decide +kernel : ∀ t : Fin grid0.N, _)

/-- Row `r` of point `t`'s block as a row of the arrays. -/
def row (t : Fin cfg0.N) (r : Fin 1024) : Fin 2048 := ⟨t.val * 1024 + r.val, by have := (idx t).2.2.2.2.2.2.2; omega⟩

/-- The blocks of point `t`, read in the argument arrays: the stream, -/
theorem read0 (c : Dev nD) (t : Fin cfg0.N) (r k : Fin 1024) :
    (show FVec Ideal S1024x1024 .f32 from iblk m c 0 t) (ix2 r k)
      = (show FVec Ideal S2048x1024 .f32 from m ((c : Thread nD τ).loc main_arg0)) (ix2 (row t r) k) := by
  blk_point [iblk, V, idx t, row]
/-- the mixed columns, -/
theorem read1 (c : Dev nD) (t : Fin cfg0.N) (r k : Fin 1024) :
    (show FVec Ideal S1024x1024 .bf16 from iblk m c 1 t) (ix2 r k)
      = (show FVec Ideal S2048x1024 .f32 from m ((c : Thread nD τ).loc main_arg1)) (ix2 (row t r) k) := by
  blk_point [iblk, V, idx t, row]
/-- the weight -/
theorem read2 (c : Dev nD) (t : Fin cfg0.N) (k l : Fin 1024) :
    (show FVec Ideal S1024x1024 .bf16 from iblk m c 2 t) (ix2 k l)
      = (show FVec Ideal S1024x1024 .f32 from m ((c : Thread nD τ).loc main_arg2)) (ix2 k l) := by
  blk_point [iblk, V, idx t]
/-- and the gain. -/
theorem read3 (c : Dev nD) (t : Fin cfg0.N) (k : Fin 1024) :
    (show FVec Ideal S1x1024 .f32 from iblk m c 3 t) (ix2 0 k)
      = (show FVec Ideal S1x1024 .f32 from m ((c : Thread nD τ).loc main_arg3)) (ix2 0 k) := by
  blk_point [iblk, V, idx t]

/-- The stream after the projection, of the whole arrays, -/
def h1 (x u : FVec Ideal S2048x1024 .f32) (w : FVec Ideal S1024x1024 .f32) (r : Fin 2048) (l : Fin 1024) : EReal :=
  x (ix2 r l) + ∑ k, u (ix2 r k) * w (ix2 k l)
/-- and its norm. -/
def hn (x u : FVec Ideal S2048x1024 .f32) (w : FVec Ideal S1024x1024 .f32) (g : FVec Ideal S1x1024 .f32) (r : Fin 2048) (l : Fin 1024) : EReal :=
  h1 x u w r l * Ideal.rsqrt (meanSq (h1 x u w r)) * g (ix2 0 l)

theorem rows (c : Dev nD) (t : Fin cfg0.N) (r l : Fin 1024) :
    k0_pay1 (F := Ideal) (iblk m c 0 t) (iblk m c 1 t) (iblk m c 2 t) (ix2 r l) = h1 (m ((c : Thread nD τ).loc main_arg0)) (m ((c : Thread nD τ).loc main_arg1)) (m ((c : Thread nD τ).loc main_arg2)) (row t r) l :=
  (pay1_at _ _ _ r l).trans (congrArg₂ (· + ·) (read0 m c t r l)
    (Finset.sum_congr rfl fun k _ => congrArg₂ (· * ·) (read1 m c t r k) (read2 m c t k l)))
theorem normed (c : Dev nD) (t : Fin cfg0.N) (r l : Fin 1024) :
    k0_pay1 (F := Ideal) (iblk m c 0 t) (iblk m c 1 t) (iblk m c 2 t) (ix2 r l)
        * Ideal.rsqrt (meanSq fun k => k0_pay1 (F := Ideal) (iblk m c 0 t) (iblk m c 1 t) (iblk m c 2 t) (ix2 r k))
        * (show FVec Ideal S1x1024 .f32 from iblk m c 3 t) (ix2 0 l) = hn (m ((c : Thread nD τ).loc main_arg0)) (m ((c : Thread nD τ).loc main_arg1)) (m ((c : Thread nD τ).loc main_arg2)) (m ((c : Thread nD τ).loc main_arg3)) (row t r) l :=
  congrArg₂ (· * ·) (congrArg₂ (· * ·) (rows m c t r l)
    (congrArg (fun f => Ideal.rsqrt (meanSq f)) (funext fun k => rows m c t r k))) (read3 m c t l)

theorem h1_point (c : Dev nD) (t : Fin cfg0.N) (y : S1024x1024.Idx) :
    k0_pay2 (F := Ideal) (iblk m c 0 t) (iblk m c 1 t) (iblk m c 2 t) y = h1 (m ((c : Thread nD τ).loc main_arg0)) (m ((c : Thread nD τ).loc main_arg1)) (m ((c : Thread nD τ).loc main_arg2)) (row t (y 0)) (y 1) :=
  (congrArg _ (eq_ix2 y)).trans ((pay2_at _ _ _ (y 0) (y 1)).trans (rows m c t (y 0) (y 1)))
theorem hn_point (c : Dev nD) (t : Fin cfg0.N) (y : S1024x1024.Idx) :
    k0_pay4 (F := Ideal) (iblk m c 0 t) (iblk m c 1 t) (iblk m c 2 t) (iblk m c 3 t) y = hn (m ((c : Thread nD τ).loc main_arg0)) (m ((c : Thread nD τ).loc main_arg1)) (m ((c : Thread nD τ).loc main_arg2)) (m ((c : Thread nD τ).loc main_arg3)) (row t (y 0)) (y 1) :=
  (congrArg _ (eq_ix2 y)).trans ((pay4_at _ _ _ _ (y 0) (y 1)).trans (normed m c t (y 0) (y 1)))
theorem hnt_point (c : Dev nD) (t : Fin cfg0.N) (y : S1024x1024.Idx) :
    k0_pay5 (F := Ideal) (iblk m c 0 t) (iblk m c 1 t) (iblk m c 2 t) (iblk m c 3 t) y = hn (m ((c : Thread nD τ).loc main_arg0)) (m ((c : Thread nD τ).loc main_arg1)) (m ((c : Thread nD τ).loc main_arg2)) (m ((c : Thread nD τ).loc main_arg3)) (row t (y 1)) (y 0) :=
  (congrArg _ (eq_ix2 y)).trans ((pay5_at _ _ _ _ (y 0) (y 1)).trans (normed m c t (y 1) (y 0)))

/-- The stream after the run, -/
theorem h1_array (c : Dev nD) : (dats m 0 c).arrAt 4 cfg0.N = (fun i => h1 (m ((c : Thread nD τ).loc main_arg0)) (m ((c : Thread nD τ).loc main_arg1)) (m ((c : Thread nD τ).loc main_arg2)) (i 0) (i 1) : FVec Ideal S2048x1024 .f32) := by
  refine (dats m 0 c).arrAt_eq_of_covers 4 _ (by decide +kernel) fun t _ y => ?_
  have he : ((cfg0.win 4).blk t).view.emb y = (ix2 (row t (y 0)) (y 1) : S2048x1024.Idx) := by
    blk_ext [idx t, row]
  have hp := h1_point m c t y
  blk_simp
  rw [after0_4, he]
  frame_out
  exact hp
/-- its norm -/
theorem hn_array (c : Dev nD) : (dats m 0 c).arrAt 5 cfg0.N = (fun i => hn (m ((c : Thread nD τ).loc main_arg0)) (m ((c : Thread nD τ).loc main_arg1)) (m ((c : Thread nD τ).loc main_arg2)) (m ((c : Thread nD τ).loc main_arg3)) (i 0) (i 1) : FVec Ideal S2048x1024 .bf16) := by
  refine (dats m 0 c).arrAt_eq_of_covers 5 _ (by decide +kernel) fun t _ y => ?_
  have he : ((cfg0.win 5).blk t).view.emb y = (ix2 (row t (y 0)) (y 1) : S2048x1024.Idx) := by
    blk_ext [idx t, row]
  have hp := hn_point m c t y
  blk_simp
  rw [after0_5, he]
  frame_out
  exact hp
/-- and the norm transposed. -/
theorem hnt_array (c : Dev nD) : (dats m 0 c).arrAt 6 cfg0.N = (fun i => hn (m ((c : Thread nD τ).loc main_arg0)) (m ((c : Thread nD τ).loc main_arg1)) (m ((c : Thread nD τ).loc main_arg2)) (m ((c : Thread nD τ).loc main_arg3)) (i 1) (i 0) : FVec Ideal S1024x2048 .bf16) := by
  refine (dats m 0 c).arrAt_eq_of_covers 6 _ (by decide +kernel) fun t _ y => ?_
  have he : ((cfg0.win 6).blk t).view.emb y = (ix2 (y 0) (row t (y 1)) : S1024x2048.Idx) := by
    blk_ext [idx t, row]
  have hp := hnt_point m c t y
  blk_simp
  rw [after0_6, he]
  frame_out
  exact hp

end Cert.OutProjIdeal.Block
end
-- ==== Proof.OutProjClaims.lean ====
module

public import proofs.«01_k».proof.Defs
public import proofs.«01_k».proof.Proof.Gen.OutProj.Frame
public import proofs.«01_k».proof.Proof.OutProjBlock
public import proofs.«01_k».proof.Proof.Gen.OutProjRefIdeal.Run
public import Idealize.ShloMosaic.Lib.Claim
public import Idealize.ShloMosaic.Lib.Quiescent

/-!
# The claims about the output projection
-/

@[expose] public section

set_option maxRecDepth 16384

noncomputable section

namespace Cert.Proof.OutProj

open Idealize.ShloMosaic Idealize.ShloMosaic.TcCoe Idealize.SL.Sem
open Cert.OutProjIdeal.Block Cert.InBwdEq

/-- The kernel's program runs and ends quiescent, its arguments unchanged. -/
theorem frame : Cert.quiescent_OutProj := fun m ρ _ => Cert.OutProj.Gen.frame m ρ
/-- So does its idealization, -/
theorem frameIdeal : Cert.quiescent_OutProjIdeal := fun m ρ _ => Cert.OutProjIdeal.Gen.frame m ρ
/-- and the reference. -/
theorem frameRef : Cert.quiescent_OutProjRefIdeal := fun m ρ _ =>
  (θ_run Cert.OutProjRefIdeal.defs _ _).mono (fun r h => ⟨fun c => (h c).2.2.2,
      Idealize.ShloMosaic.sem_eq_zero_of_no_sems (by decide) r.2⟩)
    (Cert.OutProjRefIdeal.Value.run (F := Ideal) m ρ)

section
open Cert.OutProjRefIdeal Cert.OutProjRefIdeal.Gen

/-- The reference's norm of rows `h` with the gain `g`, -/
def rms (h : FVec Ideal S2048x1024 .f32) (g : FVec Ideal S1x1024 .f32) : FVec Ideal S2048x1024 .f32 :=
  mulf (mulf h (broadcastInDim S2048x1024 ![0, 1] bcast_S2048x1_S2048x1024_0_1
      (Host.rsqrt (addf (Host.divf (broadcastInDim S2048x1 ![0] bcast_S2048_S2048x1_0
          (Host.reduceAdd (mulf h h) (constant S_ .f32 0x00000000#32) reducesTo_S2048x1024_S2048_d1 h_S_))
        (broadcastInDim S2048x1 ![] bcast_S_S2048x1 (constant S_ .f32 0x44800000#32)))
        (broadcastInDim S2048x1 ![] bcast_S_S2048x1 (constant S_ .f32 0x358637BD#32))))))
    (broadcastInDim S2048x1024 ![0, 1] bcast_S1x1024_S2048x1024_0_1 g)
/-- at a row and a lane. -/
theorem rms_at (h : FVec Ideal S2048x1024 .f32) (g : FVec Ideal S1x1024 .f32) (r : Fin 2048) (l : Fin 1024) :
    rms h g (ix2 r l) = h (ix2 r l) * Ideal.rsqrt (meanSq fun k => h (ix2 r k)) * g (ix2 0 l) := by
  pointwise [rms]

/-- The reference's stream, -/
def stream (x u : FVec Ideal S2048x1024 .f32) (w : FVec Ideal S1024x1024 .f32) : FVec Ideal S2048x1024 .f32 :=
  addf x (Host.dotGeneral dot_S2048x1024_S1024x1024_S2048x1024_1_0_0_1_n_n none u w)
theorem stream_at (x u : FVec Ideal S2048x1024 .f32) (w : FVec Ideal S1024x1024 .f32) (r : Fin 2048) (l : Fin 1024) :
    stream x u w (ix2 r l) = h1 x u w r l := by
  pointwise [stream, h1]

variable (x u : FVec Ideal S2048x1024 .f32) (w : FVec Ideal S1024x1024 .f32) (g : FVec Ideal S1x1024 .f32)

/-- its first result, -/
theorem h1_result : stream x u w = (fun i => h1 x u w (i 0) (i 1) : FVec Ideal S2048x1024 .f32) := by
  funext i
  idx_vars i
  pointwise [stream_at]
theorem rms_stream (r : Fin 2048) (l : Fin 1024) : rms (stream x u w) g (ix2 r l) = hn x u w g r l := by
  rw [rms_at]
  simp only [stream_at]
  rfl
/-- its second -/
theorem hn_result : truncf .bf16 (rms (stream x u w) g) bitsLt_bf16_f32 = (fun i => hn x u w g (i 0) (i 1) : FVec Ideal S2048x1024 .bf16) := by
  funext i
  idx_vars i
  pointwise [rms_stream]
/-- and its third. -/
theorem hnt_result : truncf .bf16 (transpose S1024x2048 [1, 0] (rms (stream x u w) g) transposes_S2048x1024_S1024x2048_1_0) bitsLt_bf16_f32
    = (fun i => hn x u w g (i 1) (i 0) : FVec Ideal S1024x2048 .bf16) := by
  funext i
  idx_vars i
  pointwise [rms_stream]
end

/-- The kernel's results are the reference's, for all arguments. -/
theorem algebraic : Cert.algebraic_OutProjIdeal_OutProjRefIdeal := by
  intro m g m' g' _ hagree
  refine ⟨_, _, _, Cert.OutProjIdeal.Value.run_blocks m g,
    (θ_run Cert.OutProjRefIdeal.defs _ _).mono (fun r h c => ⟨(h c).1.trans ?_, (h c).2.1.trans ?_, (h c).2.2.1.trans ?_, (h c).2.2.2⟩)
      (Cert.OutProjRefIdeal.Value.run m' g')⟩
  · obtain ⟨e0, e1, e2, e3⟩ := hagree c
    rw [e0, e1, e2, h1_array m c]
    exact h1_result _ _ _
  · obtain ⟨e0, e1, e2, e3⟩ := hagree c
    rw [e0, e1, e2, e3, hn_array m c]
    exact hn_result _ _ _ _
  · obtain ⟨e0, e1, e2, e3⟩ := hagree c
    rw [e0, e1, e2, e3, hnt_array m c]
    exact hnt_result _ _ _ _

end Cert.Proof.OutProj
end
-- ==== Proof.FfnUpBlock.lean ====
module

public import proofs.«01_k».proof.Proof.Gen.FfnUpIdeal.Value
public import Idealize.ShloMosaic.Lib.Pipeline.ValueKit
public import Idealize.ShloMosaic.Lib.Pipeline.ReadBack
public import Idealize.ShloMosaic.Lib.Pointwise

/-!
# What the squared activation's kernel leaves in its result arrays

The kernel walks the 4096 columns in four groups of 1024 and, in each, the 2048 rows in four blocks of 512.
-/

@[expose] public section

set_option maxRecDepth 16384

noncomputable section

namespace Cert.FfnUpIdeal.Block

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ)

section
variable (u : FVec Ideal S512x1024 .bf16) (w : FVec Ideal S1x1024x1024 .bf16)

/-- A block of the positive part, -/
theorem pay1_at (r : Fin 512) (l : Fin 1024) : k0_pay1 (F := Ideal) u w (ix2 r l) = max (∑ k, u (ix2 r k) * w (ix3 0 k l)) 0 := by
  pointwise [k0_pay1]
theorem pay2_at (r : Fin 512) (l : Fin 1024) : k0_pay2 (F := Ideal) u w (ix2 r l) = k0_pay1 (F := Ideal) u w (ix2 r l) := by
  pointwise [k0_pay2]
/-- its square, -/
theorem pay4_at (r : Fin 512) (l : Fin 1024) : k0_pay4 (F := Ideal) u w (ix2 r l)
    = k0_pay1 (F := Ideal) u w (ix2 r l) * k0_pay1 (F := Ideal) u w (ix2 r l) := by
  pointwise [k0_pay4, k0_pay3]
/-- and the square transposed. -/
theorem pay5_at (l : Fin 1024) (r : Fin 512) : k0_pay5 (F := Ideal) u w (ix2 l r)
    = k0_pay1 (F := Ideal) u w (ix2 r l) * k0_pay1 (F := Ideal) u w (ix2 r l) := by
  pointwise [k0_pay5, k0_pay3]
end

/-- The windows' block indices at a point. -/
theorem idx : ∀ t : Fin cfg0.N, win0_0.index t = ![t.val % 4, 0] ∧ win0_1.index t = ![t.val / 4, 0, 0] ∧ win0_2.index t = ![t.val % 4, t.val / 4]
    ∧ win0_3.index t = ![t.val % 4, t.val / 4] ∧ win0_4.index t = ![t.val / 4, t.val % 4] ∧ t.val < 16 :=
  (by decide +kernel : ∀ t : Fin grid0.N, _)

/-- Row `r` and column `l` of point `t`'s block, as a row and a column of the arrays. -/
def row (t : Fin cfg0.N) (r : Fin 512) : Fin 2048 := ⟨t.val % 4 * 512 + r.val, by omega⟩
def col (t : Fin cfg0.N) (l : Fin 1024) : Fin 4096 := ⟨t.val / 4 * 1024 + l.val, by have := (idx t).2.2.2.2.2; omega⟩

/-- The blocks of point `t`, read in the argument arrays: the rows -/
theorem read0 (c : Dev nD) (t : Fin cfg0.N) (r : Fin 512) (k : Fin 1024) :
    (show FVec Ideal S512x1024 .bf16 from iblk m c 0 t) (ix2 r k)
      = (show FVec Ideal S2048x1024 .f32 from m ((c : Thread nD τ).loc main_arg0)) (ix2 (row t r) k) := by
  blk_point [iblk, V, idx t, row]
/-- and the weight's group. -/
theorem read1 (c : Dev nD) (t : Fin cfg0.N) (k l : Fin 1024) :
    (show FVec Ideal S1x1024x1024 .bf16 from iblk m c 1 t) (ix3 0 k l)
      = (show FVec Ideal S1024x4096 .f32 from m ((c : Thread nD τ).loc main_arg1)) (ix2 k (col t l)) := by
  blk_point [iblk, V, idx t, col]

/-- The positive part, of the whole arrays. -/
def pos (u : FVec Ideal S2048x1024 .f32) (w : FVec Ideal S1024x4096 .f32) (r : Fin 2048) (l : Fin 4096) : EReal :=
  max (∑ k, u (ix2 r k) * w (ix2 k l)) 0

theorem rows (c : Dev nD) (t : Fin cfg0.N) (r : Fin 512) (l : Fin 1024) :
    k0_pay1 (F := Ideal) (iblk m c 0 t) (iblk m c 1 t) (ix2 r l) = pos (m ((c : Thread nD τ).loc main_arg0)) (m ((c : Thread nD τ).loc main_arg1)) (row t r) (col t l) :=
  (pay1_at _ _ r l).trans (congrArg (max · 0)
    (Finset.sum_congr rfl fun k _ => congrArg₂ (· * ·) (read0 m c t r k) (read1 m c t k l)))

theorem r_point (c : Dev nD) (t : Fin cfg0.N) (y : S512x1024.Idx) :
    k0_pay2 (F := Ideal) (iblk m c 0 t) (iblk m c 1 t) y = pos (m ((c : Thread nD τ).loc main_arg0)) (m ((c : Thread nD τ).loc main_arg1)) (row t (y 0)) (col t (y 1)) :=
  (congrArg _ (eq_ix2 y)).trans ((pay2_at _ _ (y 0) (y 1)).trans (rows m c t (y 0) (y 1)))
theorem a_point (c : Dev nD) (t : Fin cfg0.N) (y : S512x1024.Idx) :
    k0_pay4 (F := Ideal) (iblk m c 0 t) (iblk m c 1 t) y = pos (m ((c : Thread nD τ).loc main_arg0)) (m ((c : Thread nD τ).loc main_arg1)) (row t (y 0)) (col t (y 1)) * pos (m ((c : Thread nD τ).loc main_arg0)) (m ((c : Thread nD τ).loc main_arg1)) (row t (y 0)) (col t (y 1)) :=
  (congrArg _ (eq_ix2 y)).trans ((pay4_at _ _ (y 0) (y 1)).trans
    (congrArg₂ (· * ·) (rows m c t (y 0) (y 1)) (rows m c t (y 0) (y 1))))
theorem at_point (c : Dev nD) (t : Fin cfg0.N) (y : S1024x512.Idx) :
    k0_pay5 (F := Ideal) (iblk m c 0 t) (iblk m c 1 t) y = pos (m ((c : Thread nD τ).loc main_arg0)) (m ((c : Thread nD τ).loc main_arg1)) (row t (y 1)) (col t (y 0)) * pos (m ((c : Thread nD τ).loc main_arg0)) (m ((c : Thread nD τ).loc main_arg1)) (row t (y 1)) (col t (y 0)) :=
  (congrArg _ (eq_ix2 y)).trans ((pay5_at _ _ (y 0) (y 1)).trans
    (congrArg₂ (· * ·) (rows m c t (y 1) (y 0)) (rows m c t (y 1) (y 0))))

/-- The positive part after the run, -/
theorem r_array (c : Dev nD) : (dats m 0 c).arrAt 2 cfg0.N = (fun i => pos (m ((c : Thread nD τ).loc main_arg0)) (m ((c : Thread nD τ).loc main_arg1)) (i 0) (i 1) : FVec Ideal S2048x4096 .bf16) := by
  refine (dats m 0 c).arrAt_eq_of_covers 2 _ (by decide +kernel) fun t _ y => ?_
  have he : ((cfg0.win 2).blk t).view.emb y = (ix2 (row t (y 0)) (col t (y 1)) : S2048x4096.Idx) := by
    blk_ext [idx t, row, col]
  have hp := r_point m c t y
  blk_simp
  rw [after0_2, he]
  frame_out
  exact hp
/-- its square -/
theorem a_array (c : Dev nD) : (dats m 0 c).arrAt 3 cfg0.N
    = (fun i => pos (m ((c : Thread nD τ).loc main_arg0)) (m ((c : Thread nD τ).loc main_arg1)) (i 0) (i 1) * pos (m ((c : Thread nD τ).loc main_arg0)) (m ((c : Thread nD τ).loc main_arg1)) (i 0) (i 1) : FVec Ideal S2048x4096 .bf16) := by
  refine (dats m 0 c).arrAt_eq_of_covers 3 _ (by decide +kernel) fun t _ y => ?_
  have he : ((cfg0.win 3).blk t).view.emb y = (ix2 (row t (y 0)) (col t (y 1)) : S2048x4096.Idx) := by
    blk_ext [idx t, row, col]
  have hp := a_point m c t y
  blk_simp
  rw [after0_3, he]
  frame_out
  exact hp
/-- and the square transposed. -/
theorem at_array (c : Dev nD) : (dats m 0 c).arrAt 4 cfg0.N
    = (fun i => pos (m ((c : Thread nD τ).loc main_arg0)) (m ((c : Thread nD τ).loc main_arg1)) (i 1) (i 0) * pos (m ((c : Thread nD τ).loc main_arg0)) (m ((c : Thread nD τ).loc main_arg1)) (i 1) (i 0) : FVec Ideal S4096x2048 .bf16) := by
  refine (dats m 0 c).arrAt_eq_of_covers 4 _ (by decide +kernel) fun t _ y => ?_
  have he : ((cfg0.win 4).blk t).view.emb y = (ix2 (col t (y 0)) (row t (y 1)) : S4096x2048.Idx) := by
    blk_ext [idx t, row, col]
  have hp := at_point m c t y
  blk_simp
  rw [after0_4, he]
  frame_out
  exact hp

end Cert.FfnUpIdeal.Block
end
-- ==== Proof.FfnUpClaims.lean ====
module

public import proofs.«01_k».proof.Defs
public import proofs.«01_k».proof.Proof.Gen.FfnUp.Frame
public import proofs.«01_k».proof.Proof.FfnUpBlock
public import proofs.«01_k».proof.Proof.Gen.FfnUpRefIdeal.Run
public import Idealize.ShloMosaic.Lib.Claim
public import Idealize.ShloMosaic.Lib.Quiescent

/-!
# The claims about the squared activation
-/

@[expose] public section

set_option maxRecDepth 16384

noncomputable section

namespace Cert.Proof.FfnUp

open Idealize.ShloMosaic Idealize.ShloMosaic.TcCoe Idealize.SL.Sem
open Cert.FfnUpIdeal.Block

/-- The kernel's program runs and ends quiescent, its arguments unchanged. -/
theorem frame : Cert.quiescent_FfnUp := fun m ρ _ => Cert.FfnUp.Gen.frame m ρ
/-- So does its idealization, -/
theorem frameIdeal : Cert.quiescent_FfnUpIdeal := fun m ρ _ => Cert.FfnUpIdeal.Gen.frame m ρ
/-- and the reference. -/
theorem frameRef : Cert.quiescent_FfnUpRefIdeal := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

section
open Cert.FfnUpRefIdeal Cert.FfnUpRefIdeal.Gen

variable (u : FVec Ideal S2048x1024 .f32) (w : FVec Ideal S1024x4096 .f32)

/-- The reference's first result, -/
theorem r_result : truncf .bf16 (maximumf (Host.dotGeneral dot_S2048x1024_S1024x4096_S2048x4096_1_0_0_1_n_n none u w) (broadcastInDim S2048x4096 ![] bcast_S_S2048x4096 (constant S_ .f32 0x00000000#32))) bitsLt_bf16_f32
    = (fun i => pos u w (i 0) (i 1) : FVec Ideal S2048x4096 .bf16) := by
  funext i
  idx_vars i
  pointwise [pos]
/-- its second -/
theorem a_result : truncf .bf16 (mulf (maximumf (Host.dotGeneral dot_S2048x1024_S1024x4096_S2048x4096_1_0_0_1_n_n none u w) (broadcastInDim S2048x4096 ![] bcast_S_S2048x4096 (constant S_ .f32 0x00000000#32))) (maximumf (Host.dotGeneral dot_S2048x1024_S1024x4096_S2048x4096_1_0_0_1_n_n none u w) (broadcastInDim S2048x4096 ![] bcast_S_S2048x4096 (constant S_ .f32 0x00000000#32)))) bitsLt_bf16_f32
    = (fun i => pos u w (i 0) (i 1) * pos u w (i 0) (i 1) : FVec Ideal S2048x4096 .bf16) := by
  funext i
  idx_vars i
  pointwise [pos]
/-- and its third. -/
theorem at_result : truncf .bf16 (transpose S4096x2048 [1, 0] (mulf (maximumf (Host.dotGeneral dot_S2048x1024_S1024x4096_S2048x4096_1_0_0_1_n_n none u w) (broadcastInDim S2048x4096 ![] bcast_S_S2048x4096 (constant S_ .f32 0x00000000#32))) (maximumf (Host.dotGeneral dot_S2048x1024_S1024x4096_S2048x4096_1_0_0_1_n_n none u w) (broadcastInDim S2048x4096 ![] bcast_S_S2048x4096 (constant S_ .f32 0x00000000#32)))) transposes_S2048x4096_S4096x2048_1_0) bitsLt_bf16_f32
    = (fun i => pos u w (i 1) (i 0) * pos u w (i 1) (i 0) : FVec Ideal S4096x2048 .bf16) := by
  funext i
  idx_vars i
  pointwise [pos]
end

/-- The kernel's results are the reference's, for all arguments. -/
theorem algebraic : Cert.algebraic_FfnUpIdeal_FfnUpRefIdeal := by
  intro m g m' g' _ hagree
  refine ⟨_, _, _, Cert.FfnUpIdeal.Value.run_blocks m g,
    (θ_run Cert.FfnUpRefIdeal.defs _ _).mono (fun r h c => ⟨(h c).1.trans ?_, (h c).2.1.trans ?_, (h c).2.2.1.trans ?_, (h c).2.2.2⟩)
      (Cert.FfnUpRefIdeal.Value.run m' g')⟩
  · obtain ⟨e0, e1⟩ := hagree c
    rw [e0, e1, r_array m c]
    exact r_result _ _
  · obtain ⟨e0, e1⟩ := hagree c
    rw [e0, e1, a_array m c]
    exact a_result _ _
  · obtain ⟨e0, e1⟩ := hagree c
    rw [e0, e1, at_array m c]
    exact at_result _ _

end Cert.Proof.FfnUp
end
-- ==== Proof.FfnOutBlock.lean ====
module

public import proofs.«01_k».proof.Proof.Gen.FfnOutIdeal.Value
public import Idealize.ShloMosaic.Lib.Pipeline.ValueKit
public import Idealize.ShloMosaic.Lib.Pipeline.ReadBack
public import Idealize.ShloMosaic.Lib.Pointwise

/-!
# What the second feed-forward product's kernel leaves in its result array

Each of its four points adds 512 rows of the product to the stream.
-/

@[expose] public section

set_option maxRecDepth 16384

noncomputable section

namespace Cert.FfnOutIdeal.Block

open Idealize.ShloMosaic Idealize.ShloMosaic.TcCoe Idealize.SL.Sem
open Idealize.ShloMosaic.Pipeline (Dat)
open Cert.FfnOutIdeal Cert.FfnOutIdeal.Gen

variable (m : (ℓ : Loc nD τ sig) → Buf (Elt Ideal) ℓ)

/-- A point's rows: the weight comes in four groups of 1024 rows. -/
theorem pay1_at (h : FVec Ideal S512x1024 .f32) (a : FVec Ideal S512x4096 .bf16) (w : FVec Ideal S4x1024x1024 .bf16) (r : Fin 512) (l : Fin 1024) :
    k0_pay1 (F := Ideal) h a w (ix2 r l)
      = h (ix2 r l) + ∑ k : Fin 4096, a (ix2 r k) * w (ix3 ⟨k.val / 1024, by omega⟩ ⟨k.val % 1024, by omega⟩ l) := by
  pointwise [k0_pay1]

/-- The windows' block indices at a point. -/
theorem idx : ∀ t : Fin cfg0.N, win0_0.index t = ![t.val, 0] ∧ win0_1.index t = ![t.val, 0] ∧ win0_2.index t = ![0, 0, 0]
    ∧ win0_3.index t = ![t.val, 0] ∧ t.val < 4 :=
  (by decide +kernel : ∀ t : Fin grid0.N, _)

/-- Row `r` of point `t`'s block as a row of the arrays. -/
def row (t : Fin cfg0.N) (r : Fin 512) : Fin 2048 := ⟨t.val * 512 + r.val, by have := (idx t).2.2.2.2; omega⟩

/-- The blocks of point `t`, read in the argument arrays: the stream, -/
theorem read0 (c : Dev nD) (t : Fin cfg0.N) (r : Fin 512) (k : Fin 1024) :
    (show FVec Ideal S512x1024 .f32 from iblk m c 0 t) (ix2 r k)
      = (show FVec Ideal S2048x1024 .f32 from m ((c : Thread nD τ).loc main_arg0)) (ix2 (row t r) k) := by
  blk_point [iblk, V, idx t, row]
/-- the activation -/
theorem read1 (c : Dev nD) (t : Fin cfg0.N) (r : Fin 512) (k : Fin 4096) :
    (show FVec Ideal S512x4096 .bf16 from iblk m c 1 t) (ix2 r k)
      = (show FVec Ideal S2048x4096 .f32 from m ((c : Thread nD τ).loc main_arg1)) (ix2 (row t r) k) := by
  blk_point [iblk, V, idx t, row]
/-- and the weight. -/
theorem read2 (c : Dev nD) (t : Fin cfg0.N) (j : Fin 4) (k l : Fin 1024) :
    (show FVec Ideal S4x1024x1024 .bf16 from iblk m c 2 t) (ix3 j k l)
      = (show FVec Ideal S4096x1024 .f32 from m ((c : Thread nD τ).loc main_arg2)) (ix2 ⟨j.val * 1024 + k.val, by omega⟩ l) := by
  blk_point [iblk, V, idx t]

/-- The stream after the product, of the whole arrays. -/
def out (h : FVec Ideal S2048x1024 .f32) (a : FVec Ideal S2048x4096 .f32) (w : FVec Ideal S4096x1024 .f32) (r : Fin 2048) (l : Fin 1024) : EReal :=
  h (ix2 r l) + ∑ k, a (ix2 r k) * w (ix2 k l)

theorem point (c : Dev nD) (t : Fin cfg0.N) (r : Fin 512) (l : Fin 1024) :
    k0_pay1 (F := Ideal) (iblk m c 0 t) (iblk m c 1 t) (iblk m c 2 t) (ix2 r l) = out (m ((c : Thread nD τ).loc main_arg0)) (m ((c : Thread nD τ).loc main_arg1)) (m ((c : Thread nD τ).loc main_arg2)) (row t r) l :=
  (pay1_at _ _ _ r l).trans (congrArg₂ (· + ·) (read0 m c t r l) (Finset.sum_congr rfl fun k _ =>
    congrArg₂ (· * ·) (read1 m c t r k) ((read2 m c t _ _ l).trans
      (congrArg (fun i => (show FVec Ideal S4096x1024 .f32 from m ((c : Thread nD τ).loc main_arg2)) (ix2 i l))
        (Fin.ext (Nat.div_add_mod' k.val 1024))))))

/-- The result after the run. -/
theorem array (c : Dev nD) : (dats m 0 c).arrAt 3 cfg0.N = (fun i => out (m ((c : Thread nD τ).loc main_arg0)) (m ((c : Thread nD τ).loc main_arg1)) (m ((c : Thread nD τ).loc main_arg2)) (i 0) (i 1) : FVec Ideal S2048x1024 .f32) := by
  refine (dats m 0 c).arrAt_eq_of_covers 3 _ (by decide +kernel) fun t _ y => ?_
  have he : ((cfg0.win 3).blk t).view.emb y = (ix2 (row t (y 0)) (y 1) : S2048x1024.Idx) := by
    blk_ext [idx t, row]
  have hp := (congrArg _ (eq_ix2 y)).trans (point m c t (y 0) (y 1))
  blk_simp
  rw [after0_3, he]
  frame_out
  exact hp

end Cert.FfnOutIdeal.Block
end
-- ==== Proof.FfnOutClaims.lean ====
module

public import proofs.«01_k».proof.Defs
public import proofs.«01_k».proof.Proof.Gen.FfnOut.Frame
public import proofs.«01_k».proof.Proof.FfnOutBlock
public import proofs.«01_k».proof.Proof.Gen.FfnOutRefIdeal.Run
public import Idealize.ShloMosaic.Lib.Claim
public import Idealize.ShloMosaic.Lib.Quiescent

/-!
# The claims about the second feed-forward product
-/

@[expose] public section

set_option maxRecDepth 16384

noncomputable section

namespace Cert.Proof.FfnOut

open Idealize.ShloMosaic Idealize.ShloMosaic.TcCoe Idealize.SL.Sem
open Cert.FfnOutIdeal.Block

/-- The kernel's program runs and ends quiescent, its arguments unchanged. -/
theorem frame : Cert.quiescent_FfnOut := fun m ρ _ => Cert.FfnOut.Gen.frame m ρ
/-- So does its idealization, -/
theorem frameIdeal : Cert.quiescent_FfnOutIdeal := fun m ρ _ => Cert.FfnOutIdeal.Gen.frame m ρ
/-- and the reference. -/
theorem frameRef : Cert.quiescent_FfnOutRefIdeal := fun m ρ _ =>
  (θ_run Cert.FfnOutRefIdeal.defs _ _).mono (fun r h => ⟨fun c => (h c).2,
      Idealize.ShloMosaic.sem_eq_zero_of_no_sems (by decide) r.2⟩)
    (Cert.FfnOutRefIdeal.Value.run (F := Ideal) m ρ)

section
open Cert.FfnOutRefIdeal Cert.FfnOutRefIdeal.Gen

variable (h : FVec Ideal S2048x1024 .f32) (a : FVec Ideal S2048x4096 .f32) (w : FVec Ideal S4096x1024 .f32)

/-- The reference's result. -/
theorem result : addf h (Host.dotGeneral dot_S2048x4096_S4096x1024_S2048x1024_1_0_0_1_n_n none a w)
    = (fun i => out h a w (i 0) (i 1) : FVec Ideal S2048x1024 .f32) := by
  funext i
  idx_vars i
  pointwise [out]
end

/-- The kernel's result is the reference's, for all arguments. -/
theorem algebraic : Cert.algebraic_FfnOutIdeal_FfnOutRefIdeal := by
  intro m g m' g' _ hagree
  refine ⟨_, Cert.FfnOutIdeal.Value.run_blocks m g,
    (θ_run Cert.FfnOutRefIdeal.defs _ _).mono (fun r h c => ⟨(h c).1.trans ?_, (h c).2⟩)
      (Cert.FfnOutRefIdeal.Value.run m' g')⟩
  obtain ⟨e0, e1, e2⟩ := hagree c
  rw [e0, e1, e2, array m c]
  exact result _ _ _

end Cert.Proof.FfnOut
end
-- ==== Proof.FfnBwdUpBlock.lean ====
module

public import proofs.«01_k».proof.Proof.Gen.FfnBwdUpIdeal.Value
public import Idealize.ShloMosaic.Lib.Pipeline.ValueKit
public import Idealize.ShloMosaic.Lib.Pipeline.ReadBack
public import Idealize.ShloMosaic.Lib.Pointwise

/-!
# What the first feed-forward weight's gradient kernel leaves in its result array

Each of its four points computes a group of 1024 columns, over all rows at once.
-/

@[expose] public section

set_option maxRecDepth 16384

noncomputable section

namespace Cert.FfnBwdUpIdeal.Block

open Idealize.ShloMosaic Idealize.ShloMosaic.TcCoe Idealize.SL.Sem
open Idealize.ShloMosaic.Pipeline (Dat)
open Cert.FfnBwdUpIdeal Cert.FfnBwdUpIdeal.Gen

variable (m : (ℓ : Loc nD τ sig) → Buf (Elt Ideal) ℓ)

/-- A point's group. -/
theorem pay2_at (u : FVec Ideal S1024x2048 .bf16) (d : FVec Ideal S2048x1024 .bf16) (k l : Fin 1024) :
    k0_pay2 (F := Ideal) u d (ix3 0 k l) = ∑ r, u (ix2 k r) * d (ix2 r l) := by
  pointwise [k0_pay2, k0_pay1]

/-- The windows' block indices at a point. -/
theorem idx : ∀ t : Fin cfg0.N, win0_0.index t = ![0, t.val] ∧ win0_1.index t = ![0, 0] ∧ win0_2.index t = ![t.val, 0, 0] ∧ t.val < 4 :=
  (by decide +kernel : ∀ t : Fin grid0.N, _)

/-- Column `l` of point `t`'s group as a column of the cotangent. -/
def col (t : Fin cfg0.N) (l : Fin 1024) : Fin 4096 := ⟨t.val * 1024 + l.val, by have := (idx t).2.2.2; omega⟩

/-- The blocks of point `t`, read in the argument arrays: the cotangent -/
theorem read0 (c : Dev nD) (t : Fin cfg0.N) (r : Fin 2048) (l : Fin 1024) :
    (show FVec Ideal S2048x1024 .bf16 from iblk m c 0 t) (ix2 r l)
      = (show FVec Ideal S2048x4096 .f32 from m ((c : Thread nD τ).loc main_arg1)) (ix2 r (col t l)) := by
  blk_point [iblk, V, idx t, col]
/-- and the rows, transposed. -/
theorem read1 (c : Dev nD) (t : Fin cfg0.N) (k : Fin 1024) (r : Fin 2048) :
    (show FVec Ideal S1024x2048 .bf16 from iblk m c 1 t) (ix2 k r)
      = (show FVec Ideal S2048x1024 .f32 from m ((c : Thread nD τ).loc main_arg0)) (ix2 r k) := by
  blk_point [iblk, V, idx t]

/-- The gradient, of the whole arrays, -/
def dw (u : FVec Ideal S2048x1024 .f32) (d : FVec Ideal S2048x4096 .f32) (k : Fin 1024) (l : Fin 4096) : EReal :=
  ∑ r, u (ix2 r k) * d (ix2 r l)
/-- and in four groups of columns. -/
def dwArr (u : FVec Ideal S2048x1024 .f32) (d : FVec Ideal S2048x4096 .f32) : FVec Ideal S4x1024x1024 .f32 :=
  fun i => dw u d (i 1) ⟨(i 0).val * 1024 + (i 2).val, by have h0 := (i 0).isLt; have h2 := (i 2).isLt; dsimp at h0 h2; omega⟩

theorem point (c : Dev nD) (t : Fin cfg0.N) (k l : Fin 1024) :
    k0_pay2 (F := Ideal) (iblk m c 1 t) (iblk m c 0 t) (ix3 0 k l) = dw (m ((c : Thread nD τ).loc main_arg0)) (m ((c : Thread nD τ).loc main_arg1)) k (col t l) :=
  (pay2_at _ _ k l).trans (Finset.sum_congr rfl fun r _ => congrArg₂ (· * ·) (read1 m c t k r) (read0 m c t r l))

/-- The result after the run. -/
theorem array (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t _ y => ?_
  have he : ((cfg0.win 2).blk t).view.emb y = (ix3 ⟨t.val, (idx t).2.2.2⟩ (y 1) (y 2) : S4x1024x1024.Idx) := by
    blk_ext [idx t]
  have hy : y = (ix3 0 (y 1) (y 2) : S1x1024x1024.Idx) := by blk_ext
  have hp := (congrArg (k0_pay2 (F := Ideal) (iblk m c 1 t) (iblk m c 0 t)) hy).trans (point m c t (y 1) (y 2))
  blk_simp
  rw [after0_2, he]
  unfold outsAt0
  frame_out
  exact hp

end Cert.FfnBwdUpIdeal.Block
end
-- ==== Proof.FfnBwdUpClaims.lean ====
module

public import proofs.«01_k».proof.Defs
public import proofs.«01_k».proof.Proof.Gen.FfnBwdUp.Frame
public import proofs.«01_k».proof.Proof.FfnBwdUpBlock
public import proofs.«01_k».proof.Proof.Gen.FfnBwdUpRefIdeal.Run
public import Idealize.ShloMosaic.Lib.Claim
public import Idealize.ShloMosaic.Lib.Quiescent

/-!
# The claims about the first feed-forward weight's gradient
-/

@[expose] public section

set_option maxRecDepth 16384

noncomputable section

namespace Cert.Proof.FfnBwdUp

open Idealize.ShloMosaic Idealize.ShloMosaic.TcCoe Idealize.SL.Sem
open Cert.FfnBwdUpIdeal.Block

/-- The kernel's program runs and ends quiescent, its arguments unchanged. -/
theorem frame : Cert.quiescent_FfnBwdUp := fun m ρ _ => Cert.FfnBwdUp.Gen.frame m ρ
/-- So does its idealization, -/
theorem frameIdeal : Cert.quiescent_FfnBwdUpIdeal := fun m ρ _ => Cert.FfnBwdUpIdeal.Gen.frame m ρ
/-- and the reference. -/
theorem frameRef : Cert.quiescent_FfnBwdUpRefIdeal := fun m ρ _ =>
  (θ_run Cert.FfnBwdUpRefIdeal.defs _ _).mono (fun r h => ⟨fun c => (h c).2,
      Idealize.ShloMosaic.sem_eq_zero_of_no_sems (by decide) r.2⟩)
    (Cert.FfnBwdUpRefIdeal.Value.run (F := Ideal) m ρ)

section
open Cert.FfnBwdUpRefIdeal Cert.FfnBwdUpRefIdeal.Gen

variable (u : FVec Ideal S2048x1024 .f32) (d : FVec Ideal S2048x4096 .f32)

/-- The reference's result. -/
theorem result : transpose S4x1024x1024 [1, 0, 2] (shapeCast S1024x4x1024 (transpose S1024x4096 [1, 0] (Host.dotGeneral dot_S2048x4096_S2048x1024_S4096x1024_0_0_1_1_n_n none d u) transposes_S4096x1024_S1024x4096_1_0) shapeCasts_S1024x4096_S1024x4x1024) transposes_S1024x4x1024_S4x1024x1024_1_0_2
    = dwArr u d := by
  funext i
  idx_vars i
  pointwise [dwArr, dw]
  exact Finset.sum_congr rfl fun x _ => mul_comm _ _
end

/-- The kernel's result is the reference's, for all arguments. -/
theorem algebraic : Cert.algebraic_FfnBwdUpIdeal_FfnBwdUpRefIdeal := by
  intro m g m' g' _ hagree
  refine ⟨_, Cert.FfnBwdUpIdeal.Value.run_blocks m g,
    (θ_run Cert.FfnBwdUpRefIdeal.defs _ _).mono (fun r h c => ⟨(h c).1.trans ?_, (h c).2⟩)
      (Cert.FfnBwdUpRefIdeal.Value.run m' g')⟩
  obtain ⟨e0, e1⟩ := hagree c
  rw [e0, e1, array m c]
  exact result _ _

end Cert.Proof.FfnBwdUp
end
-- ==== Proof.AdamWBlock.lean ====
module

public import proofs.«01_k».proof.Proof.Gen.AdamWIdeal.Value
public import Idealize.ShloMosaic.Lib.Pipeline.ValueKit
public import Idealize.ShloMosaic.Lib.Pipeline.ReadBack
public import Idealize.ShloMosaic.Lib.Pointwise

/-!
# What the optimiser's kernel leaves in its result arrays

Each of its two points updates 512 rows, element by element.
-/

@[expose] public section

set_option maxRecDepth 16384

noncomputable section

namespace Cert.AdamWIdeal.Block

open Idealize.ShloMosaic Idealize.ShloMosaic.TcCoe Idealize.SL.Sem
open Idealize.ShloMosaic.Pipeline (Dat)
open Cert.AdamWIdeal Cert.AdamWIdeal.Gen

variable (m : (ℓ : Loc nD τ sig) → Buf (Elt Ideal) ℓ)

/-- The first moment of an element after the step, -/
def mean (g m : EReal) : EReal := Ideal.ofBits .f32 0x3F666666#32 * m + Ideal.ofBits .f32 0x3DCCCCCD#32 * g
/-- the second, -/
def square (g v : EReal) : EReal := Ideal.ofBits .f32 0x3F7FBE77#32 * v + Ideal.ofBits .f32 0x3A83126F#32 * (g * g)
/-- and the step itself. -/
def step (w g m v : EReal) : EReal :=
  Ideal.ofBits .f32 0xBA83126F#32 * (Ideal.div (Ideal.div (mean g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

section
variable (g w m v : FVec Ideal S512x1024 .f32) (y : S512x1024.Idx)

/-- A point's elements. -/
theorem pay5_at : k0_pay5 (F := Ideal) g w m v y = step (w y) (g y) (m y) (v y) := by
  pointwise [k0_pay5, k0_pay4, k0_pay3, step, mean, square]
theorem pay6_at : k0_pay6 (F := Ideal) g m y = mean (g y) (m y) := by
  pointwise [k0_pay6, k0_pay3, mean]
theorem pay1_at : k0_pay1 (F := Ideal) (k0_pay4 (F := Ideal) g v) y = square (g y) (v y) := by
  pointwise [k0_pay1, k0_pay4, square]
theorem pay2_at : k0_pay2 (F := Ideal) g y = g y := by
  pointwise [k0_pay2]
end

/-- The windows' block indices at a point: the same rows of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 2 :=
  (by decide +kernel : ∀ t : Fin grid0.N, _)

/-- Element `y` of point `t`'s block as an element of the arrays. -/
def at' (t : Fin cfg0.N) (y : S512x1024.Idx) : S1024x1024.Idx :=
  ix2 ⟨t.val * 512 + (y 0).val, by have := (idx t).2.2.2.2.2.2.2.2; have h0 := (y 0).isLt; dsimp at h0; omega⟩ (y 1)

/-- The blocks of point `t`, read in the argument arrays. -/
theorem read0 (c : Dev nD) (t : Fin cfg0.N) (y : S512x1024.Idx) :
    (show FVec Ideal S512x1024 .f32 from iblk m c 0 t) y
      = (show FVec Ideal S1024x1024 .f32 from m ((c : Thread nD τ).loc main_arg0)) (at' t y) := by
  have he : ((cfg0.win 0).blk t).view.emb y = at' t y := by
    blk_ext [idx t, at']
  exact congrArg (V m c main_arg0) he
theorem read1 (c : Dev nD) (t : Fin cfg0.N) (y : S512x1024.Idx) :
    (show FVec Ideal S512x1024 .f32 from iblk m c 1 t) y
      = (show FVec Ideal S1024x1024 .f32 from m ((c : Thread nD τ).loc main_arg1)) (at' t y) := by
  have he : ((cfg0.win 1).blk t).view.emb y = at' t y := by
    blk_ext [idx t, at']
  exact congrArg (V m c main_arg1) he
theorem read2 (c : Dev nD) (t : Fin cfg0.N) (y : S512x1024.Idx) :
    (show FVec Ideal S512x1024 .f32 from iblk m c 2 t) y
      = (show FVec Ideal S1024x1024 .f32 from m ((c : Thread nD τ).loc main_arg2)) (at' t y) := by
  have he : ((cfg0.win 2).blk t).view.emb y = at' t y := by
    blk_ext [idx t, at']
  exact congrArg (V m c main_arg2) he
theorem read3 (c : Dev nD) (t : Fin cfg0.N) (y : S512x1024.Idx) :
    (show FVec Ideal S512x1024 .f32 from iblk m c 3 t) y
      = (show FVec Ideal S1024x1024 .f32 from m ((c : Thread nD τ).loc main_arg3)) (at' t y) := by
  have he : ((cfg0.win 3).blk t).view.emb y = at' t y := by
    blk_ext [idx t, at']
  exact congrArg (V m c main_arg3) he

/-- The step after the run, -/
theorem step_array (c : Dev nD) : (dats m 0 c).arrAt 4 cfg0.N
    = (fun i => step ((show FVec Ideal S1024x1024 .f32 from m ((c : Thread nD τ).loc main_arg0)) i) ((show FVec Ideal S1024x1024 .f32 from m ((c : Thread nD τ).loc main_arg1)) i) ((show FVec Ideal S1024x1024 .f32 from m ((c : Thread nD τ).loc main_arg2)) i) ((show FVec Ideal S1024x1024 .f32 from m ((c : Thread nD τ).loc main_arg3)) i) : FVec Ideal S1024x1024 .f32) := by
  refine (dats m 0 c).arrAt_eq_of_covers 4 _ (by decide +kernel) fun t _ y => ?_
  have he : ((cfg0.win 4).blk t).view.emb y = at' t y := by
    blk_ext [idx t, at']
  have hp := (pay5_at (iblk m c 1 t) (iblk m c 0 t) (iblk m c 2 t) (iblk m c 3 t) y).trans
    (congr (congr (congrArg₂ step (read0 m c t y) (read1 m c t y)) (read2 m c t y)) (read3 m c t y))
  blk_simp
  rw [after0_4, he]
  frame_out
  exact hp
/-- the first moment, -/
theorem mean_array (c : Dev nD) : (dats m 0 c).arrAt 5 cfg0.N
    = (fun i => mean ((show FVec Ideal S1024x1024 .f32 from m ((c : Thread nD τ).loc main_arg1)) i) ((show FVec Ideal S1024x1024 .f32 from m ((c : Thread nD τ).loc main_arg2)) i) : FVec Ideal S1024x1024 .f32) := by
  refine (dats m 0 c).arrAt_eq_of_covers 5 _ (by decide +kernel) fun t _ y => ?_
  have he : ((cfg0.win 5).blk t).view.emb y = at' t y := by
    blk_ext [idx t, at']
  have hp := (pay6_at (iblk m c 1 t) (iblk m c 2 t) y).trans (congrArg₂ mean (read1 m c t y) (read2 m c t y))
  blk_simp
  rw [after0_5, he]
  frame_out
  exact hp
/-- the second, -/
theorem square_array (c : Dev nD) : (dats m 0 c).arrAt 6 cfg0.N
    = (fun i => square ((show FVec Ideal S1024x1024 .f32 from m ((c : Thread nD τ).loc main_arg1)) i) ((show FVec Ideal S1024x1024 .f32 from m ((c : Thread nD τ).loc main_arg3)) i) : FVec Ideal S1024x1024 .f32) := by
  refine (dats m 0 c).arrAt_eq_of_covers 6 _ (by decide +kernel) fun t _ y => ?_
  have he : ((cfg0.win 6).blk t).view.emb y = at' t y := by
    blk_ext [idx t, at']
  have hp := (pay1_at (iblk m c 1 t) (iblk m c 3 t) y).trans (congrArg₂ square (read1 m c t y) (read3 m c t y))
  blk_simp
  rw [after0_6, he]
  frame_out
  exact hp
/-- and the gradient, as it came. -/
theorem grad_array (c : Dev nD) : (dats m 0 c).arrAt 7 cfg0.N
    = (fun i => (show FVec Ideal S1024x1024 .f32 from m ((c : Thread nD τ).loc main_arg1)) i : FVec Ideal S1024x1024 .f32) := by
  refine (dats m 0 c).arrAt_eq_of_covers 7 _ (by decide +kernel) fun t _ y => ?_
  have he : ((cfg0.win 7).blk t).view.emb y = at' t y := by
    blk_ext [idx t, at']
  have hp := (pay2_at (iblk m c 1 t) y).trans (read1 m c t y)
  blk_simp
  rw [after0_7, he]
  frame_out
  exact hp

end Cert.AdamWIdeal.Block
end
-- ==== Proof.AdamWClaims.lean ====
module

public import proofs.«01_k».proof.Defs
public import proofs.«01_k».proof.Proof.Gen.AdamW.Frame
public import proofs.«01_k».proof.Proof.AdamWBlock
public import proofs.«01_k».proof.Proof.Gen.AdamWRefIdeal.Run
public import Idealize.ShloMosaic.Lib.Claim
public import Idealize.ShloMosaic.Lib.Quiescent

/-!
# The claims about the optimiser
-/

@[expose] public section

set_option maxRecDepth 16384

noncomputable section

namespace Cert.Proof.AdamW

open Idealize.ShloMosaic Idealize.ShloMosaic.TcCoe Idealize.SL.Sem
open Cert.AdamWIdeal.Block

/-- The kernel's program runs and ends quiescent, its arguments unchanged. -/
theorem frame : Cert.quiescent_AdamW := fun m ρ _ => Cert.AdamW.Gen.frame m ρ
/-- So does its idealization, -/
theorem frameIdeal : Cert.quiescent_AdamWIdeal := fun m ρ _ => Cert.AdamWIdeal.Gen.frame m ρ
/-- and the reference. -/
theorem frameRef : Cert.quiescent_AdamWRefIdeal := fun m ρ _ =>
  (θ_run Cert.AdamWRefIdeal.defs _ _).mono (fun r h => ⟨fun c => (h c).2.2.2.2,
      Idealize.ShloMosaic.sem_eq_zero_of_no_sems (by decide) r.2⟩)
    (Cert.AdamWRefIdeal.Value.run (F := Ideal) m ρ)

section
open Cert.AdamWRefIdeal Cert.AdamWRefIdeal.Gen

/-- One number in every element. -/
abbrev all (x : BitVec 32) : FVec Ideal S1024x1024 .f32 := broadcastInDim S1024x1024 ![] bcast_S_S1024x1024 (constant S_ .f32 x)

variable (w g m v : FVec Ideal S1024x1024 .f32)

/-- The reference's first result, -/
theorem step_result : mulf (all 0xBA83126F#32) (addf (Host.divf (Host.divf (addf (mulf (all 0x3F666666#32) m) (mulf (all 0x3DCCCCCD#32) g)) (all 0x3F26BD02#32)) (addf (Host.sqrt (Host.divf (addf (mulf (all 0x3F7FBE77#32) v) (mulf (all 0x3A83126F#32) (mulf g g))) (all 0x3C231ACC#32))) (all 0x322BCC77#32))) (mulf (all 0x3C23D70A#32) w))
    = (fun i => step (w i) (g i) (m i) (v i) : FVec Ideal S1024x1024 .f32) := by
  funext i
  pointwise [step, mean, square]
/-- its second -/
theorem mean_result : addf (mulf (all 0x3F666666#32) m) (mulf (all 0x3DCCCCCD#32) g)
    = (fun i => mean (g i) (m i) : FVec Ideal S1024x1024 .f32) := by
  funext i
  pointwise [step, mean, square]
/-- and its third. -/
theorem square_result : addf (mulf (all 0x3F7FBE77#32) v) (mulf (all 0x3A83126F#32) (mulf g g))
    = (fun i => square (g i) (v i) : FVec Ideal S1024x1024 .f32) := by
  funext i
  pointwise [step, mean, square]
end

/-- The kernel's results are the reference's, for all arguments. -/
theorem algebraic : Cert.algebraic_AdamWIdeal_AdamWRefIdeal := by
  intro m g m' g' _ hagree
  refine ⟨_, _, _, _, Cert.AdamWIdeal.Value.run_blocks m g,
    (θ_run Cert.AdamWRefIdeal.defs _ _).mono (fun r h c => ⟨(h c).1.trans ?_, (h c).2.1.trans ?_, (h c).2.2.1.trans ?_, (h c).2.2.2.1.trans ?_, (h c).2.2.2.2⟩)
      (Cert.AdamWRefIdeal.Value.run m' g')⟩
  · obtain ⟨e0, e1, e2, e3⟩ := hagree c
    rw [e0, e1, e2, e3, step_array m c]
    exact step_result _ _ _ _
  · obtain ⟨e0, e1, e2, e3⟩ := hagree c
    rw [e1, e2, mean_array m c]
    exact mean_result _ _
  · obtain ⟨e0, e1, e2, e3⟩ := hagree c
    rw [e1, e3, square_array m c]
    exact square_result _ _
  · obtain ⟨e0, e1, e2, e3⟩ := hagree c
    rw [e1, grad_array m c]
    rfl

end Cert.Proof.AdamW
end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.MixerBwd
public import proofs.«01_k».proof.Proof.Gen.MixerBwd.Skeleton
public import proofs.«01_k».proof.Proof.Gen.MixerBwd.Launch
public import proofs.«01_k».proof.Proof.Gen.MixerBwd.Points
public import proofs.«01_k».proof.Proof.Gen.MixerBwd.Frame
public import proofs.«01_k».proof.Proof.Gen.MixerBwdIdeal
public import proofs.«01_k».proof.Proof.Gen.MixerBwdIdeal.Skeleton
public import proofs.«01_k».proof.Proof.Gen.MixerBwdIdeal.Launch
public import proofs.«01_k».proof.Proof.Gen.MixerBwdIdeal.Points
public import proofs.«01_k».proof.Proof.Gen.MixerBwdIdeal.Frame
public import proofs.«01_k».proof.Proof.Gen.MixerFwd
public import proofs.«01_k».proof.Proof.Gen.MixerFwd.Skeleton
public import proofs.«01_k».proof.Proof.Gen.MixerFwd.Launch
public import proofs.«01_k».proof.Proof.Gen.MixerFwd.Points
public import proofs.«01_k».proof.Proof.Gen.MixerFwd.Frame
public import proofs.«01_k».proof.Proof.Gen.MixerFwdIdeal
public import proofs.«01_k».proof.Proof.Gen.MixerFwdIdeal.Skeleton
public import proofs.«01_k».proof.Proof.Gen.MixerFwdIdeal.Launch
public import proofs.«01_k».proof.Proof.Gen.MixerFwdIdeal.Points
public import proofs.«01_k».proof.Proof.Gen.MixerFwdIdeal.Frame
public import proofs.«01_k».proof.Proof.Gen.MixerFwdIdeal.Value
public import proofs.«01_k».proof.Proof.Gen.MixerFwdRefIdeal
public import proofs.«01_k».proof.Proof.Gen.MixerFwdRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnBwdUp
public import proofs.«01_k».proof.Proof.Gen.FfnBwdUp.Skeleton
public import proofs.«01_k».proof.Proof.Gen.FfnBwdUp.Launch
public import proofs.«01_k».proof.Proof.Gen.FfnBwdUp.Points
public import proofs.«01_k».proof.Proof.Gen.FfnBwdUp.Frame
public import proofs.«01_k».proof.Proof.Gen.FfnBwdUpIdeal
public import proofs.«01_k».proof.Proof.Gen.FfnBwdUpIdeal.Skeleton
public import proofs.«01_k».proof.Proof.Gen.FfnBwdUpIdeal.Launch
public import proofs.«01_k».proof.Proof.Gen.FfnBwdUpIdeal.Points
public import proofs.«01_k».proof.Proof.Gen.FfnBwdUpIdeal.Frame
public import proofs.«01_k».proof.Proof.Gen.FfnBwdUpIdeal.Value
public import proofs.«01_k».proof.Proof.Gen.FfnBwdUpRefIdeal
public import proofs.«01_k».proof.Proof.Gen.FfnBwdUpRefIdeal.Run
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.Pre_in_bwd_finite
public import proofs.«01_k».proof.Proof.Gen.Pre_tail_finite
public import proofs.«01_k».proof.Proof.Gen.Pre_ffn_in_finite
public import proofs.«01_k».proof.Proof.Gen.Pre_mixer_fwd_finite
public import proofs.«01_k».proof.Proof.InBwdClaims
public import proofs.«01_k».proof.Proof.TailClaims
public import proofs.«01_k».proof.Proof.DownClaims
public import proofs.«01_k».proof.Proof.FfnInClaims
public import proofs.«01_k».proof.Proof.MixClaims
public import proofs.«01_k».proof.Proof.MixFwdClaims
public import proofs.«01_k».proof.Proof.InProjClaims
public import proofs.«01_k».proof.Proof.OutProjClaims
public import proofs.«01_k».proof.Proof.FfnUpClaims
public import proofs.«01_k».proof.Proof.FfnOutClaims
public import proofs.«01_k».proof.Proof.FfnBwdUpClaims
public import proofs.«01_k».proof.Proof.AdamWClaims
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.InBwd.Gen.facts, Cert.InBwdIdeal.Gen.facts, Cert.InBwdRefIdeal.Gen.facts, Cert.Tail.Gen.facts, Cert.TailIdeal.Gen.facts, Cert.TailRefIdeal.Gen.facts, Cert.FfnDown.Gen.facts, Cert.FfnDownIdeal.Gen.facts, Cert.FfnDownRefIdeal.Gen.facts, Cert.FfnIn.Gen.facts, Cert.FfnInIdeal.Gen.facts, Cert.FfnInRefIdeal.Gen.facts, Cert.MixerFwd.Gen.facts, Cert.MixerFwdIdeal.Gen.facts, Cert.MixerFwdRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.FfnUp.Gen.facts, Cert.FfnUpIdeal.Gen.facts, Cert.FfnUpRefIdeal.Gen.facts, Cert.FfnOut.Gen.facts, Cert.FfnOutIdeal.Gen.facts, Cert.FfnOutRefIdeal.Gen.facts, Cert.FfnBwdUp.Gen.facts, Cert.FfnBwdUpIdeal.Gen.facts, Cert.FfnBwdUpRefIdeal.Gen.facts, Cert.AdamW.Gen.facts, Cert.AdamWIdeal.Gen.facts, Cert.AdamWRefIdeal.Gen.facts, Cert.MixerBwd.Gen.facts, Cert.MixerBwdIdeal.Gen.facts, Cert.Pre_in_bwd_finite.Gen.facts, Cert.Pre_tail_finite.Gen.facts, Cert.Pre_ffn_in_finite.Gen.facts, Cert.Pre_mixer_fwd_finite.Gen.facts,
  InBwd.frame,
  InBwd.frameIdeal,
  fun m ρ _ => InBwd.frameIdeal m ρ trivial,
  InBwd.frameRef,
  fun m ρ _ => InBwd.frameRef m ρ trivial,
  Tail.frame,
  Tail.frameIdeal,
  fun m ρ _ => Tail.frameIdeal m ρ trivial,
  Tail.frameRef,
  fun m ρ _ => Tail.frameRef m ρ trivial,
  FfnDown.frame,
  FfnDown.frameIdeal,
  FfnDown.frameRef,
  FfnIn.frame,
  FfnIn.frameIdeal,
  fun m ρ _ => FfnIn.frameIdeal m ρ trivial,
  FfnIn.frameRef,
  fun m ρ _ => FfnIn.frameRef m ρ trivial,
  MixerFwd.frame,
  MixerFwd.frameIdeal,
  fun m ρ _ => MixerFwd.frameIdeal m ρ trivial,
  MixerFwd.frameRef,
  fun m ρ _ => MixerFwd.frameRef m ρ trivial,
  InProj.frame,
  InProj.frameIdeal,
  InProj.frameRef,
  OutProj.frame,
  OutProj.frameIdeal,
  OutProj.frameRef,
  FfnUp.frame,
  FfnUp.frameIdeal,
  FfnUp.frameRef,
  FfnOut.frame,
  FfnOut.frameIdeal,
  FfnOut.frameRef,
  FfnBwdUp.frame,
  FfnBwdUp.frameIdeal,
  FfnBwdUp.frameRef,
  AdamW.frame,
  AdamW.frameIdeal,
  AdamW.frameRef,
  Mixer.frame,
  Mixer.frameIdeal,
  trivial,
  InBwd.algebraic,
  trivial,
  Tail.algebraic,
  trivial,
  FfnDown.algebraic,
  trivial,
  FfnIn.algebraic,
  MixerFwd.preserves,
  MixerFwd.algebraic,
  trivial,
  InProj.algebraic,
  trivial,
  OutProj.algebraic,
  trivial,
  FfnUp.algebraic,
  trivial,
  FfnOut.algebraic,
  trivial,
  FfnBwdUp.algebraic,
  trivial,
  AdamW.algebraic,
  trivial⟩

end Cert.Proof

end
